-- ==== Defs.lean ====
def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_RefUpIdeal (m : (ℓ : Loc Cert.RefUpIdeal.nD Cert.RefUpIdeal.τ Cert.RefUpIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_RefOprojIdeal (m : (ℓ : Loc Cert.RefOprojIdeal.nD Cert.RefOprojIdeal.τ Cert.RefOprojIdeal.sig) → Buf (Elt Ideal) ℓ) : Prop :=
  True

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_RefUpIdeal [hRefUpIdeal : Cert.RefUpIdeal.Facts] : Prop :=
  ∀ (m : (ℓ : Loc Cert.RefUpIdeal.nD Cert.RefUpIdeal.τ Cert.RefUpIdeal.sig) → Buf (Elt Ideal) ℓ) (g : Dev Cert.RefUpIdeal.nD → PrngReg), Pre_RefUpIdeal m →
    θ_run (Cert.RefUpIdeal.defs (F := Ideal)) (onTc (τ := Cert.RefUpIdeal.τ) (Cert.RefUpIdeal.main (F := Ideal))) ⟨m, fun _ => 0, g⟩ (fun r => (∀ c : Dev Cert.RefUpIdeal.nD,
      r.2.mem ((c.tc : Thread Cert.RefUpIdeal.nD Cert.RefUpIdeal.τ).loc Cert.RefUpIdeal.main_arg0) = m ((c.tc : Thread Cert.RefUpIdeal.nD Cert.RefUpIdeal.τ).loc Cert.RefUpIdeal.main_arg0)
      ∧ r.2.mem ((c.tc : Thread Cert.RefUpIdeal.nD Cert.RefUpIdeal.τ).loc Cert.RefUpIdeal.main_arg1) = m ((c.tc : Thread Cert.RefUpIdeal.nD Cert.RefUpIdeal.τ).loc Cert.RefUpIdeal.main_arg1)
      ∧ r.2.mem ((c.tc : Thread Cert.RefUpIdeal.nD Cert.RefUpIdeal.τ).loc Cert.RefUpIdeal.main_arg2) = m ((c.tc : Thread Cert.RefUpIdeal.nD Cert.RefUpIdeal.τ).loc Cert.RefUpIdeal.main_arg2)
      ∧ r.2.mem ((c.tc : Thread Cert.RefUpIdeal.nD Cert.RefUpIdeal.τ).loc Cert.RefUpIdeal.main_arg3) = m ((c.tc : Thread Cert.RefUpIdeal.nD Cert.RefUpIdeal.τ).loc Cert.RefUpIdeal.main_arg3))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ r.2.sem = fun _ => 0)

def quiescent_RefOprojIdeal [hRefOprojIdeal : Cert.RefOprojIdeal.Facts] : Prop :=
  ∀ (m : (ℓ : Loc Cert.RefOprojIdeal.nD Cert.RefOprojIdeal.τ Cert.RefOprojIdeal.sig) → Buf (Elt Ideal) ℓ) (g : Dev Cert.RefOprojIdeal.nD → PrngReg), Pre_RefOprojIdeal m →
    θ_run (Cert.RefOprojIdeal.defs (F := Ideal)) (onTc (τ := Cert.RefOprojIdeal.τ) (Cert.RefOprojIdeal.main (F := Ideal))) ⟨m, fun _ => 0, g⟩ (fun r => (∀ c : Dev Cert.RefOprojIdeal.nD,
      r.2.mem ((c.tc : Thread Cert.RefOprojIdeal.nD Cert.RefOprojIdeal.τ).loc Cert.RefOprojIdeal.main_arg0) = m ((c.tc : Thread Cert.RefOprojIdeal.nD Cert.RefOprojIdeal.τ).loc Cert.RefOprojIdeal.main_arg0)
      ∧ r.2.mem ((c.tc : Thread Cert.RefOprojIdeal.nD Cert.RefOprojIdeal.τ).loc Cert.RefOprojIdeal.main_arg1) = m ((c.tc : Thread Cert.RefOprojIdeal.nD Cert.RefOprojIdeal.τ).loc Cert.RefOprojIdeal.main_arg1)
      ∧ r.2.mem ((c.tc : Thread Cert.RefOprojIdeal.nD Cert.RefOprojIdeal.τ).loc Cert.RefOprojIdeal.main_arg2) = m ((c.tc : Thread Cert.RefOprojIdeal.nD Cert.RefOprojIdeal.τ).loc Cert.RefOprojIdeal.main_arg2)
      ∧ r.2.mem ((c.tc : Thread Cert.RefOprojIdeal.nD Cert.RefOprojIdeal.τ).loc Cert.RefOprojIdeal.main_arg3) = m ((c.tc : Thread Cert.RefOprojIdeal.nD Cert.RefOprojIdeal.τ).loc Cert.RefOprojIdeal.main_arg3)
      ∧ r.2.mem ((c.tc : Thread Cert.RefOprojIdeal.nD Cert.RefOprojIdeal.τ).loc Cert.RefOprojIdeal.main_arg4) = m ((c.tc : Thread Cert.RefOprojIdeal.nD Cert.RefOprojIdeal.τ).loc Cert.RefOprojIdeal.main_arg4)
      ∧ r.2.mem ((c.tc : Thread Cert.RefOprojIdeal.nD Cert.RefOprojIdeal.τ).loc Cert.RefOprojIdeal.main_arg5) = m ((c.tc : Thread Cert.RefOprojIdeal.nD Cert.RefOprojIdeal.τ).loc Cert.RefOprojIdeal.main_arg5))
      ∧ r.2.sem = fun _ => 0)

def preserves_Up_UpIdeal : Prop :=
  IdealRules.named_const.Statement Cert.UpIdeal.κ "inv_fp8_max" .f32 0x3B124925#32 ((1 / 448 : ℝ) : EReal)

def algebraic_UpIdeal_RefUpIdeal [hUpIdeal : Cert.UpIdeal.Facts] [hRefUpIdeal : Cert.RefUpIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.RefUpIdeal.nD Cert.RefUpIdeal.τ Cert.RefUpIdeal.sig) → Buf (Elt Ideal) ℓ) (g' : Dev Cert.RefUpIdeal.nD → PrngReg), Pre_UpIdeal m →
    (∀ c : Dev Cert.UpIdeal.nD,
      m' ((c.tc : Thread Cert.RefUpIdeal.nD Cert.RefUpIdeal.τ).loc Cert.RefUpIdeal.main_arg0) = m ((c.tc : Thread Cert.UpIdeal.nD Cert.UpIdeal.τ).loc Cert.UpIdeal.main_arg0)
      ∧ m' ((c.tc : Thread Cert.RefUpIdeal.nD Cert.RefUpIdeal.τ).loc Cert.RefUpIdeal.main_arg1) = m ((c.tc : Thread Cert.UpIdeal.nD Cert.UpIdeal.τ).loc Cert.UpIdeal.main_arg1)
      ∧ m' ((c.tc : Thread Cert.RefUpIdeal.nD Cert.RefUpIdeal.τ).loc Cert.RefUpIdeal.main_arg2) = m ((c.tc : Thread Cert.UpIdeal.nD Cert.UpIdeal.τ).loc Cert.UpIdeal.main_arg2)
      ∧ m' ((c.tc : Thread Cert.RefUpIdeal.nD Cert.RefUpIdeal.τ).loc Cert.RefUpIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v1_0)) (v1 : (c : Dev Cert.UpIdeal.nD) → Buf (Elt Ideal) ((c.tc : Thread Cert.UpIdeal.nD Cert.UpIdeal.τ).loc Cert.UpIdeal.main_v1_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1_0) = v0 c
          ∧ r.2.mem ((c.tc : Thread Cert.UpIdeal.nD Cert.UpIdeal.τ).loc Cert.UpIdeal.main_v1_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.RefUpIdeal.defs (F := Ideal)) (onTc (τ := Cert.RefUpIdeal.τ) (Cert.RefUpIdeal.main (F := Ideal))) ⟨m', fun _ => 0, g'⟩ (fun r => ∀ c : Dev Cert.RefUpIdeal.nD,
          r.2.mem ((c.tc : Thread Cert.RefUpIdeal.nD Cert.RefUpIdeal.τ).loc Cert.RefUpIdeal.main_v0_0) = v0 c
          ∧ r.2.mem ((c.tc : Thread Cert.RefUpIdeal.nD Cert.RefUpIdeal.τ).loc Cert.RefUpIdeal.main_v0_1) = v1 c
          ∧ r.2.mem ((c.tc : Thread Cert.RefUpIdeal.nD Cert.RefUpIdeal.τ).loc Cert.RefUpIdeal.main_arg0) = m' ((c.tc : Thread Cert.RefUpIdeal.nD Cert.RefUpIdeal.τ).loc Cert.RefUpIdeal.main_arg0)
          ∧ r.2.mem ((c.tc : Thread Cert.RefUpIdeal.nD Cert.RefUpIdeal.τ).loc Cert.RefUpIdeal.main_arg1) = m' ((c.tc : Thread Cert.RefUpIdeal.nD Cert.RefUpIdeal.τ).loc Cert.RefUpIdeal.main_arg1)
          ∧ r.2.mem ((c.tc : Thread Cert.RefUpIdeal.nD Cert.RefUpIdeal.τ).loc Cert.RefUpIdeal.main_arg2) = m' ((c.tc : Thread Cert.RefUpIdeal.nD Cert.RefUpIdeal.τ).loc Cert.RefUpIdeal.main_arg2)
          ∧ r.2.mem ((c.tc : Thread Cert.RefUpIdeal.nD Cert.RefUpIdeal.τ).loc Cert.RefUpIdeal.main_arg3) = m' ((c.tc : Thread Cert.RefUpIdeal.nD Cert.RefUpIdeal.τ).loc Cert.RefUpIdeal.main_arg3))

def preserves_Oproj_OprojIdeal : Prop :=
  IdealRules.named_const.Statement Cert.OprojIdeal.κ "inv_d" .f32 0x39924925#32 ((1 / 3584 : ℝ) : EReal)
  ∧ IdealRules.named_const.Statement Cert.OprojIdeal.κ "inv_fp8_max" .f32 0x3B124925#32 ((1 / 448 : ℝ) : EReal)

def algebraic_OprojIdeal_RefOprojIdeal [hOprojIdeal : Cert.OprojIdeal.Facts] [hRefOprojIdeal : Cert.RefOprojIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.RefOprojIdeal.nD Cert.RefOprojIdeal.τ Cert.RefOprojIdeal.sig) → Buf (Elt Ideal) ℓ) (g' : Dev Cert.RefOprojIdeal.nD → PrngReg), Pre_OprojIdeal m →
    (∀ c : Dev Cert.OprojIdeal.nD,
      m' ((c.tc : Thread Cert.RefOprojIdeal.nD Cert.RefOprojIdeal.τ).loc Cert.RefOprojIdeal.main_arg0) = m ((c.tc : Thread Cert.OprojIdeal.nD Cert.OprojIdeal.τ).loc Cert.OprojIdeal.main_arg0)
      ∧ m' ((c.tc : Thread Cert.RefOprojIdeal.nD Cert.RefOprojIdeal.τ).loc Cert.RefOprojIdeal.main_arg1) = m ((c.tc : Thread Cert.OprojIdeal.nD Cert.OprojIdeal.τ).loc Cert.OprojIdeal.main_arg1)
      ∧ m' ((c.tc : Thread Cert.RefOprojIdeal.nD Cert.RefOprojIdeal.τ).loc Cert.RefOprojIdeal.main_arg2) = m ((c.tc : Thread Cert.OprojIdeal.nD Cert.OprojIdeal.τ).loc Cert.OprojIdeal.main_arg2)
      ∧ m' ((c.tc : Thread Cert.RefOprojIdeal.nD Cert.RefOprojIdeal.τ).loc Cert.RefOprojIdeal.main_arg3) = m ((c.tc : Thread Cert.OprojIdeal.nD Cert.OprojIdeal.τ).loc Cert.OprojIdeal.main_arg3)
      ∧ m' ((c.tc : Thread Cert.RefOprojIdeal.nD Cert.RefOprojIdeal.τ).loc Cert.RefOprojIdeal.main_arg4) = m ((c.tc : Thread Cert.OprojIdeal.nD Cert.OprojIdeal.τ).loc Cert.OprojIdeal.main_arg4)
      ∧ m' ((c.tc : Thread Cert.RefOprojIdeal.nD Cert.RefOprojIdeal.τ).loc Cert.RefOprojIdeal.main_arg5) = m ((c.tc : Thread Cert.OprojIdeal.nD Cert.OprojIdeal.τ).loc Cert.OprojIdeal.main_arg5)) →
    ∃ (v0 : (c : Dev Cert.OprojIdeal.nD) → Buf (Elt Ideal) ((c.tc : Thread Cert.OprojIdeal.nD Cert.OprojIdeal.τ).loc Cert.OprojIdeal.main_v1_0)) (v1 : (c : Dev Cert.OprojIdeal.nD) → Buf (Elt Ideal) ((c.tc : Thread Cert.OprojIdeal.nD Cert.OprojIdeal.τ).loc Cert.OprojIdeal.main_v1_1)) (v2 : (c : Dev Cert.OprojIdeal.nD) → Buf (Elt Ideal) ((c.tc : Thread Cert.OprojIdeal.nD Cert.OprojIdeal.τ).loc Cert.OprojIdeal.main_v1_2)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v1_0) = v0 c
          ∧ r.2.mem ((c.tc : Thread Cert.OprojIdeal.nD Cert.OprojIdeal.τ).loc Cert.OprojIdeal.main_v1_1) = v1 c
          ∧ r.2.mem ((c.tc : Thread Cert.OprojIdeal.nD Cert.OprojIdeal.τ).loc Cert.OprojIdeal.main_v1_2) = v2 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ θ_run (Cert.RefOprojIdeal.defs (F := Ideal)) (onTc (τ := Cert.RefOprojIdeal.τ) (Cert.RefOprojIdeal.main (F := Ideal))) ⟨m', fun _ => 0, g'⟩ (fun r => ∀ c : Dev Cert.RefOprojIdeal.nD,
          r.2.mem ((c.tc : Thread Cert.RefOprojIdeal.nD Cert.RefOprojIdeal.τ).loc Cert.RefOprojIdeal.main_v0_0) = v0 c
          ∧ r.2.mem ((c.tc : Thread Cert.RefOprojIdeal.nD Cert.RefOprojIdeal.τ).loc Cert.RefOprojIdeal.main_v0_1) = v1 c
          ∧ r.2.mem ((c.tc : Thread Cert.RefOprojIdeal.nD Cert.RefOprojIdeal.τ).loc Cert.RefOprojIdeal.main_v0_2) = v2 c
          ∧ r.2.mem ((c.tc : Thread Cert.RefOprojIdeal.nD Cert.RefOprojIdeal.τ).loc Cert.RefOprojIdeal.main_arg0) = m' ((c.tc : Thread Cert.RefOprojIdeal.nD Cert.RefOprojIdeal.τ).loc Cert.RefOprojIdeal.main_arg0)
          ∧ r.2.mem ((c.tc : Thread Cert.RefOprojIdeal.nD Cert.RefOprojIdeal.τ).loc Cert.RefOprojIdeal.main_arg1) = m' ((c.tc : Thread Cert.RefOprojIdeal.nD Cert.RefOprojIdeal.τ).loc Cert.RefOprojIdeal.main_arg1)
          ∧ r.2.mem ((c.tc : Thread Cert.RefOprojIdeal.nD Cert.RefOprojIdeal.τ).loc Cert.RefOprojIdeal.main_arg2) = m' ((c.tc : Thread Cert.RefOprojIdeal.nD Cert.RefOprojIdeal.τ).loc Cert.RefOprojIdeal.main_arg2)
          ∧ r.2.mem ((c.tc : Thread Cert.RefOprojIdeal.nD Cert.RefOprojIdeal.τ).loc Cert.RefOprojIdeal.main_arg3) = m' ((c.tc : Thread Cert.RefOprojIdeal.nD Cert.RefOprojIdeal.τ).loc Cert.RefOprojIdeal.main_arg3)
          ∧ r.2.mem ((c.tc : Thread Cert.RefOprojIdeal.nD Cert.RefOprojIdeal.τ).loc Cert.RefOprojIdeal.main_arg4) = m' ((c.tc : Thread Cert.RefOprojIdeal.nD Cert.RefOprojIdeal.τ).loc Cert.RefOprojIdeal.main_arg4)
          ∧ r.2.mem ((c.tc : Thread Cert.RefOprojIdeal.nD Cert.RefOprojIdeal.τ).loc Cert.RefOprojIdeal.main_arg5) = m' ((c.tc : Thread Cert.RefOprojIdeal.nD Cert.RefOprojIdeal.τ).loc Cert.RefOprojIdeal.main_arg5))

def Claim : Prop :=
  ∃ (hUp : Cert.Up.Facts) (hUpIdeal : Cert.UpIdeal.Facts) (hRefUpIdeal : Cert.RefUpIdeal.Facts) (hOproj : Cert.Oproj.Facts) (hOprojIdeal : Cert.OprojIdeal.Facts) (hRefOprojIdeal : Cert.RefOprojIdeal.Facts),
    quiescent_Up (hUp := hUp)
    ∧ quiescent_UpIdeal (hUpIdeal := hUpIdeal)
    ∧ quiescent_RefUpIdeal (hRefUpIdeal := hRefUpIdeal)
    ∧ quiescent_Oproj (hOproj := hOproj)
    ∧ quiescent_OprojIdeal (hOprojIdeal := hOprojIdeal)
    ∧ quiescent_RefOprojIdeal (hRefOprojIdeal := hRefOprojIdeal)
    ∧ preserves_Up_UpIdeal
    ∧ algebraic_UpIdeal_RefUpIdeal (hUpIdeal := hUpIdeal) (hRefUpIdeal := hRefUpIdeal)
    ∧ preserves_Oproj_OprojIdeal
    ∧ algebraic_OprojIdeal_RefOprojIdeal (hOprojIdeal := hOprojIdeal) (hRefOprojIdeal := hRefOprojIdeal)
-- ==== Up.lean ====
abbrev S2048x3584 : Shape := ⟨2, ![2048, 3584]⟩
abbrev S2048x1 : Shape := ⟨2, ![2048, 1]⟩
abbrev S2x3584x9472 : Shape := ⟨3, ![2, 3584, 9472]⟩
abbrev S2x9472 : Shape := ⟨2, ![2, 9472]⟩
abbrev S2048x128 : Shape := ⟨2, ![2048, 128]⟩
abbrev S2048x4736 : Shape := ⟨2, ![2048, 4736]⟩
abbrev S8x2x128 : Shape := ⟨3, ![8, 2, 128]⟩
abbrev S1x3584x128 : Shape := ⟨3, ![1, 3584, 128]⟩
abbrev S2x128 : Shape := ⟨2, ![2, 128]⟩
abbrev S256x4736 : Shape := ⟨2, ![256, 4736]⟩
abbrev S1x2x128 : Shape := ⟨3, ![1, 2, 128]⟩
abbrev S256x128 : Shape := ⟨2, ![256, 128]⟩
abbrev S37x2048x128 : Shape := ⟨3, ![37, 2048, 128]⟩
abbrev S3584x128 : Shape := ⟨2, ![3584, 128]⟩
abbrev S3584x256 : Shape := ⟨2, ![3584, 256]⟩
abbrev S256x3584 : Shape := ⟨2, ![256, 3584]⟩
abbrev S256x256 : Shape := ⟨2, ![256, 256]⟩
abbrev S1x128 : Shape := ⟨2, ![1, 128]⟩
abbrev S1x256x128 : Shape := ⟨3, ![1, 256, 128]⟩
abbrev S256 : Shape := ⟨1, ![256]⟩
abbrev S256x1 : Shape := ⟨2, ![256, 1]⟩
abbrev S128x128 : Shape := ⟨2, ![128, 128]⟩
abbrev S1x1x128 : Shape := ⟨3, ![1, 1, 128]⟩

abbrev nBuf : Space → Nat
  | .hbm => 8
  | .vmem => 22
  | .smem => 0
  | _ => 0

abbrev bufTy : (tb : Table) → Fin (tcTables nBuf tb) → BufTy
  | .hbm, ⟨0, _⟩ => ⟨S2048x3584, .fp8e4m3⟩
  | .hbm, ⟨1, _⟩ => ⟨S2048x1, .f32⟩
  | .hbm, ⟨2, _⟩ => ⟨S2x3584x9472, .fp8e4m3⟩
  | .hbm, ⟨3, _⟩ => ⟨S2x9472, .f32⟩
  | .hbm, ⟨4, _⟩ => ⟨S2048x128, .f32⟩
  | .hbm, ⟨5, _⟩ => ⟨S2048x4736, .fp8e4m3⟩
  | .hbm, ⟨6, _⟩ => ⟨S8x2x128, .f32⟩
  | .hbm, ⟨7, _⟩ => ⟨S2048x128, .f32⟩
  | .local _ .vmem, ⟨0, _⟩ => ⟨S2048x3584, .fp8e4m3⟩
  | .local _ .vmem, ⟨1, _⟩ => ⟨S2048x128, .f32⟩
  | .local _ .vmem, ⟨2, _⟩ => ⟨S1x3584x128, .fp8e4m3⟩
  | .local _ .vmem, ⟨3, _⟩ => ⟨S1x3584x128, .fp8e4m3⟩
  | .local _ .vmem, ⟨4, _⟩ => ⟨S1x3584x128, .fp8e4m3⟩
  | .local _ .vmem, ⟨5, _⟩ => ⟨S1x3584x128, .fp8e4m3⟩
  | .local _ .vmem, ⟨6, _⟩ => ⟨S1x3584x128, .fp8e4m3⟩
  | .local _ .vmem, ⟨7, _⟩ => ⟨S1x3584x128, .fp8e4m3⟩
  | .local _ .vmem, ⟨8, _⟩ => ⟨S1x3584x128, .fp8e4m3⟩
  | .local _ .vmem, ⟨9, _⟩ => ⟨S1x3584x128, .fp8e4m3⟩
  | .local _ .vmem, ⟨10, _⟩ => ⟨S2x128, .f32⟩
  | .local _ .vmem, ⟨11, _⟩ => ⟨S2x128, .f32⟩
  | .local _ .vmem, ⟨12, _⟩ => ⟨S2x128, .f32⟩
  | .local _ .vmem, ⟨13, _⟩ => ⟨S2x128, .f32⟩
  | .local _ .vmem, ⟨14, _⟩ => ⟨S256x4736, .fp8e4m3⟩
  | .local _ .vmem, ⟨15, _⟩ => ⟨S256x4736, .fp8e4m3⟩
  | .local _ .vmem, ⟨16, _⟩ => ⟨S1x2x128, .f32⟩
  | .local _ .vmem, ⟨17, _⟩ => ⟨S1x2x128, .f32⟩
  | .local _ .vmem, ⟨18, _⟩ => ⟨S256x128, .f32⟩
  | .local _ .vmem, ⟨19, _⟩ => ⟨S256x128, .f32⟩
  | .local _ .vmem, ⟨20, _⟩ => ⟨S37x2048x128, .f32⟩
  | .local _ .vmem, ⟨21, _⟩ => ⟨S2048x128, .f32⟩
  | _, _ => ⟨S2048x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![45], ![false]⟩

def k0_cond2 (i : grid0.Coords) : BitVec 1 :=
  let arg0 : BitVec 32 := BitVec.ofNat 32 (i 0).val
  let c37_i32 : BitVec 32 := 37#32
  let v3 : BitVec 1 := Scalar.cmpi .slt arg0 c37_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let v31 : Index := Scalar.indexCast arg0
  let c0_17 : Index := 0#32
  let c0_18 : Index := 0#32
  ![v31.toNat, 0, 0]
def k0_off2 (i : grid0.Coords) : Fin 3 → Nat :=
  let arg0 : BitVec 32 := BitVec.ofNat 32 (i 0).val
  let v63 : Index := Scalar.indexCast arg0
  let c256_36 : Index := 256#32
  let c0_37 : Index := 0#32
  ![v63.toNat, 256, 0]
def k0_off3 (i : grid0.Coords) : Fin 3 → Nat :=
  let arg0 : BitVec 32 := BitVec.ofNat 32 (i 0).val
  let v90 : Index := Scalar.indexCast arg0
  let c512_50 : Index := 512#32
  let c0_51 : Index := 0#32
  ![v90.toNat, 512, 0]
def k0_off4 (i : grid0.Coords) : Fin 3 → Nat :=
  let arg0 : BitVec 32 := BitVec.ofNat 32 (i 0).val
  let v117 : Index := Scalar.indexCast arg0
  let c768_64 : Index := 768#32
  let c0_65 : Index := 0#32
  ![v117.toNat, 768, 0]
def k0_off5 (i : grid0.Coords) : Fin 3 → Nat :=
  let arg0 : BitVec 32 := BitVec.ofNat 32 (i 0).val
  let v144 : Index := Scalar.indexCast arg0
  let c1024_78 : Index := 1024#32
  let c0_79 : Index := 0#32
  ![v144.toNat, 1024, 0]
def k0_off6 (i : grid0.Coords) : Fin 3 → Nat :=
  let arg0 : BitVec 32 := BitVec.ofNat 32 (i 0).val
  let v171 : Index := Scalar.indexCast arg0
  let c1280_92 : Index := 1280#32
  let c0_93 : Index := 0#32
  ![v171.toNat, 1280, 0]
def k0_off7 (i : grid0.Coords) : Fin 3 → Nat :=
  let arg0 : BitVec 32 := BitVec.ofNat 32 (i 0).val
  let v198 : Index := Scalar.indexCast arg0
  let c1536_106 : Index := 1536#32
  let c0_107 : Index := 0#32
  ![v198.toNat, 1536, 0]
def k0_off8 (i : grid0.Coords) : Fin 3 → Nat :=
  let arg0 : BitVec 32 := BitVec.ofNat 32 (i 0).val
  let v225 : Index := Scalar.indexCast arg0
  let c1792_120 : Index := 1792#32
  let c0_121 : Index := 0#32
  ![v225.toNat, 1792, 0]
def k0_cond3 (i : grid0.Coords) : BitVec 1 :=
  let arg0 : BitVec 32 := BitVec.ofNat 32 (i 0).val
  let c37_i32_2 : BitVec 32 := 37#32
  let v6 : BitVec 1 := Scalar.cmpi .sge arg0 c37_i32_2
  let v7 : BitVec 32 := Scalar.extui v6
  let c0_i32_3 : BitVec 32 := 0#32
  let v8 : BitVec 1 := Scalar.cmpi .ne v7 c0_i32_3
  v8

def k0_mult1 (i : grid0.Coords) : BitVec 32 :=
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  v10
def k0_off9 (i : grid0.Coords) : Fin 2 → Nat :=
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v12 : Index := Scalar.indexCast v11
  let c0 : Index := 0#32
  ![v12.toNat, 0]
def k0_off10 (i : grid0.Coords) : Fin 3 → Nat :=
  let c0_20 : Index := 0#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v41 : Index := Scalar.indexCast v11
  let c0_21 : Index := 0#32
  ![0, v41.toNat, 0]
def k0_off11 (i : grid0.Coords) : Fin 3 → Nat :=
  let c1_26 : Index := 1#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v51 : Index := Scalar.indexCast v11
  let c0_27 : Index := 0#32
  ![1, v51.toNat, 0]
def k0_off12 (i : grid0.Coords) : Fin 3 → Nat :=
  let c2 : Index := 2#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v61 : Index := Scalar.indexCast v11
  let c0_32 : Index := 0#32
  ![2, v61.toNat, 0]
def k0_off13 (i : grid0.Coords) : Fin 3 → Nat :=
  let c3 : Index := 3#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v71 : Index := Scalar.indexCast v11
  let c0_36 : Index := 0#32
  ![3, v71.toNat, 0]
def k0_off14 (i : grid0.Coords) : Fin 3 → Nat :=
  let c4 : Index := 4#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v81 : Index := Scalar.indexCast v11
  let c0_40 : Index := 0#32
  ![4, v81.toNat, 0]
def k0_off15 (i : grid0.Coords) : Fin 3 → Nat :=
  let c5 : Index := 5#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v91 : Index := Scalar.indexCast v11
  let c0_44 : Index := 0#32
  ![5, v91.toNat, 0]
def k0_off16 (i : grid0.Coords) : Fin 3 → Nat :=
  let c6 : Index := 6#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v101 : Index := Scalar.indexCast v11
  let c0_48 : Index := 0#32
  ![6, v101.toNat, 0]
def k0_off17 (i : grid0.Coords) : Fin 3 → Nat :=
  let c7 : Index := 7#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v111 : Index := Scalar.indexCast v11
  let c0_52 : Index := 0#32
  ![7, v111.toNat, 0]
def k0_off18 (i : grid0.Coords) : Fin 3 → Nat :=
  let c8 : Index := 8#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v121 : Index := Scalar.indexCast v11
  let c0_56 : Index := 0#32
  ![8, v121.toNat, 0]
def k0_off19 (i : grid0.Coords) : Fin 3 → Nat :=
  let c9 : Index := 9#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v131 : Index := Scalar.indexCast v11
  let c0_60 : Index := 0#32
  ![9, v131.toNat, 0]
def k0_off20 (i : grid0.Coords) : Fin 3 → Nat :=
  let c10 : Index := 10#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v141 : Index := Scalar.indexCast v11
  let c0_64 : Index := 0#32
  ![10, v141.toNat, 0]
def k0_off21 (i : grid0.Coords) : Fin 3 → Nat :=
  let c11 : Index := 11#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v151 : Index := Scalar.indexCast v11
  let c0_68 : Index := 0#32
  ![11, v151.toNat, 0]
def k0_off22 (i : grid0.Coords) : Fin 3 → Nat :=
  let c12 : Index := 12#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v161 : Index := Scalar.indexCast v11
  let c0_72 : Index := 0#32
  ![12, v161.toNat, 0]
def k0_off23 (i : grid0.Coords) : Fin 3 → Nat :=
  let c13 : Index := 13#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v171 : Index := Scalar.indexCast v11
  let c0_76 : Index := 0#32
  ![13, v171.toNat, 0]
def k0_off24 (i : grid0.Coords) : Fin 3 → Nat :=
  let c14 : Index := 14#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v181 : Index := Scalar.indexCast v11
  let c0_80 : Index := 0#32
  ![14, v181.toNat, 0]
def k0_off25 (i : grid0.Coords) : Fin 3 → Nat :=
  let c15 : Index := 15#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v191 : Index := Scalar.indexCast v11
  let c0_84 : Index := 0#32
  ![15, v191.toNat, 0]
def k0_off26 (i : grid0.Coords) : Fin 3 → Nat :=
  let c16 : Index := 16#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v201 : Index := Scalar.indexCast v11
  let c0_88 : Index := 0#32
  ![16, v201.toNat, 0]
def k0_off27 (i : grid0.Coords) : Fin 3 → Nat :=
  let c17 : Index := 17#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v211 : Index := Scalar.indexCast v11
  let c0_92 : Index := 0#32
  ![17, v211.toNat, 0]
def k0_off28 (i : grid0.Coords) : Fin 3 → Nat :=
  let c18 : Index := 18#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v221 : Index := Scalar.indexCast v11
  let c0_96 : Index := 0#32
  ![18, v221.toNat, 0]
def k0_off29 (i : grid0.Coords) : Fin 3 → Nat :=
  let c19 : Index := 19#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v231 : Index := Scalar.indexCast v11
  let c0_100 : Index := 0#32
  ![19, v231.toNat, 0]
def k0_off30 (i : grid0.Coords) : Fin 3 → Nat :=
  let c20 : Index := 20#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v241 : Index := Scalar.indexCast v11
  let c0_104 : Index := 0#32
  ![20, v241.toNat, 0]
def k0_off31 (i : grid0.Coords) : Fin 3 → Nat :=
  let c21 : Index := 21#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v251 : Index := Scalar.indexCast v11
  let c0_108 : Index := 0#32
  ![21, v251.toNat, 0]
def k0_off32 (i : grid0.Coords) : Fin 3 → Nat :=
  let c22 : Index := 22#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v261 : Index := Scalar.indexCast v11
  let c0_112 : Index := 0#32
  ![22, v261.toNat, 0]
def k0_off33 (i : grid0.Coords) : Fin 3 → Nat :=
  let c23 : Index := 23#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v271 : Index := Scalar.indexCast v11
  let c0_116 : Index := 0#32
  ![23, v271.toNat, 0]
def k0_off34 (i : grid0.Coords) : Fin 3 → Nat :=
  let c24 : Index := 24#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v281 : Index := Scalar.indexCast v11
  let c0_120 : Index := 0#32
  ![24, v281.toNat, 0]
def k0_off35 (i : grid0.Coords) : Fin 3 → Nat :=
  let c25 : Index := 25#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v291 : Index := Scalar.indexCast v11
  let c0_124 : Index := 0#32
  ![25, v291.toNat, 0]
def k0_off36 (i : grid0.Coords) : Fin 3 → Nat :=
  let c26 : Index := 26#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v301 : Index := Scalar.indexCast v11
  let c0_128 : Index := 0#32
  ![26, v301.toNat, 0]
def k0_off37 (i : grid0.Coords) : Fin 3 → Nat :=
  let c27 : Index := 27#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v311 : Index := Scalar.indexCast v11
  let c0_132 : Index := 0#32
  ![27, v311.toNat, 0]
def k0_off38 (i : grid0.Coords) : Fin 3 → Nat :=
  let c28 : Index := 28#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v321 : Index := Scalar.indexCast v11
  let c0_136 : Index := 0#32
  ![28, v321.toNat, 0]
def k0_off39 (i : grid0.Coords) : Fin 3 → Nat :=
  let c29 : Index := 29#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v331 : Index := Scalar.indexCast v11
  let c0_140 : Index := 0#32
  ![29, v331.toNat, 0]
def k0_off40 (i : grid0.Coords) : Fin 3 → Nat :=
  let c30 : Index := 30#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v341 : Index := Scalar.indexCast v11
  let c0_144 : Index := 0#32
  ![30, v341.toNat, 0]
def k0_off41 (i : grid0.Coords) : Fin 3 → Nat :=
  let c31 : Index := 31#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v351 : Index := Scalar.indexCast v11
  let c0_148 : Index := 0#32
  ![31, v351.toNat, 0]
def k0_off42 (i : grid0.Coords) : Fin 3 → Nat :=
  let c32 : Index := 32#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v361 : Index := Scalar.indexCast v11
  let c0_152 : Index := 0#32
  ![32, v361.toNat, 0]
def k0_off43 (i : grid0.Coords) : Fin 3 → Nat :=
  let c33 : Index := 33#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v371 : Index := Scalar.indexCast v11
  let c0_156 : Index := 0#32
  ![33, v371.toNat, 0]
def k0_off44 (i : grid0.Coords) : Fin 3 → Nat :=
  let c34 : Index := 34#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v381 : Index := Scalar.indexCast v11
  let c0_160 : Index := 0#32
  ![34, v381.toNat, 0]
def k0_off45 (i : grid0.Coords) : Fin 3 → Nat :=
  let c35 : Index := 35#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v391 : Index := Scalar.indexCast v11
  let c0_164 : Index := 0#32
  ![35, v391.toNat, 0]
def k0_off46 (i : grid0.Coords) : Fin 3 → Nat :=
  let c36 : Index := 36#32
  let arg0 : BitVec 32 := BitVec.ofNat 32 (i 0).val
  let c37_i32_4 : BitVec 32 := 37#32
  let v9 : BitVec 32 := Scalar.subi arg0 c37_i32_4
  let c256_i32 : BitVec 32 := 256#32
  let v10 : BitVec 32 := Scalar.muli v9 c256_i32
  let v11 : BitVec 32 := v10
  let v401 : Index := Scalar.indexCast v11
  let c0_168 : Index := 0#32
  ![36, v401.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c36_i32 : BitVec 32 := 36#32
  let v0 : BitVec 32 := Scalar.minsi arg0 c36_i32
  let c0_i32 : BitVec 32 := 0#32
  let v1 : BitVec 32 := Scalar.addi c0_i32 v0
  let c0_i32_0 : BitVec 32 := 0#32
  let c0_i32_1 : BitVec 32 := 0#32
  let c0_i32_2 : BitVec 32 := 0#32
  ![c0_i32_0.toNat, c0_i32_1.toNat, v1.toNat]

def cc0_transform_3 (i : grid0.Coords) : Fin 3 → Nat :=
  let arg0 : BitVec 32 := BitVec.ofNat 32 (i 0).val
  let c36_i32 : BitVec 32 := 36#32
  let v0 : BitVec 32 := Scalar.minsi arg0 c36_i32
  let c37_i32 : BitVec 32 := 37#32
  let v1 : BitVec 32 := Scalar.addi c37_i32 v0
  let c0_i32 : BitVec 32 := 0#32
  let c0_i32_0 : BitVec 32 := 0#32
  let c0_i32_1 : BitVec 32 := 0#32
  ![c0_i32.toNat, c0_i32_0.toNat, v1.toNat]

def cc0_transform_4 (i : grid0.Coords) : Fin 3 → Nat :=
  let arg0 : BitVec 32 := BitVec.ofNat 32 (i 0).val
  let c36_i32 : BitVec 32 := 36#32
  let v0 : BitVec 32 := Scalar.minsi arg0 c36_i32
  let c0_i32 : BitVec 32 := 0#32
  let v1 : BitVec 32 := Scalar.addi c0_i32 v0
  let c1_i32 : BitVec 32 := 1#32
  let c0_i32_0 : BitVec 32 := 0#32
  let c0_i32_1 : BitVec 32 := 0#32
  ![c1_i32.toNat, c0_i32_0.toNat, v1.toNat]

def cc0_transform_5 (i : grid0.Coords) : Fin 3 → Nat :=
  let arg0 : BitVec 32 := BitVec.ofNat 32 (i 0).val
  let c36_i32 : BitVec 32 := 36#32
  let v0 : BitVec 32 := Scalar.minsi arg0 c36_i32
  let c37_i32 : BitVec 32 := 37#32
  let v1 : BitVec 32 := Scalar.addi c37_i32 v0
  let c1_i32 : BitVec 32 := 1#32
  let c0_i32 : BitVec 32 := 0#32
  let c0_i32_0 : BitVec 32 := 0#32
  ![c1_i32.toNat, c0_i32.toNat, v1.toNat]

def cc0_transform_6 (i : grid0.Coords) : Fin 2 → Nat :=
  let arg0 : BitVec 32 := BitVec.ofNat 32 (i 0).val
  let c36_i32 : BitVec 32 := 36#32
  let v0 : BitVec 32 := Scalar.minsi arg0 c36_i32
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let c36_i32 : BitVec 32 := 36#32
  let v0 : BitVec 32 := Scalar.minsi arg0 c36_i32
  let c37_i32 : BitVec 32 := 37#32
  let v1 : BitVec 32 := Scalar.addi c37_i32 v0
  let c0_i32 : BitVec 32 := 0#32
  let c0_i32_0 : BitVec 32 := 0#32
  ![c0_i32.toNat, v1.toNat]

def cc0_transform_8 (i : grid0.Coords) : Fin 2 → Nat :=
  let arg0 : BitVec 32 := BitVec.ofNat 32 (i 0).val
  let c37_i32 : BitVec 32 := 37#32
  let v0 : BitVec 32 := Scalar.subi arg0 c37_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 3 → Nat :=
  let arg0 : BitVec 32 := BitVec.ofNat 32 (i 0).val
  let c37_i32 : BitVec 32 := 37#32
  let v0 : BitVec 32 := Scalar.subi arg0 c37_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_10 (i : grid0.Coords) : Fin 2 → Nat :=
  let arg0 : BitVec 32 := BitVec.ofNat 32 (i 0).val
  let c37_i32 : BitVec 32 := 37#32
  let v0 : BitVec 32 := Scalar.subi arg0 c37_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S2048x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x3584x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3584x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3584x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x3584x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4736 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== UpIdeal.lean ====
variable {F : FTy → Type} [FloatOps F] [Named F]
def κ : String → Option EReal := fun
  | "inv_fp8_max" => some ((1 / 448 : ℝ) : EReal)
  | _ => none
-- ==== RefUpIdeal.lean ====
abbrev S2048x3584 : Shape := ⟨2, ![2048, 3584]⟩
abbrev S2048x1 : Shape := ⟨2, ![2048, 1]⟩
abbrev S2x3584x9472 : Shape := ⟨3, ![2, 3584, 9472]⟩
abbrev S2x9472 : Shape := ⟨2, ![2, 9472]⟩
abbrev S2048x4736 : Shape := ⟨2, ![2048, 4736]⟩
abbrev S8x2x128 : Shape := ⟨3, ![8, 2, 128]⟩
abbrev S256x3584 : Shape := ⟨2, ![256, 3584]⟩
abbrev S256x1 : Shape := ⟨2, ![256, 1]⟩
abbrev S1x3584x9472 : Shape := ⟨3, ![1, 3584, 9472]⟩
abbrev S3584x9472 : Shape := ⟨2, ![3584, 9472]⟩
abbrev S256x9472 : Shape := ⟨2, ![256, 9472]⟩
abbrev S1x9472 : Shape := ⟨2, ![1, 9472]⟩
abbrev S9472 : Shape := ⟨1, ![9472]⟩
abbrev S1792x3584 : Shape := ⟨2, ![1792, 3584]⟩
abbrev S1792x1 : Shape := ⟨2, ![1792, 1]⟩
abbrev S1792x9472 : Shape := ⟨2, ![1792, 9472]⟩
abbrev S2048x9472 : Shape := ⟨2, ![2048, 9472]⟩
abbrev S2048 : Shape := ⟨1, ![2048]⟩

abbrev nBuf : Space → Nat
  | .hbm => 6
  | .vmem => 6
  | .smem => 0
  | _ => 0

abbrev bufTy : (tb : Table) → Fin (tcTables nBuf tb) → BufTy
  | .hbm, ⟨0, _⟩ => ⟨S2048x3584, .fp8e4m3⟩
  | .hbm, ⟨1, _⟩ => ⟨S2048x1, .f32⟩
  | .hbm, ⟨2, _⟩ => ⟨S2x3584x9472, .fp8e4m3⟩
  | .hbm, ⟨3, _⟩ => ⟨S2x9472, .f32⟩
  | .hbm, ⟨4, _⟩ => ⟨S2048x4736, .fp8e4m3⟩
  | .hbm, ⟨5, _⟩ => ⟨S8x2x128, .f32⟩
  | .local _ .vmem, ⟨0, _⟩ => ⟨S2048x3584, .fp8e4m3⟩
  | .local _ .vmem, ⟨1, _⟩ => ⟨S2048x1, .f32⟩
  | .local _ .vmem, ⟨2, _⟩ => ⟨S2x3584x9472, .fp8e4m3⟩
  | .local _ .vmem, ⟨3, _⟩ => ⟨S2x9472, .f32⟩
  | .local _ .vmem, ⟨4, _⟩ => ⟨S2048x4736, .fp8e4m3⟩
  | .local _ .vmem, ⟨5, _⟩ => ⟨S8x2x128, .f32⟩
  | _, _ => ⟨S2048x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2048x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x3584x9472 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x9472 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x4736 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Oproj.lean ====
abbrev S2048x896 : Shape := ⟨2, ![2048, 896]⟩
abbrev S2048x1 : Shape := ⟨2, ![2048, 1]⟩
abbrev S2048x3584 : Shape := ⟨2, ![2048, 3584]⟩
abbrev S2x896x3584 : Shape := ⟨3, ![2, 896, 3584]⟩
abbrev S2x3584 : Shape := ⟨2, ![2, 3584]⟩
abbrev S2048x128 : Shape := ⟨2, ![2048, 128]⟩
abbrev S8x2x128 : Shape := ⟨3, ![8, 2, 128]⟩
abbrev S256x896 : Shape := ⟨2, ![256, 896]⟩
abbrev S256x128 : Shape := ⟨2, ![256, 128]⟩
abbrev S256x3584 : Shape := ⟨2, ![256, 3584]⟩
abbrev S1x896x3584 : Shape := ⟨3, ![1, 896, 3584]⟩
abbrev S1x2x128 : Shape := ⟨3, ![1, 2, 128]⟩
abbrev S256x1 : Shape := ⟨2, ![256, 1]⟩
abbrev S1x896x512 : Shape := ⟨3, ![1, 896, 512]⟩
abbrev S896x512 : Shape := ⟨2, ![896, 512]⟩
abbrev S256x512 : Shape := ⟨2, ![256, 512]⟩
abbrev S1x512 : Shape := ⟨2, ![1, 512]⟩
abbrev S32x128 : Shape := ⟨2, ![32, 128]⟩
abbrev S1x128 : Shape := ⟨2, ![1, 128]⟩
abbrev S32 : Shape := ⟨1, ![32]⟩
abbrev S32x1 : Shape := ⟨2, ![32, 1]⟩
abbrev S128x128 : Shape := ⟨2, ![128, 128]⟩
abbrev S1x1x128 : Shape := ⟨3, ![1, 1, 128]⟩

abbrev nBuf : Space → Nat
  | .hbm => 11
  | .vmem => 18
  | .smem => 0
  | _ => 0

abbrev bufTy : (tb : Table) → Fin (tcTables nBuf tb) → BufTy
  | .hbm, ⟨0, _⟩ => ⟨S2048x896, .fp8e4m3⟩
  | .hbm, ⟨1, _⟩ => ⟨S2048x1, .f32⟩
  | .hbm, ⟨2, _⟩ => ⟨S2048x3584, .bf16⟩
  | .hbm, ⟨3, _⟩ => ⟨S2x896x3584, .fp8e4m3⟩
  | .hbm, ⟨4, _⟩ => ⟨S2x3584, .f32⟩
  | .hbm, ⟨5, _⟩ => ⟨S2x3584, .f32⟩
  | .hbm, ⟨6, _⟩ => ⟨S2048x128, .f32⟩
  | .hbm, ⟨7, _⟩ => ⟨S2048x3584, .f32⟩
  | .hbm, ⟨8, _⟩ => ⟨S2048x3584, .fp8e4m3⟩
  | .hbm, ⟨9, _⟩ => ⟨S8x2x128, .f32⟩
  | .hbm, ⟨10, _⟩ => ⟨S2048x128, .f32⟩
  | .local _ .vmem, ⟨0, _⟩ => ⟨S256x896, .fp8e4m3⟩
  | .local _ .vmem, ⟨1, _⟩ => ⟨S256x896, .fp8e4m3⟩
  | .local _ .vmem, ⟨2, _⟩ => ⟨S256x128, .f32⟩
  | .local _ .vmem, ⟨3, _⟩ => ⟨S256x128, .f32⟩
  | .local _ .vmem, ⟨4, _⟩ => ⟨S256x3584, .bf16⟩
  | .local _ .vmem, ⟨5, _⟩ => ⟨S256x3584, .bf16⟩
  | .local _ .vmem, ⟨6, _⟩ => ⟨S1x896x3584, .fp8e4m3⟩
  | .local _ .vmem, ⟨7, _⟩ => ⟨S1x896x3584, .fp8e4m3⟩
  | .local _ .vmem, ⟨8, _⟩ => ⟨S2x3584, .f32⟩
  | .local _ .vmem, ⟨9, _⟩ => ⟨S2x3584, .f32⟩
  | .local _ .vmem, ⟨10, _⟩ => ⟨S256x3584, .f32⟩
  | .local _ .vmem, ⟨11, _⟩ => ⟨S256x3584, .f32⟩
  | .local _ .vmem, ⟨12, _⟩ => ⟨S256x3584, .fp8e4m3⟩
  | .local _ .vmem, ⟨13, _⟩ => ⟨S256x3584, .fp8e4m3⟩
  | .local _ .vmem, ⟨14, _⟩ => ⟨S1x2x128, .f32⟩
  | .local _ .vmem, ⟨15, _⟩ => ⟨S1x2x128, .f32⟩
  | .local _ .vmem, ⟨16, _⟩ => ⟨S256x128, .f32⟩
  | .local _ .vmem, ⟨17, _⟩ => ⟨S256x128, .f32⟩
  | _, _ => ⟨S2048x896, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x896 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x896x3584 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3584 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3584 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OprojIdeal.lean ====
variable {F : FTy → Type} [FloatOps F] [Named F]
def κ : String → Option EReal := fun
  | "inv_d" => some ((1 / 3584 : ℝ) : EReal)
  | "inv_fp8_max" => some ((1 / 448 : ℝ) : EReal)
  | _ => none
-- ==== RefOprojIdeal.lean ====
abbrev S2048x896 : Shape := ⟨2, ![2048, 896]⟩
abbrev S2048x1 : Shape := ⟨2, ![2048, 1]⟩
abbrev S2048x3584 : Shape := ⟨2, ![2048, 3584]⟩
abbrev S2x896x3584 : Shape := ⟨3, ![2, 896, 3584]⟩
abbrev S2x3584 : Shape := ⟨2, ![2, 3584]⟩
abbrev S8x2x128 : Shape := ⟨3, ![8, 2, 128]⟩
abbrev S256x896 : Shape := ⟨2, ![256, 896]⟩
abbrev S256x1 : Shape := ⟨2, ![256, 1]⟩
abbrev S1x896x3584 : Shape := ⟨3, ![1, 896, 3584]⟩
abbrev S896x3584 : Shape := ⟨2, ![896, 3584]⟩
abbrev S256x3584 : Shape := ⟨2, ![256, 3584]⟩
abbrev S1x3584 : Shape := ⟨2, ![1, 3584]⟩
abbrev S3584 : Shape := ⟨1, ![3584]⟩
abbrev S1792x896 : Shape := ⟨2, ![1792, 896]⟩
abbrev S1792x1 : Shape := ⟨2, ![1792, 1]⟩
abbrev S1792x3584 : Shape := ⟨2, ![1792, 3584]⟩
abbrev S2048 : Shape := ⟨1, ![2048]⟩
abbrev S1x2048 : Shape := ⟨2, ![1, 2048]⟩

abbrev nBuf : Space → Nat
  | .hbm => 9
  | .vmem => 9
  | .smem => 0
  | _ => 0

abbrev bufTy : (tb : Table) → Fin (tcTables nBuf tb) → BufTy
  | .hbm, ⟨0, _⟩ => ⟨S2048x896, .fp8e4m3⟩
  | .hbm, ⟨1, _⟩ => ⟨S2048x1, .f32⟩
  | .hbm, ⟨2, _⟩ => ⟨S2048x3584, .bf16⟩
  | .hbm, ⟨3, _⟩ => ⟨S2x896x3584, .fp8e4m3⟩
  | .hbm, ⟨4, _⟩ => ⟨S2x3584, .f32⟩
  | .hbm, ⟨5, _⟩ => ⟨S2x3584, .f32⟩
  | .hbm, ⟨6, _⟩ => ⟨S2048x3584, .f32⟩
  | .hbm, ⟨7, _⟩ => ⟨S2048x3584, .fp8e4m3⟩
  | .hbm, ⟨8, _⟩ => ⟨S8x2x128, .f32⟩
  | .local _ .vmem, ⟨0, _⟩ => ⟨S2048x896, .fp8e4m3⟩
  | .local _ .vmem, ⟨1, _⟩ => ⟨S2048x1, .f32⟩
  | .local _ .vmem, ⟨2, _⟩ => ⟨S2048x3584, .bf16⟩
  | .local _ .vmem, ⟨3, _⟩ => ⟨S2x896x3584, .fp8e4m3⟩
  | .local _ .vmem, ⟨4, _⟩ => ⟨S2x3584, .f32⟩
  | .local _ .vmem, ⟨5, _⟩ => ⟨S2x3584, .f32⟩
  | .local _ .vmem, ⟨6, _⟩ => ⟨S2048x3584, .f32⟩
  | .local _ .vmem, ⟨7, _⟩ => ⟨S2048x3584, .fp8e4m3⟩
  | .local _ .vmem, ⟨8, _⟩ => ⟨S8x2x128, .f32⟩
  | _, _ => ⟨S2048x896, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2048x896 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x896x3584 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x3584 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x3584 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.UpBits.Runs.lean ====
/- The three ways through the body of the `ffn_up` kernel over bit patterns: the conditions of its branches, and what each way loads and stores. -/
module

public import proofs.«01_k».proof.Proof.Gen.Up.Launch
public import proofs.«01_k».proof.Proof.Gen.Up.Skeleton
public import proofs.«01_k».proof.Proof.Gen.Up.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Up.Hand

open Cert.Up.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Up`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      (Pipeline.RDat.FramePost.arr_in h c 5 rfl).trans ((hA c 5).trans (V_main_arg2 m c)),
      (Pipeline.RDat.FramePost.arr_in h c 7 rfl).trans ((hA c 7).trans (V_main_arg3 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 45 = 0 :=
  (fun t => by
    have ht : t.val < 45 := Nat.lt_of_lt_of_eq t.isLt N_0
    have e0 : (grid0.coords t 0).val = t.val / 1 % 45 := Pipeline.Grid.coords_val t 0 (by decide) rfl
    simp only [cond0_0, e0]
    word_cmp
   : ∀ t : Fin grid0.N, cond0_0 (grid0.coords t) ↔ t.val % 45 = 0)

/-- The condition of the body's `scf.if` 1 (`k0_h2`), from the grid coordinates (the skeleton's scalar
    chain substituted). -/
abbrev cond0_1 (i : grid0.Coords) : Prop := k0_cond2 i = 1#1
/-- It holds at the points before point 37 — decided over the grid. -/
theorem hcond0_1 : ∀ t : Fin cfg0.N, cond0_1 (grid0.coords t) ↔ t.val < 37 :=
  (by decide +kernel : ∀ t : Fin grid0.N, cond0_1 (grid0.coords t) ↔ t.val < 37)

/-- The condition of the body's `scf.if` 2 (`k0_h3`), from the grid coordinates (the skeleton's scalar
    chain substituted). -/
abbrev cond0_2 (i : grid0.Coords) : Prop := k0_cond3 i = 1#1
/-- It holds at the points from point 37 on — decided over the grid. -/
theorem hcond0_2 : ∀ t : Fin cfg0.N, cond0_2 (grid0.coords t) ↔ 37 ≤ t.val :=
  (by decide +kernel : ∀ t : Fin grid0.N, cond0_2 (grid0.coords t) ↔ 37 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S2048x3584 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3584x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3584x128 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3584x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x3584x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x4736 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x128 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S37x2048x128 .f32 := Memref.whole cc0_scratch0
abbrev scM0_1 : Memref sig .tc .vmem S2048x128 .f32 := Memref.whole cc0_scratch1
/-- The scratch `arg13` the kernel carries between points, as a view: what it holds is stated through it. -/
abbrev VS0_1 : View sig .tc .vmem S2048x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Up.Hand

end
-- ==== Proof.UpBits.RunA.lean ====
/- The first grid point of the `ffn_up` kernel over bit patterns, run. -/
module

public import proofs.«01_k».proof.Proof.UpBits.Runs

@[expose] public section

-- membership in a rectangle of production extents (`View.cover_of_tiled`): the elaborator's structural look
-- recurses once per coordinate of the long axes
set_option maxRecDepth 16384

noncomputable section

namespace Cert.Up.Hand

open Cert.Up.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (8, 9, 10) at anything, handed back at some contents nothing names. -/
noncomputable def kernelRun0_A (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : cond0_0 i) (hc1 : cond0_1 i) (hc2 : ¬cond0_2 i)
    (x0 : Vec F S2048x3584 .fp8e4m3) (x1 : Vec F S2048x128 .f32) (x2 : Vec F S1x3584x128 .fp8e4m3) (x3 : Vec F S1x3584x128 .fp8e4m3) (x4 : Vec F S1x3584x128 .fp8e4m3) (x5 : Vec F S1x3584x128 .fp8e4m3) (x6 : Vec F S2x128 .f32) (x7 : Vec F S2x128 .f32) :
    { LS1 : List (View.Piece (Elt F) S2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LS1)) -∗ K ⟨⟩))
          ⊢ wp frame (wpE (defs₀ (F := F)) Variants.none c none) E (cc0_ffn_up i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_ffn_up_eq_skeleton]; unfold cc0_ffn_up_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    iexists _; iexact HS1

end Cert.Up.Hand

end
-- ==== Proof.UpBits.RunB.lean ====
/- A later activating grid point of the `ffn_up` kernel over bit patterns, run. -/
module

public import proofs.«01_k».proof.Proof.UpBits.RunA

@[expose] public section

-- membership in a rectangle of production extents (`View.cover_of_tiled`): the elaborator's structural look
-- recurses once per coordinate of the long axes
set_option maxRecDepth 16384

noncomputable section

namespace Cert.Up.Hand

open Cert.Up.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 36: 36 of 45), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (8, 9, 10) at anything, handed back at some contents nothing names. -/
noncomputable def kernelRun0_B (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : ¬cond0_0 i) (hc1 : cond0_1 i) (hc2 : ¬cond0_2 i)
    (x0 : Vec F S2048x3584 .fp8e4m3) (x1 : Vec F S2048x128 .f32) (x2 : Vec F S1x3584x128 .fp8e4m3) (x3 : Vec F S1x3584x128 .fp8e4m3) (x4 : Vec F S1x3584x128 .fp8e4m3) (x5 : Vec F S1x3584x128 .fp8e4m3) (x6 : Vec F S2x128 .f32) (x7 : Vec F S2x128 .f32) (xs1 : Vec F S2048x128 .f32) :
    { LS1 : List (View.Piece (Elt F) S2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LS1)) -∗ K ⟨⟩))
          ⊢ wp frame (wpE (defs₀ (F := F)) Variants.none c none) E (cc0_ffn_up i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_ffn_up_eq_skeleton]; unfold cc0_ffn_up_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg13.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    iexists _; iexact HS1

end Cert.Up.Hand

end
-- ==== Proof.UpBits.RunC.lean ====
/- A quantising grid point of the `ffn_up` kernel over bit patterns, run. -/
module

public import proofs.«01_k».proof.Proof.UpBits.RunB

@[expose] public section

-- membership in a rectangle of production extents (`View.cover_of_tiled`): the elaborator's structural look
-- recurses once per coordinate of the long axes
set_option maxRecDepth 16384

noncomputable section

namespace Cert.Up.Hand

open Cert.Up.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken: points 37, 38, … 44: 8 of 45), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (8, 9, 10) at anything, handed back at some contents nothing names. -/
noncomputable def kernelRun0_C (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : ¬cond0_0 i) (hc1 : ¬cond0_1 i) (hc2 : cond0_2 i)
    (x0 : Vec F S2048x3584 .fp8e4m3) (x1 : Vec F S2048x128 .f32) (x2 : Vec F S1x3584x128 .fp8e4m3) (x3 : Vec F S1x3584x128 .fp8e4m3) (x4 : Vec F S1x3584x128 .fp8e4m3) (x5 : Vec F S1x3584x128 .fp8e4m3) (x6 : Vec F S2x128 .f32) (x7 : Vec F S2x128 .f32) (xs1 : Vec F S2048x128 .f32) :
    { LS1 : List (View.Piece (Elt F) S2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs1) -∗ K ⟨⟩))
          ⊢ wp frame (wpE (defs₀ (F := F)) Variants.none c none) E (cc0_ffn_up i arg1 harg1 arg2 harg2 arg3 harg3 arg4 harg4 arg5 harg5 arg6 harg6 arg7 harg7 arg8 harg8 arg9 harg9 arg10 harg10 arg11 harg11 arg12 harg12 arg13 harg13) K } := by
  refine ⟨[], fun E K => ?run⟩
  case run =>
    simp only [cc0_ffn_up_eq_skeleton]; unfold cc0_ffn_up_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg13.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    iexists _; isplitr; · ipureintro; exact harg13.read_unread _
    iexact HS1

end Cert.Up.Hand

end
-- ==== Proof.UpBits.Frame.lean ====
/- The frame of the `ffn_up` kernel over bit patterns: every execution ends, the arguments are unchanged, every counter ends at zero. Nothing is said of what its results hold. -/
module

public import proofs.«01_k».proof.Proof.UpBits.RunC
public import Idealize.ShloMosaic.Lib.Claim

@[expose] public section

-- membership in a rectangle of production extents (`View.cover_of_tiled`): the elaborator's structural look
-- recurses once per coordinate of the long axes
set_option maxRecDepth 16384

noncomputable section

namespace Cert.Up.Hand

open Cert.Up.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg13`, which the kernel carries between points, cover it: one of them a store of the WHOLE buffer (Lib/Ring.lean `sl_whole_mem`). -/
theorem scover0_A_1 (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : cond0_0 i) (hc1 : cond0_1 i) (hc2 : ¬cond0_2 i)
    (x0 : Vec F S2048x3584 .fp8e4m3) (x1 : Vec F S2048x128 .f32) (x2 : Vec F S1x3584x128 .fp8e4m3) (x3 : Vec F S1x3584x128 .fp8e4m3) (x4 : Vec F S1x3584x128 .fp8e4m3) (x5 : Vec F S1x3584x128 .fp8e4m3) (x6 : Vec F S2x128 .f32) (x7 : Vec F S2x128 .f32) (y : S2048x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1 (by sl_whole_mem) y

/-- What case A leaves in scratch `arg13`: its pieces read back over junk. -/
def sout0_A_1 (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : cond0_0 i) (hc1 : cond0_1 i) (hc2 : ¬cond0_2 i)
    (x0 : Vec F S2048x3584 .fp8e4m3) (x1 : Vec F S2048x128 .f32) (x2 : Vec F S1x3584x128 .fp8e4m3) (x3 : Vec F S1x3584x128 .fp8e4m3) (x4 : Vec F S1x3584x128 .fp8e4m3) (x5 : Vec F S1x3584x128 .fp8e4m3) (x6 : Vec F S2x128 .f32) (x7 : Vec F S2x128 .f32) : Vec F S2048x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1)

/-- Case B's pieces for scratch `arg13`, which the kernel carries between points, cover it: 8 pieces of `S256x128` tiling it (Lib/Ring.lean `Piece.tiledL`). -/
theorem scover0_B_1 (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : ¬cond0_0 i) (hc1 : cond0_1 i) (hc2 : ¬cond0_2 i)
    (x0 : Vec F S2048x3584 .fp8e4m3) (x1 : Vec F S2048x128 .f32) (x2 : Vec F S1x3584x128 .fp8e4m3) (x3 : Vec F S1x3584x128 .fp8e4m3) (x4 : Vec F S1x3584x128 .fp8e4m3) (x5 : Vec F S1x3584x128 .fp8e4m3) (x6 : Vec F S2x128 .f32) (x7 : Vec F S2x128 .f32) (xs1 : Vec F S2048x128 .f32) (y : S2048x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs1).1 S256x128.size (by sl_kernel_rfl) y

/-- What case B leaves in scratch `arg13`: its pieces read back over junk. -/
def sout0_B_1 (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : ¬cond0_0 i) (hc1 : cond0_1 i) (hc2 : ¬cond0_2 i)
    (x0 : Vec F S2048x3584 .fp8e4m3) (x1 : Vec F S2048x128 .f32) (x2 : Vec F S1x3584x128 .fp8e4m3) (x3 : Vec F S1x3584x128 .fp8e4m3) (x4 : Vec F S1x3584x128 .fp8e4m3) (x5 : Vec F S1x3584x128 .fp8e4m3) (x6 : Vec F S2x128 .f32) (x7 : Vec F S2x128 .f32) (xs1 : Vec F S2048x128 .f32) : Vec F S2048x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs1).1)

/-- Case C stores nothing into scratch `arg13`: it holds what the point before left. -/
def sout0_C_1 (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : ¬cond0_0 i) (hc1 : ¬cond0_1 i) (hc2 : cond0_2 i)
    (x0 : Vec F S2048x3584 .fp8e4m3) (x1 : Vec F S2048x128 .f32) (x2 : Vec F S1x3584x128 .fp8e4m3) (x3 : Vec F S1x3584x128 .fp8e4m3) (x4 : Vec F S1x3584x128 .fp8e4m3) (x5 : Vec F S1x3584x128 .fp8e4m3) (x6 : Vec F S2x128 .f32) (x7 : Vec F S2x128 .f32) (xs1 : Vec F S2048x128 .f32) : Vec F S2048x128 .f32 := xs1

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S2048x128 .f32
  | 0, hn => sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn =>
    if h0 : (n + 1) % 45 = 0 then
      if h1 : (n + 1) < 37 then
        if h2 : 37 ≤ (n + 1) then
          False.elim (by have hN : n + 1 < 45 := lt_of_lt_of_eq hn (show cfg0.N = 45 from N_0); omega)
        else
          sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
      else
        False.elim (by have hN : n + 1 < 45 := lt_of_lt_of_eq hn (show cfg0.N = 45 from N_0); omega)
    else
      if h1 : (n + 1) < 37 then
        if h2 : 37 ≤ (n + 1) then
          False.elim (by have hN : n + 1 < 45 := lt_of_lt_of_eq hn (show cfg0.N = 45 from N_0); omega)
        else
          sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn))
      else
        if h2 : 37 ≤ (n + 1) then
          sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn))
        else
          False.elim (by have hN : n + 1 < 45 := lt_of_lt_of_eq hn (show cfg0.N = 45 from N_0); omega)

/-- `outsAt0` at a point of case A: that case's contents. -/
theorem outsAt0_A (c : Dev nD) (t : Fin cfg0.N) (h0 : t.val % 45 = 0) (h1 : t.val < 37) (h2 : ¬37 ≤ t.val) :
    outsAt0 m c t.val t.isLt = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 45 = 0) (h1 : t.val < 37) (h2 : ¬37 ≤ t.val) :
    outsAt0 m c t.val t.isLt = sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 45 = 0) (h1 : ¬t.val < 37) (h2 : 37 ≤ t.val) :
    outsAt0 m c t.val t.isLt = sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn))) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn))) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)))) ∗ (∃ r, prngReg c r)) := by
  cases n with
  | zero => exact absurd rfl hz
  | succ n => rfl

/-! ## The pipeline's proof data -/

/-- The output windows this certificate FORGETS (8, 9, 10): nothing reads what the kernel leaves in them, so nothing
    of it is named (Lib/Pipeline/Dat.lean `Dat.toRForget`). -/
def forgets0 : Fin 11 → Bool := fun w => w.val == 8 || w.val == 9 || w.val == 10

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 45 := lt_of_lt_of_eq t.isLt (show cfg0.N = 45 from N_0)
  by_cases h0 : t.val % 45 = 0
  · by_cases h1 : t.val < 37
    · by_cases h2 : 37 ≤ t.val
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        by_cases hz : t.val = 0
        · rw [PhiS_castSucc m c t, PhiS_zero m c _ _ hz, PhiA0_eq]
          rw [outsAt0_A m c t h0 h1 h2]
          unfold sout0_A_1
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_A c (grid0.coords t) _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t)).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [HS0]; · iexact HS0
          isplitl [HS1]; · iexact HS1
          iintro ⟨H0, H1, H2, H3, H4, H5, H6, H7, H8, H9, H10, HS0, ⟨%es1, HS1⟩⟩
          isplitl [HS0 HS1 Hg]
          · isplitl [HS0 HS1]
            · isplitl [HS0]
              · iexact HS0
              unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexact H10
        · exfalso; have hN : t.val < 45 := lt_of_lt_of_eq t.isLt (show cfg0.N = 45 from N_0); omega
    · exfalso; omega
  · by_cases h1 : t.val < 37
    · by_cases h2 : 37 ≤ t.val
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        by_cases hz : t.val = 0
        · exfalso; have hN : t.val < 45 := lt_of_lt_of_eq t.isLt (show cfg0.N = 45 from N_0); omega
        · rw [PhiS_castSucc m c t, PhiS_pos m c _ _ hz]
          rw [outsAt0_B m c t h0 h1 h2]
          unfold sout0_B_1
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_B c (grid0.coords t) _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) _).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [HS0]; · iexact HS0
          isplitl [HS1]; · iexact HS1
          iintro ⟨H0, H1, H2, H3, H4, H5, H6, H7, H8, H9, H10, HS0, ⟨%es1, HS1⟩⟩
          isplitl [HS0 HS1 Hg]
          · isplitl [HS0 HS1]
            · isplitl [HS0]
              · iexact HS0
              unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexact H10
    · by_cases h2 : 37 ≤ t.val
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        by_cases hz : t.val = 0
        · exfalso; have hN : t.val < 45 := lt_of_lt_of_eq t.isLt (show cfg0.N = 45 from N_0); omega
        · rw [PhiS_castSucc m c t, PhiS_pos m c _ _ hz]
          rw [outsAt0_C m c t h0 h1 h2]
          unfold sout0_C_1
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_C c (grid0.coords t) _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) _).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [HS0]; · iexact HS0
          isplitl [HS1]; · iexact HS1
          iintro ⟨H0, H1, H2, H3, H4, H5, H6, H7, H8, H9, H10, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexact H10
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 45 := N_0; omega)

/-! ## The run and the frame -/

-- `θ_run_frame_track_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: `Cert.quiescent_Up`'s statement (Defs.lean) at any `F` — Proof.lean cites it at `Bits`:
    `theorem Cert.Proof.claim : Cert.Claim := ⟨Cert.Up.Gen.facts, fun m ρ _ => Cert.Up.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Up.Hand

end
-- ==== Proof.Up.Runs.lean ====
/- What the three runs of the ideal `ffn_up` body share: its branch conditions in closed form over the grid points,
   where its windows are idle, its staging and scratch memrefs. -/
module

public import proofs.«01_k».proof.Proof.Gen.UpIdeal.Skeleton
public import proofs.«01_k».proof.Proof.Gen.UpIdeal.Frame

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the printed scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 45 = 0 :=
  (fun t => by
    have ht : t.val < 45 := Nat.lt_of_lt_of_eq t.isLt N_0
    have e0 : (grid0.coords t 0).val = t.val / 1 % 45 := Pipeline.Grid.coords_val t 0 (by decide) rfl
    simp only [cond0_0, e0]
    word_cmp
   : ∀ t : Fin grid0.N, cond0_0 (grid0.coords t) ↔ t.val % 45 = 0)

/-- The condition of the body's `scf.if` 1 (`k0_h2`), from the grid coordinates (the printed scalar
    chain substituted). -/
abbrev cond0_1 (i : grid0.Coords) : Prop := k0_cond2 i = 1#1
/-- It holds at the points before point 37 — decided over the grid. -/
theorem hcond0_1 : ∀ t : Fin cfg0.N, cond0_1 (grid0.coords t) ↔ t.val < 37 :=
  (by decide +kernel : ∀ t : Fin grid0.N, cond0_1 (grid0.coords t) ↔ t.val < 37)

/-- The condition of the body's `scf.if` 2 (`k0_h3`), from the grid coordinates (the printed scalar
    chain substituted). -/
abbrev cond0_2 (i : grid0.Coords) : Prop := k0_cond3 i = 1#1
/-- It holds at the points from point 37 on — decided over the grid. -/
theorem hcond0_2 : ∀ t : Fin cfg0.N, cond0_2 (grid0.coords t) ↔ 37 ≤ t.val :=
  (by decide +kernel : ∀ t : Fin grid0.N, cond0_2 (grid0.coords t) ↔ 37 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S2048x3584 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3584x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3584x128 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3584x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x3584x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x4736 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x128 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S37x2048x128 .f32 := Memref.whole cc0_scratch0
abbrev scM0_1 : Memref sig .tc .vmem S2048x128 .f32 := Memref.whole cc0_scratch1
/-- The scratch `arg13` the kernel carries between points, as a view: what it holds is stated through it. -/
abbrev VS0_1 : View sig .tc .vmem S2048x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.UpIdeal.Hand

end
-- ==== Proof.Up.Act.lean ====
/- What one block of rows and lanes of the ideal `ffn_up` kernel computes: the activation of a row and a lane from the
   row's codes, the lane's two weight columns and the scales. -/
module

public import proofs.«01_k».proof.Proof.Gen.UpIdeal.Skeleton
public import Idealize.ShloMosaic.Lib.Pointwise
public import Idealize.ShloMosaic.Lib.WholeRead

@[expose] public section

set_option maxRecDepth 16384

noncomputable section

namespace Cert.UpIdeal.Hand

open Cert.UpIdeal Cert.UpIdeal.Gen
open Idealize.ShloMosaic

/-- The activation from the two dot products, the row's scale and the two channel scales: `silu(gate) * up`. -/
def actOf (dg du s g u : EReal) : EReal :=
  (dg * s * g) * Ideal.logistic (dg * s * g) * (du * s * u)

/-- One block's activations, element by element. -/
theorem pay6_apply (wg wu : Vec Ideal S1x3584x128 .fp8e4m3) (x : Vec Ideal S256x3584 .fp8e4m3) (s : Vec Ideal S256x128 .f32)
    (g u : Vec Ideal S1x128 .f32) (r : Fin 256) (l : Fin 128) :
    k0_pay6 wg wu x s g u (ix2 r l)
      = actOf (∑ k : Fin 3584, x (ix2 r k) * wg (ix3 0 k l)) (∑ k : Fin 3584, x (ix2 r k) * wu (ix3 0 k l)) (s (ix2 r l)) (g (ix2 0 l)) (u (ix2 0 l)) := by
  pointwise [k0_pay6, actOf]

/-- The activation at a row and a lane of a point's blocks: rows below 256 use the first pair of weight blocks and the
    first row of scales, the others the second. -/
def ActB (x0 : Vec Ideal S2048x3584 .fp8e4m3) (x1 : Vec Ideal S2048x128 .f32) (x2 x3 x4 x5 : Vec Ideal S1x3584x128 .fp8e4m3)
    (x6 x7 : Vec Ideal S2x128 .f32) (r : Fin 2048) (l : Fin 128) : EReal :=
  if r.val < 256 then
    actOf (∑ k : Fin 3584, x0 (ix2 r k) * x2 (ix3 0 k l)) (∑ k : Fin 3584, x0 (ix2 r k) * x3 (ix3 0 k l)) (x1 (ix2 r l)) (x6 (ix2 0 l)) (x7 (ix2 0 l))
  else
    actOf (∑ k : Fin 3584, x0 (ix2 r k) * x4 (ix3 0 k l)) (∑ k : Fin 3584, x0 (ix2 r k) * x5 (ix3 0 k l)) (x1 (ix2 r l)) (x6 (ix2 1 l)) (x7 (ix2 1 l))

/-- The first stored payload is the activation with a leading axis of length one. -/
theorem pay7_apply (wg wu : Vec Ideal S1x3584x128 .fp8e4m3) (x : Vec Ideal S256x3584 .fp8e4m3) (s : Vec Ideal S256x128 .f32)
    (g u : Vec Ideal S1x128 .f32) (a : Fin 1) (r : Fin 256) (l : Fin 128) :
    k0_pay7 wg wu x s g u (ix3 a r l) = k0_pay6 wg wu x s g u (ix2 r l) := by
  pointwise [k0_pay7]

/-- The running maximum's payload is the larger of the old entry and the activation's absolute value. -/
theorem pay8_apply (wg wu : Vec Ideal S1x3584x128 .fp8e4m3) (x : Vec Ideal S256x3584 .fp8e4m3) (s : Vec Ideal S256x128 .f32)
    (g u : Vec Ideal S1x128 .f32) (m : Vec Ideal S256x128 .f32) (r : Fin 256) (l : Fin 128) :
    k0_pay8 wg wu x s g u m (ix2 r l) = max (m (ix2 r l)) (max (k0_pay6 wg wu x s g u (ix2 r l)) (-k0_pay6 wg wu x s g u (ix2 r l))) := by
  pointwise [k0_pay8]
  rfl

/-- A row block's activation, its first 256 rows, read through the point's blocks. -/
theorem act_lo (x0 : Vec Ideal S2048x3584 .fp8e4m3) (x1 : Vec Ideal S2048x128 .f32) (x2 x3 x4 x5 : Vec Ideal S1x3584x128 .fp8e4m3)
    (x6 x7 : Vec Ideal S2x128 .f32) (wg wu : Vec Ideal S1x3584x128 .fp8e4m3) (x : Vec Ideal S256x3584 .fp8e4m3)
    (s : Vec Ideal S256x128 .f32) (g u : Vec Ideal S1x128 .f32) (R : Fin 2048) (b : Fin 256) (d : Fin 128) (h : R.val < 256)
    (hwg : ∀ k, wg (ix3 0 k d) = x2 (ix3 0 k d)) (hwu : ∀ k, wu (ix3 0 k d) = x3 (ix3 0 k d))
    (hx : ∀ k, x (ix2 b k) = x0 (ix2 R k)) (hs : s (ix2 b d) = x1 (ix2 R d))
    (hg : g (ix2 0 d) = x6 (ix2 0 d)) (hu : u (ix2 0 d) = x7 (ix2 0 d)) :
    k0_pay6 wg wu x s g u (ix2 b d) = ActB x0 x1 x2 x3 x4 x5 x6 x7 R d := by
  rw [pay6_apply, ActB, if_pos h, hs, hg, hu]
  simp only [hwg, hwu, hx]

/-- A row block's activation, its rows from 256 on, read through the point's blocks. -/
theorem act_hi (x0 : Vec Ideal S2048x3584 .fp8e4m3) (x1 : Vec Ideal S2048x128 .f32) (x2 x3 x4 x5 : Vec Ideal S1x3584x128 .fp8e4m3)
    (x6 x7 : Vec Ideal S2x128 .f32) (wg wu : Vec Ideal S1x3584x128 .fp8e4m3) (x : Vec Ideal S256x3584 .fp8e4m3)
    (s : Vec Ideal S256x128 .f32) (g u : Vec Ideal S1x128 .f32) (R : Fin 2048) (b : Fin 256) (d : Fin 128) (h : ¬R.val < 256)
    (hwg : ∀ k, wg (ix3 0 k d) = x4 (ix3 0 k d)) (hwu : ∀ k, wu (ix3 0 k d) = x5 (ix3 0 k d))
    (hx : ∀ k, x (ix2 b k) = x0 (ix2 R k)) (hs : s (ix2 b d) = x1 (ix2 R d))
    (hg : g (ix2 0 d) = x6 (ix2 1 d)) (hu : u (ix2 0 d) = x7 (ix2 1 d)) :
    k0_pay6 wg wu x s g u (ix2 b d) = ActB x0 x1 x2 x3 x4 x5 x6 x7 R d := by
  rw [pay6_apply, ActB, if_neg h, hs, hg, hu]
  simp only [hwg, hwu, hx]

/-- A load of a two-axis whole buffer through a unit rectangle reads the buffer at the shifted index. -/
theorem rd2 {sig : RefSig} {κ : Kind} {sp : Space} {n m w v : Nat} {e : EltTy}
    {mr : Memref sig κ sp ⟨2, ![n, m]⟩ e} (h : mr.IsWhole)
    (X : (⟨2, ![n, m]⟩ : Shape).Idx → Elt Ideal e) (o : Fin 2 → Nat) (inb : ∀ a, o a + ![w, v] a ≤ ![n, m] a) (i : Fin w) (j : Fin v) (I : Fin n) (J : Fin m)
    (hi : o 0 + i.val = I.val) (hj : o 1 + j.val = J.val) :
    View.readAt (Elt Ideal) mr.view (Rect.unit (s := ⟨2, ![n, m]⟩) o ![w, v] inb).toLoadRect (h.unread X) (ix2 i j) = X (ix2 I J) := by
  refine (Memref.IsWhole.readAt_unread h X _ _).trans (congrArg X (funext fun a => Fin.ext ?_))
  match a with
  | 0 => exact (by show o 0 + 1 * i.val = I.val; omega)
  | 1 => exact (by show o 1 + 1 * j.val = J.val; omega)

/-- A load of a three-axis whole buffer through a unit rectangle reads the buffer at the shifted index. -/
theorem rd3 {sig : RefSig} {κ : Kind} {sp : Space} {n m p w v q : Nat} {e : EltTy}
    {mr : Memref sig κ sp ⟨3, ![n, m, p]⟩ e} (h : mr.IsWhole)
    (X : (⟨3, ![n, m, p]⟩ : Shape).Idx → Elt Ideal e) (o : Fin 3 → Nat) (inb : ∀ a, o a + ![w, v, q] a ≤ ![n, m, p] a)
    (i : Fin w) (j : Fin v) (k : Fin q) (I : Fin n) (J : Fin m) (K : Fin p)
    (hi : o 0 + i.val = I.val) (hj : o 1 + j.val = J.val) (hk : o 2 + k.val = K.val) :
    View.readAt (Elt Ideal) mr.view (Rect.unit (s := ⟨3, ![n, m, p]⟩) o ![w, v, q] inb).toLoadRect (h.unread X) (ix3 i j k) = X (ix3 I J K) := by
  refine (Memref.IsWhole.readAt_unread h X _ _).trans (congrArg X (funext fun a => Fin.ext ?_))
  match a with
  | 0 => exact (by show o 0 + 1 * i.val = I.val; omega)
  | 1 => exact (by show o 1 + 1 * j.val = J.val; omega)
  | 2 => exact (by show o 2 + 1 * k.val = K.val; omega)

end Cert.UpIdeal.Hand
-- ==== Proof.Up.Out.lean ====
/- What a quantising point of the ideal `ffn_up` kernel computes from one row's entries: the row's scale and its codes. -/
module

public import proofs.«01_k».proof.Proof.Up.Act

@[expose] public section

set_option maxRecDepth 16384

noncomputable section

namespace Cert.UpIdeal.Hand

open Cert.UpIdeal Cert.UpIdeal.Gen
open Idealize.ShloMosaic

/-- The scale of a row from its entries: the largest of them over 448, and one where that is zero. -/
def scOf {n : ℕ} (v : Fin n → EReal) : EReal :=
  if Finset.fold max ⊥ v Finset.univ = 0 then 1 else Finset.fold max ⊥ v Finset.univ * ((1 / 448 : ℝ) : EReal)

/-- The code of a value at a scale: the quotient clipped to `[-448, 448]`. -/
def codeOf (v s : EReal) : EReal :=
  min ((448 : ℝ) : EReal) (max ((-448 : ℝ) : EReal) (Ideal.div v s))

theorem bits_bot : Ideal.ofBits FTy.f32 4286578688#32 = ⊥ := by
  simp [Ideal.ofBits, Ideal.ieee]

theorem bits_448 : Ideal.ofBits FTy.f32 1138753536#32 = ((448 : ℝ) : EReal) := by
  simp [Ideal.ofBits, Ideal.ieee, -EReal.coe_mul]; norm_num

theorem bits_neg448 : Ideal.ofBits FTy.f32 3286237184#32 = ((-448 : ℝ) : EReal) := by
  simp [Ideal.ofBits, Ideal.ieee, -EReal.coe_mul]; norm_num

theorem named_inv : (Named.named κ "inv_fp8_max" (φ := .f32) (991054117#32 : BitVec 32) : Ideal .f32) = ((1 / 448 : ℝ) : EReal) :=
  IdealRules.named_const.ideal_named_scalar _ _ _ _ rfl

/-- The scale block: every lane of a row holds the row's scale. -/
theorem pay37_apply (v : Vec Ideal S256x128 .f32) (r : Fin 256) (l : Fin 128) :
    k0_pay37 v (ix2 r l) = scOf (fun x : Fin 128 => v (ix2 r x)) := by
  pointwise [k0_pay37]
  rw [bits_bot, named_inv]
  rfl

/-- The stored row of scales is a column of the scale block. -/
theorem pay38_apply (v : Vec Ideal S128x128 .f32) (a b : Fin 1) (l : Fin 128) :
    k0_pay38 v (ix3 a b l) = v (ix2 l 0) := by
  pointwise [k0_pay38]

/-- A code is the entry over the scale, clipped. -/
theorem pay41_apply (s : Vec Ideal S256x128 .f32) (v : Vec Ideal S1x256x128 .f32) (r : Fin 256) (l : Fin 128) :
    k0_pay41 s v (ix2 r l) = codeOf (v (ix3 0 r l)) (s (ix2 r l)) := by
  pointwise [k0_pay41]
  rw [bits_448, bits_neg448]
  rfl

/-- The block of scales as the quantiser reads it is the block itself. -/
theorem pay40_apply (s : Vec Ideal S256x128 .f32)  (r : Fin 256) (l : Fin 128) :
    k0_pay40 s (ix2 r l) = s (ix2 r l) := by
  pointwise [k0_pay40]

end Cert.UpIdeal.Hand

end
-- ==== Proof.Up.RunC.lean ====
/- A point that quantises a row block of the ideal `ffn_up` kernel, run once. -/
module

public import proofs.«01_k».proof.Proof.Up.Runs

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the three output buffers are left holding, as pieces (last first), at a point from 37 on: the accumulator and the activations are read and kept. With it, the proof that the body
    run from whole buffers at the given contents ends with these pieces written and every other buffer as it was. -/
noncomputable def kernelRun0_C (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : ¬cond0_0 i) (hc1 : ¬cond0_1 i) (hc2 : cond0_2 i)
    (x0 : Vec F S2048x3584 .fp8e4m3) (x1 : Vec F S2048x128 .f32) (x2 : Vec F S1x3584x128 .fp8e4m3) (x3 : Vec F S1x3584x128 .fp8e4m3) (x4 : Vec F S1x3584x128 .fp8e4m3) (x5 : Vec F S1x3584x128 .fp8e4m3) (x6 : Vec F S2x128 .f32) (x7 : Vec F S2x128 .f32) (xs0 : Vec F S37x2048x128 .f32) (xs1 : Vec F S2048x128 .f32) :
    Σ' (L8 : List (View.Piece (Elt F) S256x4736 .fp8e4m3)), Σ' (L9 : List (View.Piece (Elt F) S1x2x128 .f32)), { L10 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ owns (c : Thread nD τ) arg12 fullShare xs0 ∗ owns (c : Thread nD τ) arg13 fullShare xs1) -∗ K ⟨⟩))
          ⊢ wp frame (wpE (defs₀ (F := F)) Variants.none c none) E (cc0_ffn_up i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_ffn_up_eq_skeleton]; unfold cc0_ffn_up_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg12.eq_unread hfs0; obtain rfl := harg13.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [HS0]
    · iexists _; isplitr; · ipureintro; exact harg12.read_unread _
      iexact HS0
    iexists _; isplitr; · ipureintro; exact harg13.read_unread _
    iexact HS1

end Cert.UpIdeal.Hand

end
-- ==== Proof.Up.PiecesC.lean ====
/- What a quantising point of the ideal `ffn_up` kernel stores, piece by piece: codes, scales and the block of scales. -/
module

public import proofs.«01_k».proof.Proof.Up.RunC
public import proofs.«01_k».proof.Proof.Up.Out
public import Idealize.ShloMosaic.Lib.Pipeline.ReadBack
public import Idealize.ShloMosaic.Lib.VecWindow

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The first row of the block a quantising point works on lies in the array. -/
theorem base_le (i : grid0.Coords) (h : cond0_2 i) : k0_off9 i 0 + 256 ≤ 2048 := k0_off9_inb i h 0

/-- The scale of a row of the block, from the running maxima. -/
def scAt (xs1 : Vec Ideal S2048x128 .f32) (base : ℕ) (hb : base + 256 ≤ 2048) (r : Fin 256) : EReal :=
  scOf fun x : Fin 128 => xs1 (ix2 (⟨base + r.val, by omega⟩ : Fin 2048) x)

/-- The code of a row of the block and a column, from the stored activations and the running maxima. -/
def codeAt (xs0 : Vec Ideal S37x2048x128 .f32) (xs1 : Vec Ideal S2048x128 .f32) (base : ℕ) (hb : base + 256 ≤ 2048)
    (r : Fin 256) (n : Fin 4736) : EReal :=
  codeOf (xs0 (ix3 (⟨n.val / 128, by omega⟩ : Fin 37) (⟨base + r.val, by omega⟩ : Fin 2048) (⟨n.val % 128, by omega⟩ : Fin 128)))
    (scAt xs1 base hb r)

section
variable (c : Dev nD) (i : grid0.Coords) (arg11 : Memref sig .tc .vmem S256x128 .f32) (arg13 : Memref sig .tc .vmem S2048x128 .f32)
  (harg13 : arg13.IsWhole) (hc2 : cond0_2 i) (xs1 : Vec Ideal S2048x128 .f32)

theorem load13_apply (b : Fin 256) (d : Fin 128) :
    View.readAt (Elt Ideal) arg13.view (Rect.unit (s := S2048x128) (k0_off9 i) ![256, 128] (k0_off9_inb i hc2)).toLoadRect (harg13.unread xs1) (ix2 b d)
      = xs1 (ix2 (⟨k0_off9 i 0 + b.val, by have := base_le i hc2; omega⟩ : Fin 2048) d) :=
  rd2 harg13 _ _ _ _ _ _ _ rfl (Nat.zero_add _)

theorem pay37_load (y : S256x128.Idx) :
    k0_pay37 (View.readAt (Elt Ideal) arg13.view (Rect.unit (s := S2048x128) (k0_off9 i) ![256, 128] (k0_off9_inb i hc2)).toLoadRect (harg13.unread xs1)) y
      = scAt xs1 (k0_off9 i 0) (base_le i hc2) (y 0) := by
  obtain ⟨b, d, rfl⟩ : ∃ (b : Fin 256) (d : Fin 128), y = ix2 b d := ⟨y 0, y 1, eq_ix2 y⟩
  rw [pay37_apply]
  exact congrArg scOf (funext fun x => load13_apply i arg13 harg13 hc2 xs1 b x)

/-- A load of the block of scales just stored. -/
theorem pay37_read (r : Rect S256x128) (x : r.shape.Idx) :
    arg11.view.readCov (kernelRun0_C.sl.H10_1 c i arg13 harg13 hc2 xs1) r.toLoadRect x
      = scAt xs1 (k0_off9 i 0) (base_le i hc2) (r.emb x 0) := by
  unfold kernelRun0_C.sl.H10_1
  rw [View.readCov_fill _ _ _ _ _ (fun a => by fin_cases a <;> rfl)]
  exact pay37_load i arg13 harg13 hc2 xs1 (r.emb x)

/-- The block of scales the codes divide by. -/
theorem r_apply (b : Fin 256) (d : Fin 128) :
    kernelRun0_C.sl.r c i arg11 arg13 harg13 hc2 xs1 (ix2 b d) = scAt xs1 (k0_off9 i 0) (base_le i hc2) b := by
  unfold kernelRun0_C.sl.r
  rw [pay40_apply]
  refine (pay37_read c i arg11 arg13 harg13 hc2 xs1 _ _).trans (congrArg (scAt xs1 _ _) (Fin.ext ?_))
  show 0 + 1 * b.val = b.val
  omega
end

theorem codeAt_eq (xs0 : Vec Ideal S37x2048x128 .f32) (xs1 : Vec Ideal S2048x128 .f32) (base : ℕ) (hb : base + 256 ≤ 2048)
    (b : Fin 256) (d : Fin 128) (k : ℕ) (hk : k < 37) (r : Fin 256) (n : Fin 4736) (hr : r.val = b.val) (hn : n.val = 128 * k + d.val) :
    codeAt xs0 xs1 base hb r n
      = codeOf (xs0 (ix3 (⟨k, hk⟩ : Fin 37) (⟨base + b.val, by omega⟩ : Fin 2048) d)) (scAt xs1 base hb b) := by
  obtain rfl := Fin.ext hr
  unfold codeAt
  rw [show (⟨n.val / 128, by omega⟩ : Fin 37) = ⟨k, hk⟩ from Fin.ext (by show n.val / 128 = k; omega),
    show (⟨n.val % 128, by omega⟩ : Fin 128) = d from Fin.ext (by show n.val % 128 = d.val; omega)]

set_option maxHeartbeats 4000000 in
theorem code_pieces (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : ¬cond0_0 i) (hc1 : ¬cond0_1 i) (hc2 : cond0_2 i)
    (x0 : Vec Ideal S2048x3584 .fp8e4m3) (x1 : Vec Ideal S2048x128 .f32) (x2 : Vec Ideal S1x3584x128 .fp8e4m3) (x3 : Vec Ideal S1x3584x128 .fp8e4m3) (x4 : Vec Ideal S1x3584x128 .fp8e4m3) (x5 : Vec Ideal S1x3584x128 .fp8e4m3) (x6 : Vec Ideal S2x128 .f32) (x7 : Vec Ideal S2x128 .f32) (xs0 : Vec Ideal S37x2048x128 .f32) (xs1 : Vec Ideal S2048x128 .f32) :
    ∀ p ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).1, ∀ x : p.1.shape.Idx, p.2 x = codeAt xs0 xs1 (k0_off9 i 0) (base_le i hc2) (p.1.emb x 0) (p.1.emb x 1) := by
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩⟩⟩⟩⟩⟩⟩⟩⟩⟩⟩⟩⟩⟩⟩⟩⟩⟩⟩⟩⟩⟩⟩⟩⟩⟩⟩⟩⟩⟩
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off46 i) ![1, 256, 128] (k0_off46_inb i hc2)).toLoadRect (harg12.unread xs0)) (ix2 b d) = _
    rw [pay41_apply, r_apply, rd3 harg12 xs0 _ _ 0 b d (⟨36, by omega⟩ : Fin 37) (⟨k0_off9 i 0 + b.val, by have := base_le i hc2; omega⟩ : Fin 2048) d rfl rfl (Nat.zero_add _)]
    exact (codeAt_eq xs0 xs1 _ (base_le i hc2) b d 36 (by omega) _ _ (by show 0 + 1 * b.val = b.val; omega) (by show 4608 + 1 * d.val = 128 * 36 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off45 i) ![1, 256, 128] (k0_off45_inb i hc2)).toLoadRect (harg12.unread xs0)) (ix2 b d) = _
    rw [pay41_apply, r_apply, rd3 harg12 xs0 _ _ 0 b d (⟨35, by omega⟩ : Fin 37) (⟨k0_off9 i 0 + b.val, by have := base_le i hc2; omega⟩ : Fin 2048) d rfl rfl (Nat.zero_add _)]
    exact (codeAt_eq xs0 xs1 _ (base_le i hc2) b d 35 (by omega) _ _ (by show 0 + 1 * b.val = b.val; omega) (by show 4480 + 1 * d.val = 128 * 35 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off44 i) ![1, 256, 128] (k0_off44_inb i hc2)).toLoadRect (harg12.unread xs0)) (ix2 b d) = _
    rw [pay41_apply, r_apply, rd3 harg12 xs0 _ _ 0 b d (⟨34, by omega⟩ : Fin 37) (⟨k0_off9 i 0 + b.val, by have := base_le i hc2; omega⟩ : Fin 2048) d rfl rfl (Nat.zero_add _)]
    exact (codeAt_eq xs0 xs1 _ (base_le i hc2) b d 34 (by omega) _ _ (by show 0 + 1 * b.val = b.val; omega) (by show 4352 + 1 * d.val = 128 * 34 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off43 i) ![1, 256, 128] (k0_off43_inb i hc2)).toLoadRect (harg12.unread xs0)) (ix2 b d) = _
    rw [pay41_apply, r_apply, rd3 harg12 xs0 _ _ 0 b d (⟨33, by omega⟩ : Fin 37) (⟨k0_off9 i 0 + b.val, by have := base_le i hc2; omega⟩ : Fin 2048) d rfl rfl (Nat.zero_add _)]
    exact (codeAt_eq xs0 xs1 _ (base_le i hc2) b d 33 (by omega) _ _ (by show 0 + 1 * b.val = b.val; omega) (by show 4224 + 1 * d.val = 128 * 33 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off42 i) ![1, 256, 128] (k0_off42_inb i hc2)).toLoadRect (harg12.unread xs0)) (ix2 b d) = _
    rw [pay41_apply, r_apply, rd3 harg12 xs0 _ _ 0 b d (⟨32, by omega⟩ : Fin 37) (⟨k0_off9 i 0 + b.val, by have := base_le i hc2; omega⟩ : Fin 2048) d rfl rfl (Nat.zero_add _)]
    exact (codeAt_eq xs0 xs1 _ (base_le i hc2) b d 32 (by omega) _ _ (by show 0 + 1 * b.val = b.val; omega) (by show 4096 + 1 * d.val = 128 * 32 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off41 i) ![1, 256, 128] (k0_off41_inb i hc2)).toLoadRect (harg12.unread xs0)) (ix2 b d) = _
    rw [pay41_apply, r_apply, rd3 harg12 xs0 _ _ 0 b d (⟨31, by omega⟩ : Fin 37) (⟨k0_off9 i 0 + b.val, by have := base_le i hc2; omega⟩ : Fin 2048) d rfl rfl (Nat.zero_add _)]
    exact (codeAt_eq xs0 xs1 _ (base_le i hc2) b d 31 (by omega) _ _ (by show 0 + 1 * b.val = b.val; omega) (by show 3968 + 1 * d.val = 128 * 31 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off40 i) ![1, 256, 128] (k0_off40_inb i hc2)).toLoadRect (harg12.unread xs0)) (ix2 b d) = _
    rw [pay41_apply, r_apply, rd3 harg12 xs0 _ _ 0 b d (⟨30, by omega⟩ : Fin 37) (⟨k0_off9 i 0 + b.val, by have := base_le i hc2; omega⟩ : Fin 2048) d rfl rfl (Nat.zero_add _)]
    exact (codeAt_eq xs0 xs1 _ (base_le i hc2) b d 30 (by omega) _ _ (by show 0 + 1 * b.val = b.val; omega) (by show 3840 + 1 * d.val = 128 * 30 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off39 i) ![1, 256, 128] (k0_off39_inb i hc2)).toLoadRect (harg12.unread xs0)) (ix2 b d) = _
    rw [pay41_apply, r_apply, rd3 harg12 xs0 _ _ 0 b d (⟨29, by omega⟩ : Fin 37) (⟨k0_off9 i 0 + b.val, by have := base_le i hc2; omega⟩ : Fin 2048) d rfl rfl (Nat.zero_add _)]
    exact (codeAt_eq xs0 xs1 _ (base_le i hc2) b d 29 (by omega) _ _ (by show 0 + 1 * b.val = b.val; omega) (by show 3712 + 1 * d.val = 128 * 29 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off38 i) ![1, 256, 128] (k0_off38_inb i hc2)).toLoadRect (harg12.unread xs0)) (ix2 b d) = _
    rw [pay41_apply, r_apply, rd3 harg12 xs0 _ _ 0 b d (⟨28, by omega⟩ : Fin 37) (⟨k0_off9 i 0 + b.val, by have := base_le i hc2; omega⟩ : Fin 2048) d rfl rfl (Nat.zero_add _)]
    exact (codeAt_eq xs0 xs1 _ (base_le i hc2) b d 28 (by omega) _ _ (by show 0 + 1 * b.val = b.val; omega) (by show 3584 + 1 * d.val = 128 * 28 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off37 i) ![1, 256, 128] (k0_off37_inb i hc2)).toLoadRect (harg12.unread xs0)) (ix2 b d) = _
    rw [pay41_apply, r_apply, rd3 harg12 xs0 _ _ 0 b d (⟨27, by omega⟩ : Fin 37) (⟨k0_off9 i 0 + b.val, by have := base_le i hc2; omega⟩ : Fin 2048) d rfl rfl (Nat.zero_add _)]
    exact (codeAt_eq xs0 xs1 _ (base_le i hc2) b d 27 (by omega) _ _ (by show 0 + 1 * b.val = b.val; omega) (by show 3456 + 1 * d.val = 128 * 27 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off36 i) ![1, 256, 128] (k0_off36_inb i hc2)).toLoadRect (harg12.unread xs0)) (ix2 b d) = _
    rw [pay41_apply, r_apply, rd3 harg12 xs0 _ _ 0 b d (⟨26, by omega⟩ : Fin 37) (⟨k0_off9 i 0 + b.val, by have := base_le i hc2; omega⟩ : Fin 2048) d rfl rfl (Nat.zero_add _)]
    exact (codeAt_eq xs0 xs1 _ (base_le i hc2) b d 26 (by omega) _ _ (by show 0 + 1 * b.val = b.val; omega) (by show 3328 + 1 * d.val = 128 * 26 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off35 i) ![1, 256, 128] (k0_off35_inb i hc2)).toLoadRect (harg12.unread xs0)) (ix2 b d) = _
    rw [pay41_apply, r_apply, rd3 harg12 xs0 _ _ 0 b d (⟨25, by omega⟩ : Fin 37) (⟨k0_off9 i 0 + b.val, by have := base_le i hc2; omega⟩ : Fin 2048) d rfl rfl (Nat.zero_add _)]
    exact (codeAt_eq xs0 xs1 _ (base_le i hc2) b d 25 (by omega) _ _ (by show 0 + 1 * b.val = b.val; omega) (by show 3200 + 1 * d.val = 128 * 25 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off34 i) ![1, 256, 128] (k0_off34_inb i hc2)).toLoadRect (harg12.unread xs0)) (ix2 b d) = _
    rw [pay41_apply, r_apply, rd3 harg12 xs0 _ _ 0 b d (⟨24, by omega⟩ : Fin 37) (⟨k0_off9 i 0 + b.val, by have := base_le i hc2; omega⟩ : Fin 2048) d rfl rfl (Nat.zero_add _)]
    exact (codeAt_eq xs0 xs1 _ (base_le i hc2) b d 24 (by omega) _ _ (by show 0 + 1 * b.val = b.val; omega) (by show 3072 + 1 * d.val = 128 * 24 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off33 i) ![1, 256, 128] (k0_off33_inb i hc2)).toLoadRect (harg12.unread xs0)) (ix2 b d) = _
    rw [pay41_apply, r_apply, rd3 harg12 xs0 _ _ 0 b d (⟨23, by omega⟩ : Fin 37) (⟨k0_off9 i 0 + b.val, by have := base_le i hc2; omega⟩ : Fin 2048) d rfl rfl (Nat.zero_add _)]
    exact (codeAt_eq xs0 xs1 _ (base_le i hc2) b d 23 (by omega) _ _ (by show 0 + 1 * b.val = b.val; omega) (by show 2944 + 1 * d.val = 128 * 23 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off32 i) ![1, 256, 128] (k0_off32_inb i hc2)).toLoadRect (harg12.unread xs0)) (ix2 b d) = _
    rw [pay41_apply, r_apply, rd3 harg12 xs0 _ _ 0 b d (⟨22, by omega⟩ : Fin 37) (⟨k0_off9 i 0 + b.val, by have := base_le i hc2; omega⟩ : Fin 2048) d rfl rfl (Nat.zero_add _)]
    exact (codeAt_eq xs0 xs1 _ (base_le i hc2) b d 22 (by omega) _ _ (by show 0 + 1 * b.val = b.val; omega) (by show 2816 + 1 * d.val = 128 * 22 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off31 i) ![1, 256, 128] (k0_off31_inb i hc2)).toLoadRect (harg12.unread xs0)) (ix2 b d) = _
    rw [pay41_apply, r_apply, rd3 harg12 xs0 _ _ 0 b d (⟨21, by omega⟩ : Fin 37) (⟨k0_off9 i 0 + b.val, by have := base_le i hc2; omega⟩ : Fin 2048) d rfl rfl (Nat.zero_add _)]
    exact (codeAt_eq xs0 xs1 _ (base_le i hc2) b d 21 (by omega) _ _ (by show 0 + 1 * b.val = b.val; omega) (by show 2688 + 1 * d.val = 128 * 21 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off30 i) ![1, 256, 128] (k0_off30_inb i hc2)).toLoadRect (harg12.unread xs0)) (ix2 b d) = _
    rw [pay41_apply, r_apply, rd3 harg12 xs0 _ _ 0 b d (⟨20, by omega⟩ : Fin 37) (⟨k0_off9 i 0 + b.val, by have := base_le i hc2; omega⟩ : Fin 2048) d rfl rfl (Nat.zero_add _)]
    exact (codeAt_eq xs0 xs1 _ (base_le i hc2) b d 20 (by omega) _ _ (by show 0 + 1 * b.val = b.val; omega) (by show 2560 + 1 * d.val = 128 * 20 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off29 i) ![1, 256, 128] (k0_off29_inb i hc2)).toLoadRect (harg12.unread xs0)) (ix2 b d) = _
    rw [pay41_apply, r_apply, rd3 harg12 xs0 _ _ 0 b d (⟨19, by omega⟩ : Fin 37) (⟨k0_off9 i 0 + b.val, by have := base_le i hc2; omega⟩ : Fin 2048) d rfl rfl (Nat.zero_add _)]
    exact (codeAt_eq xs0 xs1 _ (base_le i hc2) b d 19 (by omega) _ _ (by show 0 + 1 * b.val = b.val; omega) (by show 2432 + 1 * d.val = 128 * 19 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off28 i) ![1, 256, 128] (k0_off28_inb i hc2)).toLoadRect (harg12.unread xs0)) (ix2 b d) = _
    rw [pay41_apply, r_apply, rd3 harg12 xs0 _ _ 0 b d (⟨18, by omega⟩ : Fin 37) (⟨k0_off9 i 0 + b.val, by have := base_le i hc2; omega⟩ : Fin 2048) d rfl rfl (Nat.zero_add _)]
    exact (codeAt_eq xs0 xs1 _ (base_le i hc2) b d 18 (by omega) _ _ (by show 0 + 1 * b.val = b.val; omega) (by show 2304 + 1 * d.val = 128 * 18 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off27 i) ![1, 256, 128] (k0_off27_inb i hc2)).toLoadRect (harg12.unread xs0)) (ix2 b d) = _
    rw [pay41_apply, r_apply, rd3 harg12 xs0 _ _ 0 b d (⟨17, by omega⟩ : Fin 37) (⟨k0_off9 i 0 + b.val, by have := base_le i hc2; omega⟩ : Fin 2048) d rfl rfl (Nat.zero_add _)]
    exact (codeAt_eq xs0 xs1 _ (base_le i hc2) b d 17 (by omega) _ _ (by show 0 + 1 * b.val = b.val; omega) (by show 2176 + 1 * d.val = 128 * 17 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off26 i) ![1, 256, 128] (k0_off26_inb i hc2)).toLoadRect (harg12.unread xs0)) (ix2 b d) = _
    rw [pay41_apply, r_apply, rd3 harg12 xs0 _ _ 0 b d (⟨16, by omega⟩ : Fin 37) (⟨k0_off9 i 0 + b.val, by have := base_le i hc2; omega⟩ : Fin 2048) d rfl rfl (Nat.zero_add _)]
    exact (codeAt_eq xs0 xs1 _ (base_le i hc2) b d 16 (by omega) _ _ (by show 0 + 1 * b.val = b.val; omega) (by show 2048 + 1 * d.val = 128 * 16 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off25 i) ![1, 256, 128] (k0_off25_inb i hc2)).toLoadRect (harg12.unread xs0)) (ix2 b d) = _
    rw [pay41_apply, r_apply, rd3 harg12 xs0 _ _ 0 b d (⟨15, by omega⟩ : Fin 37) (⟨k0_off9 i 0 + b.val, by have := base_le i hc2; omega⟩ : Fin 2048) d rfl rfl (Nat.zero_add _)]
    exact (codeAt_eq xs0 xs1 _ (base_le i hc2) b d 15 (by omega) _ _ (by show 0 + 1 * b.val = b.val; omega) (by show 1920 + 1 * d.val = 128 * 15 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off24 i) ![1, 256, 128] (k0_off24_inb i hc2)).toLoadRect (harg12.unread xs0)) (ix2 b d) = _
    rw [pay41_apply, r_apply, rd3 harg12 xs0 _ _ 0 b d (⟨14, by omega⟩ : Fin 37) (⟨k0_off9 i 0 + b.val, by have := base_le i hc2; omega⟩ : Fin 2048) d rfl rfl (Nat.zero_add _)]
    exact (codeAt_eq xs0 xs1 _ (base_le i hc2) b d 14 (by omega) _ _ (by show 0 + 1 * b.val = b.val; omega) (by show 1792 + 1 * d.val = 128 * 14 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off23 i) ![1, 256, 128] (k0_off23_inb i hc2)).toLoadRect (harg12.unread xs0)) (ix2 b d) = _
    rw [pay41_apply, r_apply, rd3 harg12 xs0 _ _ 0 b d (⟨13, by omega⟩ : Fin 37) (⟨k0_off9 i 0 + b.val, by have := base_le i hc2; omega⟩ : Fin 2048) d rfl rfl (Nat.zero_add _)]
    exact (codeAt_eq xs0 xs1 _ (base_le i hc2) b d 13 (by omega) _ _ (by show 0 + 1 * b.val = b.val; omega) (by show 1664 + 1 * d.val = 128 * 13 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off22 i) ![1, 256, 128] (k0_off22_inb i hc2)).toLoadRect (harg12.unread xs0)) (ix2 b d) = _
    rw [pay41_apply, r_apply, rd3 harg12 xs0 _ _ 0 b d (⟨12, by omega⟩ : Fin 37) (⟨k0_off9 i 0 + b.val, by have := base_le i hc2; omega⟩ : Fin 2048) d rfl rfl (Nat.zero_add _)]
    exact (codeAt_eq xs0 xs1 _ (base_le i hc2) b d 12 (by omega) _ _ (by show 0 + 1 * b.val = b.val; omega) (by show 1536 + 1 * d.val = 128 * 12 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off21 i) ![1, 256, 128] (k0_off21_inb i hc2)).toLoadRect (harg12.unread xs0)) (ix2 b d) = _
    rw [pay41_apply, r_apply, rd3 harg12 xs0 _ _ 0 b d (⟨11, by omega⟩ : Fin 37) (⟨k0_off9 i 0 + b.val, by have := base_le i hc2; omega⟩ : Fin 2048) d rfl rfl (Nat.zero_add _)]
    exact (codeAt_eq xs0 xs1 _ (base_le i hc2) b d 11 (by omega) _ _ (by show 0 + 1 * b.val = b.val; omega) (by show 1408 + 1 * d.val = 128 * 11 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off20 i) ![1, 256, 128] (k0_off20_inb i hc2)).toLoadRect (harg12.unread xs0)) (ix2 b d) = _
    rw [pay41_apply, r_apply, rd3 harg12 xs0 _ _ 0 b d (⟨10, by omega⟩ : Fin 37) (⟨k0_off9 i 0 + b.val, by have := base_le i hc2; omega⟩ : Fin 2048) d rfl rfl (Nat.zero_add _)]
    exact (codeAt_eq xs0 xs1 _ (base_le i hc2) b d 10 (by omega) _ _ (by show 0 + 1 * b.val = b.val; omega) (by show 1280 + 1 * d.val = 128 * 10 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off19 i) ![1, 256, 128] (k0_off19_inb i hc2)).toLoadRect (harg12.unread xs0)) (ix2 b d) = _
    rw [pay41_apply, r_apply, rd3 harg12 xs0 _ _ 0 b d (⟨9, by omega⟩ : Fin 37) (⟨k0_off9 i 0 + b.val, by have := base_le i hc2; omega⟩ : Fin 2048) d rfl rfl (Nat.zero_add _)]
    exact (codeAt_eq xs0 xs1 _ (base_le i hc2) b d 9 (by omega) _ _ (by show 0 + 1 * b.val = b.val; omega) (by show 1152 + 1 * d.val = 128 * 9 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off18 i) ![1, 256, 128] (k0_off18_inb i hc2)).toLoadRect (harg12.unread xs0)) (ix2 b d) = _
    rw [pay41_apply, r_apply, rd3 harg12 xs0 _ _ 0 b d (⟨8, by omega⟩ : Fin 37) (⟨k0_off9 i 0 + b.val, by have := base_le i hc2; omega⟩ : Fin 2048) d rfl rfl (Nat.zero_add _)]
    exact (codeAt_eq xs0 xs1 _ (base_le i hc2) b d 8 (by omega) _ _ (by show 0 + 1 * b.val = b.val; omega) (by show 1024 + 1 * d.val = 128 * 8 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off17 i) ![1, 256, 128] (k0_off17_inb i hc2)).toLoadRect (harg12.unread xs0)) (ix2 b d) = _
    rw [pay41_apply, r_apply, rd3 harg12 xs0 _ _ 0 b d (⟨7, by omega⟩ : Fin 37) (⟨k0_off9 i 0 + b.val, by have := base_le i hc2; omega⟩ : Fin 2048) d rfl rfl (Nat.zero_add _)]
    exact (codeAt_eq xs0 xs1 _ (base_le i hc2) b d 7 (by omega) _ _ (by show 0 + 1 * b.val = b.val; omega) (by show 896 + 1 * d.val = 128 * 7 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off16 i) ![1, 256, 128] (k0_off16_inb i hc2)).toLoadRect (harg12.unread xs0)) (ix2 b d) = _
    rw [pay41_apply, r_apply, rd3 harg12 xs0 _ _ 0 b d (⟨6, by omega⟩ : Fin 37) (⟨k0_off9 i 0 + b.val, by have := base_le i hc2; omega⟩ : Fin 2048) d rfl rfl (Nat.zero_add _)]
    exact (codeAt_eq xs0 xs1 _ (base_le i hc2) b d 6 (by omega) _ _ (by show 0 + 1 * b.val = b.val; omega) (by show 768 + 1 * d.val = 128 * 6 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off15 i) ![1, 256, 128] (k0_off15_inb i hc2)).toLoadRect (harg12.unread xs0)) (ix2 b d) = _
    rw [pay41_apply, r_apply, rd3 harg12 xs0 _ _ 0 b d (⟨5, by omega⟩ : Fin 37) (⟨k0_off9 i 0 + b.val, by have := base_le i hc2; omega⟩ : Fin 2048) d rfl rfl (Nat.zero_add _)]
    exact (codeAt_eq xs0 xs1 _ (base_le i hc2) b d 5 (by omega) _ _ (by show 0 + 1 * b.val = b.val; omega) (by show 640 + 1 * d.val = 128 * 5 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off14 i) ![1, 256, 128] (k0_off14_inb i hc2)).toLoadRect (harg12.unread xs0)) (ix2 b d) = _
    rw [pay41_apply, r_apply, rd3 harg12 xs0 _ _ 0 b d (⟨4, by omega⟩ : Fin 37) (⟨k0_off9 i 0 + b.val, by have := base_le i hc2; omega⟩ : Fin 2048) d rfl rfl (Nat.zero_add _)]
    exact (codeAt_eq xs0 xs1 _ (base_le i hc2) b d 4 (by omega) _ _ (by show 0 + 1 * b.val = b.val; omega) (by show 512 + 1 * d.val = 128 * 4 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off13 i) ![1, 256, 128] (k0_off13_inb i hc2)).toLoadRect (harg12.unread xs0)) (ix2 b d) = _
    rw [pay41_apply, r_apply, rd3 harg12 xs0 _ _ 0 b d (⟨3, by omega⟩ : Fin 37) (⟨k0_off9 i 0 + b.val, by have := base_le i hc2; omega⟩ : Fin 2048) d rfl rfl (Nat.zero_add _)]
    exact (codeAt_eq xs0 xs1 _ (base_le i hc2) b d 3 (by omega) _ _ (by show 0 + 1 * b.val = b.val; omega) (by show 384 + 1 * d.val = 128 * 3 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off12 i) ![1, 256, 128] (k0_off12_inb i hc2)).toLoadRect (harg12.unread xs0)) (ix2 b d) = _
    rw [pay41_apply, r_apply, rd3 harg12 xs0 _ _ 0 b d (⟨2, by omega⟩ : Fin 37) (⟨k0_off9 i 0 + b.val, by have := base_le i hc2; omega⟩ : Fin 2048) d rfl rfl (Nat.zero_add _)]
    exact (codeAt_eq xs0 xs1 _ (base_le i hc2) b d 2 (by omega) _ _ (by show 0 + 1 * b.val = b.val; omega) (by show 256 + 1 * d.val = 128 * 2 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off11 i) ![1, 256, 128] (k0_off11_inb i hc2)).toLoadRect (harg12.unread xs0)) (ix2 b d) = _
    rw [pay41_apply, r_apply, rd3 harg12 xs0 _ _ 0 b d (⟨1, by omega⟩ : Fin 37) (⟨k0_off9 i 0 + b.val, by have := base_le i hc2; omega⟩ : Fin 2048) d rfl rfl (Nat.zero_add _)]
    exact (codeAt_eq xs0 xs1 _ (base_le i hc2) b d 1 (by omega) _ _ (by show 0 + 1 * b.val = b.val; omega) (by show 128 + 1 * d.val = 128 * 1 + d.val; omega)).symm
  · intro x
    obtain ⟨b, d, rfl⟩ : ∃ (b : Fin 256) (d : Fin 128), x = ix2 b d := ⟨x 0, x 1, eq_ix2 x⟩
    show k0_pay41 (kernelRun0_C.sl.r c i arg11 arg13 harg13 hc2 xs1) (View.readAt (Elt Ideal) arg12.view (Rect.unit (s := S37x2048x128) (k0_off10 i) ![1, 256, 128] (k0_off10_inb i hc2)).toLoadRect (harg12.unread xs0)) (ix2 b d) = _
    rw [pay41_apply, r_apply, rd3 harg12 xs0 _ _ 0 b d (⟨0, by omega⟩ : Fin 37) (⟨k0_off9 i 0 + b.val, by have := base_le i hc2; omega⟩ : Fin 2048) d rfl rfl (Nat.zero_add _)]
    exact (codeAt_eq xs0 xs1 _ (base_le i hc2) b d 0 (by omega) _ _ (by show 0 + 1 * b.val = b.val; omega) (by show 0 + 1 * d.val = 128 * 0 + d.val; omega)).symm

set_option maxHeartbeats 4000000 in
theorem scale_pieces (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : ¬cond0_0 i) (hc1 : ¬cond0_1 i) (hc2 : cond0_2 i)
    (x0 : Vec Ideal S2048x3584 .fp8e4m3) (x1 : Vec Ideal S2048x128 .f32) (x2 : Vec Ideal S1x3584x128 .fp8e4m3) (x3 : Vec Ideal S1x3584x128 .fp8e4m3) (x4 : Vec Ideal S1x3584x128 .fp8e4m3) (x5 : Vec Ideal S1x3584x128 .fp8e4m3) (x6 : Vec Ideal S2x128 .f32) (x7 : Vec Ideal S2x128 .f32) (xs0 : Vec Ideal S37x2048x128 .f32) (xs1 : Vec Ideal S2048x128 .f32) :
    ∀ p ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.1, ∀ x : p.1.shape.Idx, p.2 x = scAt xs1 (k0_off9 i 0) (base_le i hc2) ⟨128 * (p.1.emb x 1).val + (p.1.emb x 2).val, by have h1 : (p.1.emb x 1).val < 2 := (p.1.emb x 1).isLt; have h2 : (p.1.emb x 2).val < 128 := (p.1.emb x 2).isLt; omega⟩ := by
  refine List.forall_mem_cons.2 ⟨?_, List.forall_mem_cons.2 ⟨?_, fun _ h => absurd h List.not_mem_nil⟩⟩
  · intro x
    obtain ⟨a, b, d, rfl⟩ : ∃ (a : Fin 1) (b : Fin 1) (d : Fin 128), x = ix3 a b d := ⟨x 0, x 1, x 2, eq_ix3 x⟩
    show k0_pay38 (kernelRun0_C.sl.v32 (F := Ideal) c i arg11 arg13 harg13 hc2 xs1) (ix3 a b d) = _
    rw [pay38_apply]
    refine (pay37_read c i arg11 arg13 harg13 hc2 xs1 _ _).trans (congrArg (scAt xs1 _ _) (Fin.ext ?_))
    show 128 + 1 * d.val = 128 * (1 + 1 * b.val) + (0 + 1 * d.val)
    omega
  · intro x
    obtain ⟨a, b, d, rfl⟩ : ∃ (a : Fin 1) (b : Fin 1) (d : Fin 128), x = ix3 a b d := ⟨x 0, x 1, x 2, eq_ix3 x⟩
    show k0_pay38 (kernelRun0_C.sl.v25 (F := Ideal) c i arg11 arg13 harg13 hc2 xs1) (ix3 a b d) = _
    rw [pay38_apply]
    refine (pay37_read c i arg11 arg13 harg13 hc2 xs1 _ _).trans (congrArg (scAt xs1 _ _) (Fin.ext ?_))
    show 0 + 1 * d.val = 128 * (0 + 1 * b.val) + (0 + 1 * d.val)
    omega

/-- The block of scales, piece by piece. -/
theorem lane_H10 (c : Dev nD) (i : grid0.Coords) (arg13 : Memref sig .tc .vmem S2048x128 .f32)
    (harg13 : arg13.IsWhole) (hc2 : cond0_2 i) (xs1 : Vec Ideal S2048x128 .f32) :
    ∀ p ∈ kernelRun0_C.sl.H10_1 (F := Ideal) c i arg13 harg13 hc2 xs1, ∀ x : p.1.shape.Idx,
      p.2 x = scAt xs1 (k0_off9 i 0) (base_le i hc2) (p.1.emb x 0) := by
  unfold kernelRun0_C.sl.H10_1
  intro p hp
  obtain rfl := List.mem_singleton.1 hp
  intro x
  have e := Rect.emb_unit_full (s := S256x128) (off := ![0, 0]) inb_S256x128_S256x128_0_0 x
  have h := pay37_load i arg13 harg13 hc2 xs1 x
  have h2 : scAt xs1 (k0_off9 i 0) (base_le i hc2) (x 0) = scAt xs1 (k0_off9 i 0) (base_le i hc2) ((Rect.unit (s := S256x128) ![0, 0] S256x128.size inb_S256x128_S256x128_0_0).emb x 0) := by rw [e]
  refine Eq.trans ?_ h2
  refine Eq.trans ?_ h
  dsimp only

set_option maxHeartbeats 4000000 in
theorem lane_pieces (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : ¬cond0_0 i) (hc1 : ¬cond0_1 i) (hc2 : cond0_2 i)
    (x0 : Vec Ideal S2048x3584 .fp8e4m3) (x1 : Vec Ideal S2048x128 .f32) (x2 : Vec Ideal S1x3584x128 .fp8e4m3) (x3 : Vec Ideal S1x3584x128 .fp8e4m3) (x4 : Vec Ideal S1x3584x128 .fp8e4m3) (x5 : Vec Ideal S1x3584x128 .fp8e4m3) (x6 : Vec Ideal S2x128 .f32) (x7 : Vec Ideal S2x128 .f32) (xs0 : Vec Ideal S37x2048x128 .f32) (xs1 : Vec Ideal S2048x128 .f32) :
    ∀ p ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.2.1, ∀ x : p.1.shape.Idx, p.2 x = scAt xs1 (k0_off9 i 0) (base_le i hc2) (p.1.emb x 0) := by
  exact lane_H10 c i arg13 harg13 hc2 xs1

end Cert.UpIdeal.Hand

end
-- ==== Proof.Up.Inv.lean ====
/- The invariant of the ideal `ffn_up` kernel between grid points: which activations its first scratch array holds, and
   what running maxima its second one holds. -/
module

public import proofs.«01_k».proof.Proof.Up.Runs
public import proofs.«01_k».proof.Proof.Up.Act
public import proofs.«01_k».proof.Proof.Up.Out
public import proofs.«01_k».proof.Proof.Up.PiecesC

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.ShloMosaic.Pipeline (Dat Cfg Window BodyObligation cellOf)

variable (m : (ℓ : Loc nD τ sig) → Buf (Elt Ideal) ℓ)

/-- The activation of row `r` and lane `l` of the 128 columns that point `n` computes. -/
def ACTn (c : Dev nD) (n : ℕ) (r : Fin 2048) (l : Fin 128) : EReal :=
  if h : n < cfg0.N then
    ActB (iblk m c 0 ⟨n, h⟩) (iblk m c 1 ⟨n, h⟩) (iblk m c 2 ⟨n, h⟩) (iblk m c 3 ⟨n, h⟩) (iblk m c 4 ⟨n, h⟩) (iblk m c 5 ⟨n, h⟩)
      (iblk m c 6 ⟨n, h⟩) (iblk m c 7 ⟨n, h⟩) r l
  else 0

theorem ACTn_val (c : Dev nD) (t : Fin cfg0.N) (r : Fin 2048) (l : Fin 128) :
    ACTn m c t.val r l
      = ActB (iblk m c 0 t) (iblk m c 1 t) (iblk m c 2 t) (iblk m c 3 t) (iblk m c 4 t) (iblk m c 5 t) (iblk m c 6 t) (iblk m c 7 t) r l :=
  dif_pos t.isLt

/-- The largest magnitude of lane `l` of row `r` over the first `n` points (0 before the first). -/
def AMn (c : Dev nD) : ℕ → Fin 2048 → Fin 128 → EReal
  | 0, _, _ => 0
  | n + 1, r, l => max (AMn c n r l) (max (ACTn m c n r l) (-ACTn m c n r l))

/-- Before point `n`: the slabs of the earlier points hold their activations, and the running maxima are those of the
    earlier points. -/
def Inv (c : Dev nD) (n : ℕ) (d0 : Vec Ideal S37x2048x128 .f32) (d1 : Vec Ideal S2048x128 .f32) : Prop :=
  (∀ s : Fin 37, s.val < n → ∀ r l, d0 (ix3 s r l) = ACTn m c s.val r l) ∧ ∀ r l, d1 (ix2 r l) = AMn m c (min n 37) r l

theorem inv_first (c : Dev nD) (d0 : Vec Ideal S37x2048x128 .f32) (d1 : Vec Ideal S2048x128 .f32)
    (e0 : ∀ (s : Fin 37) (r : Fin 2048) (l : Fin 128), s.val = 0 → d0 (ix3 s r l) = ACTn m c 0 r l)
    (e1 : ∀ (r : Fin 2048) (l : Fin 128), d1 (ix2 r l) = max 0 (max (ACTn m c 0 r l) (-ACTn m c 0 r l))) : Inv m c 1 d0 d1 := by
  refine ⟨fun s hs r l => ?_, fun r l => e1 r l⟩
  have h : s.val = 0 := by omega
  rw [e0 s r l h, h]

theorem inv_step (c : Dev nD) (n : ℕ) (hn : n < 37) (d0 d0' : Vec Ideal S37x2048x128 .f32) (d1 d1' : Vec Ideal S2048x128 .f32)
    (h : Inv m c n d0 d1)
    (e0 : ∀ (s : Fin 37) (r : Fin 2048) (l : Fin 128), s.val = n → d0' (ix3 s r l) = ACTn m c n r l)
    (k0 : ∀ (s : Fin 37) (r : Fin 2048) (l : Fin 128), s.val ≠ n → d0' (ix3 s r l) = d0 (ix3 s r l))
    (e1 : ∀ (r : Fin 2048) (l : Fin 128), d1' (ix2 r l) = max (d1 (ix2 r l)) (max (ACTn m c n r l) (-ACTn m c n r l))) :
    Inv m c (n + 1) d0' d1' := by
  refine ⟨fun s hs r l => ?_, fun r l => ?_⟩
  · by_cases hsn : s.val = n
    · rw [e0 s r l hsn, hsn]
    · rw [k0 s r l hsn, h.1 s (by omega) r l]
  · rw [e1 r l, h.2 r l, Nat.min_eq_left hn.le, Nat.min_eq_left (Nat.succ_le_of_lt hn)]; rfl

theorem inv_keep (c : Dev nD) (n : ℕ) (hn : 37 ≤ n) (d0 : Vec Ideal S37x2048x128 .f32) (d1 : Vec Ideal S2048x128 .f32)
    (h : Inv m c n d0 d1) : Inv m c (n + 1) d0 d1 := by
  refine ⟨fun s hs r l => h.1 s (by have := s.isLt; omega) r l, fun r l => ?_⟩
  rw [h.2 r l, Nat.min_eq_right hn, Nat.min_eq_right (Nat.le_succ_of_le hn)]

/-- The scale of row `R` of the activations. -/
def scRow (c : Dev nD) (R : Fin 2048) : EReal := scOf fun l : Fin 128 => AMn m c 37 R l

/-- The row of the array that row `k` of point `t`'s output block is. -/
def rowOf (t k : ℕ) : Fin 2048 := ⟨(256 * (t - 37) + k) % 2048, Nat.mod_lt _ (by norm_num)⟩

/-- The block of codes written at point `t`. -/
def codeBlk (c : Dev nD) (t : ℕ) (y : S256x4736.Idx) : EReal :=
  codeOf (ACTn m c ((y 1).val / 128) (rowOf t (y 0).val) ⟨(y 1).val % 128, Nat.mod_lt _ (by norm_num)⟩) (scRow m c (rowOf t (y 0).val))

/-- The block of scales written at point `t`, 128 to a line. -/
def scaleBlk (c : Dev nD) (t : ℕ) (y : S1x2x128.Idx) : EReal := scRow m c (rowOf t (128 * (y 1).val + (y 2).val))

/-- The block of scales written at point `t`, one to a row. -/
def laneBlk (c : Dev nD) (t : ℕ) (y : S256x128.Idx) : EReal := scRow m c (rowOf t (y 0).val)

theorem scAt_inv (c : Dev nD) (t : ℕ) (ht : 37 ≤ t) (d0 : Vec Ideal S37x2048x128 .f32) (d1 : Vec Ideal S2048x128 .f32)
    (h : Inv m c t d0 d1) (base : ℕ) (hb : base + 256 ≤ 2048) (hbase : base = 256 * (t - 37)) (r : Fin 256) :
    scAt d1 base hb r = scRow m c (rowOf t r.val) := by
  unfold scAt scRow
  refine congrArg scOf (funext fun l => ?_)
  rw [h.2 _ l, Nat.min_eq_right ht]
  refine congrFun (congrArg _ (Fin.ext ?_)) l
  show base + r.val = (256 * (t - 37) + r.val) % 2048
  rw [← hbase, Nat.mod_eq_of_lt (by have := r.isLt; omega)]

theorem codeAt_inv (c : Dev nD) (t : ℕ) (ht : 37 ≤ t) (d0 : Vec Ideal S37x2048x128 .f32) (d1 : Vec Ideal S2048x128 .f32)
    (h : Inv m c t d0 d1) (base : ℕ) (hb : base + 256 ≤ 2048) (hbase : base = 256 * (t - 37)) (r : Fin 256) (n : Fin 4736) :
    codeAt d0 d1 base hb r n
      = codeOf (ACTn m c (n.val / 128) (rowOf t r.val) ⟨n.val % 128, Nat.mod_lt _ (by norm_num)⟩) (scRow m c (rowOf t r.val)) := by
  unfold codeAt
  rw [scAt_inv m c t ht d0 d1 h base hb hbase r, h.1 _ (by have := n.isLt; show n.val / 128 < t; omega)]
  have e : (⟨base + r.val, by have := r.isLt; omega⟩ : Fin 2048) = rowOf t r.val := Fin.ext (by
    show base + r.val = (256 * (t - 37) + r.val) % 2048
    rw [← hbase, Nat.mod_eq_of_lt (by have := r.isLt; omega)])
  rw [e]

/-! ## The grid -/

theorem coords0 (t : Fin cfg0.N) : (grid0.coords t 0).val = t.val := by
  have ht : t.val < 45 := Nat.lt_of_lt_of_eq t.isLt N_0
  have e0 : (grid0.coords t 0).val = t.val / 1 % 45 := Pipeline.Grid.coords_val t 0 (by decide) rfl
  rw [e0, Nat.div_one, Nat.mod_eq_of_lt ht]

theorem off9_eq : ∀ t : Fin cfg0.N, 37 ≤ t.val → k0_off9 (grid0.coords t) 0 = 256 * (t.val - 37) :=
  (by decide +kernel : ∀ t : Fin grid0.N, 37 ≤ t.val → k0_off9 (grid0.coords t) 0 = 256 * (t.val - 37))

theorem idle8 : ∀ t : Fin cfg0.N, cfg0.idle 8 (grid0.coords t) = decide (t.val < 37) :=
  (by decide +kernel : ∀ t : Fin grid0.N, cfg0.idle 8 (grid0.coords t) = decide (t.val < 37))
theorem idle9 : ∀ t : Fin cfg0.N, cfg0.idle 9 (grid0.coords t) = decide (t.val < 37) :=
  (by decide +kernel : ∀ t : Fin grid0.N, cfg0.idle 9 (grid0.coords t) = decide (t.val < 37))
theorem idle10 : ∀ t : Fin cfg0.N, cfg0.idle 10 (grid0.coords t) = decide (t.val < 37) :=
  (by decide +kernel : ∀ t : Fin grid0.N, cfg0.idle 10 (grid0.coords t) = decide (t.val < 37))
theorem flush8 : ∀ t : Fin cfg0.N, (cfg0.win 8).flush t = decide (37 ≤ t.val) :=
  (by decide +kernel : ∀ t : Fin grid0.N, (cfg0.win 8).flush t = decide (37 ≤ t.val))
theorem flush9 : ∀ t : Fin cfg0.N, (cfg0.win 9).flush t = decide (37 ≤ t.val) :=
  (by decide +kernel : ∀ t : Fin grid0.N, (cfg0.win 9).flush t = decide (37 ≤ t.val))
theorem flush10 : ∀ t : Fin cfg0.N, (cfg0.win 10).flush t = decide (37 ≤ t.val) :=
  (by decide +kernel : ∀ t : Fin grid0.N, (cfg0.win 10).flush t = decide (37 ≤ t.val))

end Cert.UpIdeal.Hand

end
-- ==== Proof.Up.RunA.lean ====
/- The first point of the ideal `ffn_up` kernel, run once. -/
module

public import proofs.«01_k».proof.Proof.Up.Runs

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the two scratch buffers are left holding, as pieces (last first), at the first point: the accumulator is cleared first. With it, the proof that the body
    run from whole buffers at the given contents ends with these pieces written and every other buffer as it was. -/
noncomputable def kernelRun0_A (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : cond0_0 i) (hc1 : cond0_1 i) (hc2 : ¬cond0_2 i)
    (x0 : Vec F S2048x3584 .fp8e4m3) (x1 : Vec F S2048x128 .f32) (x2 : Vec F S1x3584x128 .fp8e4m3) (x3 : Vec F S1x3584x128 .fp8e4m3) (x4 : Vec F S1x3584x128 .fp8e4m3) (x5 : Vec F S1x3584x128 .fp8e4m3) (x6 : Vec F S2x128 .f32) (x7 : Vec F S2x128 .f32) (xs0 : Vec F S37x2048x128 .f32) (xs1 : Vec F S2048x128 .f32) :
    Σ' (LS0 : List (View.Piece (Elt F) S37x2048x128 .f32)), { LS1 : List (View.Piece (Elt F) S2048x128 .f32) //
      ∀ (y8 : Vec F S256x4736 .fp8e4m3) (y9 : Vec F S1x2x128 .f32) (y10 : Vec F S256x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y8 ∗ owns (c : Thread nD τ) arg10 fullShare y9 ∗ owns (c : Thread nD τ) arg11 fullShare y10 ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y8 ∗ owns (c : Thread nD τ) arg10 fullShare y9 ∗ owns (c : Thread nD τ) arg11 fullShare y10 ∗ iprop(arg12.view.loc (c : Thread nD τ) ↦[arg12.view.set]{fullShare} arg12.view.writes (Elt F) (harg12.unread xs0) LS0) ∗ (∃ f, arg13.view.loc (c : Thread nD τ) ↦[arg13.view.set]{fullShare} arg13.view.writes (Elt F) f LS1)) -∗ K ⟨⟩))
          ⊢ wp frame (wpE (defs₀ (F := F)) Variants.none c none) E (cc0_ffn_up i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun y8 y9 y10 E K => ?run⟩
  case run =>
    simp only [cc0_ffn_up_eq_skeleton]; unfold cc0_ffn_up_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hfs0; obtain rfl := harg13.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]; · iexact HS0
    iexists _; iexact HS1

end Cert.UpIdeal.Hand

end
-- ==== Proof.Up.PiecesA.lean ====
module

public import proofs.«01_k».proof.Proof.Up.RunA
public import proofs.«01_k».proof.Proof.Up.Act
public import Idealize.ShloMosaic.Lib.Pipeline.ReadBack

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The first stored block of the running maximum is zero everywhere. -/
theorem pay1_apply (y : S2048x128.Idx) : k0_pay1 (F := Ideal) y = 0 := by
  obtain ⟨b, d, rfl⟩ : ∃ (b : Fin 2048) (d : Fin 128), y = ix2 b d := ⟨y 0, y 1, eq_ix2 y⟩
  pointwise [k0_pay1]

set_option maxHeartbeats 4000000 in
theorem actA_pieces (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : cond0_0 i) (hc1 : cond0_1 i) (hc2 : ¬cond0_2 i)
    (x0 : Vec Ideal S2048x3584 .fp8e4m3) (x1 : Vec Ideal S2048x128 .f32) (x2 : Vec Ideal S1x3584x128 .fp8e4m3) (x3 : Vec Ideal S1x3584x128 .fp8e4m3) (x4 : Vec Ideal S1x3584x128 .fp8e4m3) (x5 : Vec Ideal S1x3584x128 .fp8e4m3) (x6 : Vec Ideal S2x128 .f32) (x7 : Vec Ideal S2x128 .f32) (xs0 : Vec Ideal S37x2048x128 .f32) (xs1 : Vec Ideal S2048x128 .f32) :
    ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).1, ∀ x : p.1.shape.Idx, p.2 x = ActB x0 x1 x2 x3 x4 x5 x6 x7 (p.1.emb x 1) (p.1.emb x 2) := by
  unfold kernelRun0_A
  dsimp only
  simp only [List.forall_mem_cons]
  refine ⟨?_, ?_, ?_, ?_, ?_, ?_, ?_, ?_, fun _ h => absurd h List.not_mem_nil⟩
  all_goals intro x
  · obtain ⟨a, b, d, rfl⟩ : ∃ (a : Fin 1) (b : Fin 256) (d : Fin 128), x = ix3 a b d := ⟨x 0, x 1, x 2, eq_ix3 x⟩
    show k0_pay7 (View.readAt (Elt Ideal) arg5.view (Rect.unit ![0, 0, 0] ![1, 3584, 128] inb_S1x3584x128_S1x3584x128_0_0_0).toLoadRect (harg5.unread x4)) (View.readAt (Elt Ideal) arg6.view (Rect.unit ![0, 0, 0] ![1, 3584, 128] inb_S1x3584x128_S1x3584x128_0_0_0).toLoadRect (harg6.unread x5)) (View.readAt (Elt Ideal) arg1.view (Rect.unit ![1792, 0] ![256, 3584] inb_S2048x3584_S256x3584_1792_0).toLoadRect (harg1.unread x0)) (View.readAt (Elt Ideal) arg2.view (Rect.unit ![1792, 0] ![256, 128] inb_S2048x128_S256x128_1792_0).toLoadRect (harg2.unread x1)) (View.readAt (Elt Ideal) arg7.view (Rect.unit ![1, 0] ![1, 128] inb_S2x128_S1x128_1_0).toLoadRect (harg7.unread x6)) (View.readAt (Elt Ideal) arg8.view (Rect.unit ![1, 0] ![1, 128] inb_S2x128_S1x128_1_0).toLoadRect (harg8.unread x7)) (ix3 a b d) = _
    rw [pay7_apply, act_hi x0 x1 x2 x3 x4 x5 x6 x7 _ _ _ _ _ _ ⟨1792 + b.val, by omega⟩ b d (by show ¬ (1792 + b.val < 256); omega)
      (fun k => rd3 harg5 _ _ _ _ _ _ _ _ _  rfl (Nat.zero_add _) (Nat.zero_add _)) (fun k => rd3 harg6 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ (ActB x0 x1 x2 x3 x4 x5 x6 x7) (Fin.ext ?_) (Fin.ext ?_)
    · show 1792 + b.val = 1792 + 1 * b.val
      omega
    · show d.val = 0 + 1 * d.val
      omega
  · obtain ⟨a, b, d, rfl⟩ : ∃ (a : Fin 1) (b : Fin 256) (d : Fin 128), x = ix3 a b d := ⟨x 0, x 1, x 2, eq_ix3 x⟩
    show k0_pay7 (View.readAt (Elt Ideal) arg5.view (Rect.unit ![0, 0, 0] ![1, 3584, 128] inb_S1x3584x128_S1x3584x128_0_0_0).toLoadRect (harg5.unread x4)) (View.readAt (Elt Ideal) arg6.view (Rect.unit ![0, 0, 0] ![1, 3584, 128] inb_S1x3584x128_S1x3584x128_0_0_0).toLoadRect (harg6.unread x5)) (View.readAt (Elt Ideal) arg1.view (Rect.unit ![1536, 0] ![256, 3584] inb_S2048x3584_S256x3584_1536_0).toLoadRect (harg1.unread x0)) (View.readAt (Elt Ideal) arg2.view (Rect.unit ![1536, 0] ![256, 128] inb_S2048x128_S256x128_1536_0).toLoadRect (harg2.unread x1)) (View.readAt (Elt Ideal) arg7.view (Rect.unit ![1, 0] ![1, 128] inb_S2x128_S1x128_1_0).toLoadRect (harg7.unread x6)) (View.readAt (Elt Ideal) arg8.view (Rect.unit ![1, 0] ![1, 128] inb_S2x128_S1x128_1_0).toLoadRect (harg8.unread x7)) (ix3 a b d) = _
    rw [pay7_apply, act_hi x0 x1 x2 x3 x4 x5 x6 x7 _ _ _ _ _ _ ⟨1536 + b.val, by omega⟩ b d (by show ¬ (1536 + b.val < 256); omega)
      (fun k => rd3 harg5 _ _ _ _ _ _ _ _ _  rfl (Nat.zero_add _) (Nat.zero_add _)) (fun k => rd3 harg6 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ (ActB x0 x1 x2 x3 x4 x5 x6 x7) (Fin.ext ?_) (Fin.ext ?_)
    · show 1536 + b.val = 1536 + 1 * b.val
      omega
    · show d.val = 0 + 1 * d.val
      omega
  · obtain ⟨a, b, d, rfl⟩ : ∃ (a : Fin 1) (b : Fin 256) (d : Fin 128), x = ix3 a b d := ⟨x 0, x 1, x 2, eq_ix3 x⟩
    show k0_pay7 (View.readAt (Elt Ideal) arg5.view (Rect.unit ![0, 0, 0] ![1, 3584, 128] inb_S1x3584x128_S1x3584x128_0_0_0).toLoadRect (harg5.unread x4)) (View.readAt (Elt Ideal) arg6.view (Rect.unit ![0, 0, 0] ![1, 3584, 128] inb_S1x3584x128_S1x3584x128_0_0_0).toLoadRect (harg6.unread x5)) (View.readAt (Elt Ideal) arg1.view (Rect.unit ![1280, 0] ![256, 3584] inb_S2048x3584_S256x3584_1280_0).toLoadRect (harg1.unread x0)) (View.readAt (Elt Ideal) arg2.view (Rect.unit ![1280, 0] ![256, 128] inb_S2048x128_S256x128_1280_0).toLoadRect (harg2.unread x1)) (View.readAt (Elt Ideal) arg7.view (Rect.unit ![1, 0] ![1, 128] inb_S2x128_S1x128_1_0).toLoadRect (harg7.unread x6)) (View.readAt (Elt Ideal) arg8.view (Rect.unit ![1, 0] ![1, 128] inb_S2x128_S1x128_1_0).toLoadRect (harg8.unread x7)) (ix3 a b d) = _
    rw [pay7_apply, act_hi x0 x1 x2 x3 x4 x5 x6 x7 _ _ _ _ _ _ ⟨1280 + b.val, by omega⟩ b d (by show ¬ (1280 + b.val < 256); omega)
      (fun k => rd3 harg5 _ _ _ _ _ _ _ _ _  rfl (Nat.zero_add _) (Nat.zero_add _)) (fun k => rd3 harg6 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ (ActB x0 x1 x2 x3 x4 x5 x6 x7) (Fin.ext ?_) (Fin.ext ?_)
    · show 1280 + b.val = 1280 + 1 * b.val
      omega
    · show d.val = 0 + 1 * d.val
      omega
  · obtain ⟨a, b, d, rfl⟩ : ∃ (a : Fin 1) (b : Fin 256) (d : Fin 128), x = ix3 a b d := ⟨x 0, x 1, x 2, eq_ix3 x⟩
    show k0_pay7 (View.readAt (Elt Ideal) arg5.view (Rect.unit ![0, 0, 0] ![1, 3584, 128] inb_S1x3584x128_S1x3584x128_0_0_0).toLoadRect (harg5.unread x4)) (View.readAt (Elt Ideal) arg6.view (Rect.unit ![0, 0, 0] ![1, 3584, 128] inb_S1x3584x128_S1x3584x128_0_0_0).toLoadRect (harg6.unread x5)) (View.readAt (Elt Ideal) arg1.view (Rect.unit ![1024, 0] ![256, 3584] inb_S2048x3584_S256x3584_1024_0).toLoadRect (harg1.unread x0)) (View.readAt (Elt Ideal) arg2.view (Rect.unit ![1024, 0] ![256, 128] inb_S2048x128_S256x128_1024_0).toLoadRect (harg2.unread x1)) (View.readAt (Elt Ideal) arg7.view (Rect.unit ![1, 0] ![1, 128] inb_S2x128_S1x128_1_0).toLoadRect (harg7.unread x6)) (View.readAt (Elt Ideal) arg8.view (Rect.unit ![1, 0] ![1, 128] inb_S2x128_S1x128_1_0).toLoadRect (harg8.unread x7)) (ix3 a b d) = _
    rw [pay7_apply, act_hi x0 x1 x2 x3 x4 x5 x6 x7 _ _ _ _ _ _ ⟨1024 + b.val, by omega⟩ b d (by show ¬ (1024 + b.val < 256); omega)
      (fun k => rd3 harg5 _ _ _ _ _ _ _ _ _  rfl (Nat.zero_add _) (Nat.zero_add _)) (fun k => rd3 harg6 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ (ActB x0 x1 x2 x3 x4 x5 x6 x7) (Fin.ext ?_) (Fin.ext ?_)
    · show 1024 + b.val = 1024 + 1 * b.val
      omega
    · show d.val = 0 + 1 * d.val
      omega
  · obtain ⟨a, b, d, rfl⟩ : ∃ (a : Fin 1) (b : Fin 256) (d : Fin 128), x = ix3 a b d := ⟨x 0, x 1, x 2, eq_ix3 x⟩
    show k0_pay7 (View.readAt (Elt Ideal) arg5.view (Rect.unit ![0, 0, 0] ![1, 3584, 128] inb_S1x3584x128_S1x3584x128_0_0_0).toLoadRect (harg5.unread x4)) (View.readAt (Elt Ideal) arg6.view (Rect.unit ![0, 0, 0] ![1, 3584, 128] inb_S1x3584x128_S1x3584x128_0_0_0).toLoadRect (harg6.unread x5)) (View.readAt (Elt Ideal) arg1.view (Rect.unit ![768, 0] ![256, 3584] inb_S2048x3584_S256x3584_768_0).toLoadRect (harg1.unread x0)) (View.readAt (Elt Ideal) arg2.view (Rect.unit ![768, 0] ![256, 128] inb_S2048x128_S256x128_768_0).toLoadRect (harg2.unread x1)) (View.readAt (Elt Ideal) arg7.view (Rect.unit ![1, 0] ![1, 128] inb_S2x128_S1x128_1_0).toLoadRect (harg7.unread x6)) (View.readAt (Elt Ideal) arg8.view (Rect.unit ![1, 0] ![1, 128] inb_S2x128_S1x128_1_0).toLoadRect (harg8.unread x7)) (ix3 a b d) = _
    rw [pay7_apply, act_hi x0 x1 x2 x3 x4 x5 x6 x7 _ _ _ _ _ _ ⟨768 + b.val, by omega⟩ b d (by show ¬ (768 + b.val < 256); omega)
      (fun k => rd3 harg5 _ _ _ _ _ _ _ _ _  rfl (Nat.zero_add _) (Nat.zero_add _)) (fun k => rd3 harg6 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ (ActB x0 x1 x2 x3 x4 x5 x6 x7) (Fin.ext ?_) (Fin.ext ?_)
    · show 768 + b.val = 768 + 1 * b.val
      omega
    · show d.val = 0 + 1 * d.val
      omega
  · obtain ⟨a, b, d, rfl⟩ : ∃ (a : Fin 1) (b : Fin 256) (d : Fin 128), x = ix3 a b d := ⟨x 0, x 1, x 2, eq_ix3 x⟩
    show k0_pay7 (View.readAt (Elt Ideal) arg5.view (Rect.unit ![0, 0, 0] ![1, 3584, 128] inb_S1x3584x128_S1x3584x128_0_0_0).toLoadRect (harg5.unread x4)) (View.readAt (Elt Ideal) arg6.view (Rect.unit ![0, 0, 0] ![1, 3584, 128] inb_S1x3584x128_S1x3584x128_0_0_0).toLoadRect (harg6.unread x5)) (View.readAt (Elt Ideal) arg1.view (Rect.unit ![512, 0] ![256, 3584] inb_S2048x3584_S256x3584_512_0).toLoadRect (harg1.unread x0)) (View.readAt (Elt Ideal) arg2.view (Rect.unit ![512, 0] ![256, 128] inb_S2048x128_S256x128_512_0).toLoadRect (harg2.unread x1)) (View.readAt (Elt Ideal) arg7.view (Rect.unit ![1, 0] ![1, 128] inb_S2x128_S1x128_1_0).toLoadRect (harg7.unread x6)) (View.readAt (Elt Ideal) arg8.view (Rect.unit ![1, 0] ![1, 128] inb_S2x128_S1x128_1_0).toLoadRect (harg8.unread x7)) (ix3 a b d) = _
    rw [pay7_apply, act_hi x0 x1 x2 x3 x4 x5 x6 x7 _ _ _ _ _ _ ⟨512 + b.val, by omega⟩ b d (by show ¬ (512 + b.val < 256); omega)
      (fun k => rd3 harg5 _ _ _ _ _ _ _ _ _  rfl (Nat.zero_add _) (Nat.zero_add _)) (fun k => rd3 harg6 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ (ActB x0 x1 x2 x3 x4 x5 x6 x7) (Fin.ext ?_) (Fin.ext ?_)
    · show 512 + b.val = 512 + 1 * b.val
      omega
    · show d.val = 0 + 1 * d.val
      omega
  · obtain ⟨a, b, d, rfl⟩ : ∃ (a : Fin 1) (b : Fin 256) (d : Fin 128), x = ix3 a b d := ⟨x 0, x 1, x 2, eq_ix3 x⟩
    show k0_pay7 (View.readAt (Elt Ideal) arg5.view (Rect.unit ![0, 0, 0] ![1, 3584, 128] inb_S1x3584x128_S1x3584x128_0_0_0).toLoadRect (harg5.unread x4)) (View.readAt (Elt Ideal) arg6.view (Rect.unit ![0, 0, 0] ![1, 3584, 128] inb_S1x3584x128_S1x3584x128_0_0_0).toLoadRect (harg6.unread x5)) (View.readAt (Elt Ideal) arg1.view (Rect.unit ![256, 0] ![256, 3584] inb_S2048x3584_S256x3584_256_0).toLoadRect (harg1.unread x0)) (View.readAt (Elt Ideal) arg2.view (Rect.unit ![256, 0] ![256, 128] inb_S2048x128_S256x128_256_0).toLoadRect (harg2.unread x1)) (View.readAt (Elt Ideal) arg7.view (Rect.unit ![1, 0] ![1, 128] inb_S2x128_S1x128_1_0).toLoadRect (harg7.unread x6)) (View.readAt (Elt Ideal) arg8.view (Rect.unit ![1, 0] ![1, 128] inb_S2x128_S1x128_1_0).toLoadRect (harg8.unread x7)) (ix3 a b d) = _
    rw [pay7_apply, act_hi x0 x1 x2 x3 x4 x5 x6 x7 _ _ _ _ _ _ ⟨256 + b.val, by omega⟩ b d (by show ¬ (256 + b.val < 256); omega)
      (fun k => rd3 harg5 _ _ _ _ _ _ _ _ _  rfl (Nat.zero_add _) (Nat.zero_add _)) (fun k => rd3 harg6 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ (ActB x0 x1 x2 x3 x4 x5 x6 x7) (Fin.ext ?_) (Fin.ext ?_)
    · show 256 + b.val = 256 + 1 * b.val
      omega
    · show d.val = 0 + 1 * d.val
      omega
  · obtain ⟨a, b, d, rfl⟩ : ∃ (a : Fin 1) (b : Fin 256) (d : Fin 128), x = ix3 a b d := ⟨x 0, x 1, x 2, eq_ix3 x⟩
    show k0_pay7 (View.readAt (Elt Ideal) arg3.view (Rect.unit ![0, 0, 0] ![1, 3584, 128] inb_S1x3584x128_S1x3584x128_0_0_0).toLoadRect (harg3.unread x2)) (View.readAt (Elt Ideal) arg4.view (Rect.unit ![0, 0, 0] ![1, 3584, 128] inb_S1x3584x128_S1x3584x128_0_0_0).toLoadRect (harg4.unread x3)) (View.readAt (Elt Ideal) arg1.view (Rect.unit ![0, 0] ![256, 3584] inb_S2048x3584_S256x3584_0_0).toLoadRect (harg1.unread x0)) (View.readAt (Elt Ideal) arg2.view (Rect.unit ![0, 0] ![256, 128] inb_S2048x128_S256x128_0_0).toLoadRect (harg2.unread x1)) (View.readAt (Elt Ideal) arg7.view (Rect.unit ![0, 0] ![1, 128] inb_S2x128_S1x128_0_0).toLoadRect (harg7.unread x6)) (View.readAt (Elt Ideal) arg8.view (Rect.unit ![0, 0] ![1, 128] inb_S2x128_S1x128_0_0).toLoadRect (harg8.unread x7)) (ix3 a b d) = _
    rw [pay7_apply, act_lo x0 x1 x2 x3 x4 x5 x6 x7 _ _ _ _ _ _ ⟨0 + b.val, by omega⟩ b d (by show 0 + b.val < 256; omega)
      (fun k => rd3 harg3 _ _ _ _ _ _ _ _ _  rfl (Nat.zero_add _) (Nat.zero_add _)) (fun k => rd3 harg4 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ (ActB x0 x1 x2 x3 x4 x5 x6 x7) (Fin.ext ?_) (Fin.ext ?_)
    · show 0 + b.val = 0 + 1 * b.val
      omega
    · show d.val = 0 + 1 * d.val
      omega
set_option maxHeartbeats 4000000 in
theorem maxA_pieces (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : cond0_0 i) (hc1 : cond0_1 i) (hc2 : ¬cond0_2 i)
    (x0 : Vec Ideal S2048x3584 .fp8e4m3) (x1 : Vec Ideal S2048x128 .f32) (x2 : Vec Ideal S1x3584x128 .fp8e4m3) (x3 : Vec Ideal S1x3584x128 .fp8e4m3) (x4 : Vec Ideal S1x3584x128 .fp8e4m3) (x5 : Vec Ideal S1x3584x128 .fp8e4m3) (x6 : Vec Ideal S2x128 .f32) (x7 : Vec Ideal S2x128 .f32) (xs0 : Vec Ideal S37x2048x128 .f32) (xs1 : Vec Ideal S2048x128 .f32) :
    ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.1.take 8, ∀ x : p.1.shape.Idx, p.2 x = max 0 (max (ActB x0 x1 x2 x3 x4 x5 x6 x7 (p.1.emb x 0) (p.1.emb x 1)) (-ActB x0 x1 x2 x3 x4 x5 x6 x7 (p.1.emb x 0) (p.1.emb x 1))) := by
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · intro x
    obtain ⟨b, d, rfl⟩ : ∃ (b : Fin 256) (d : Fin 128), x = ix2 b d := ⟨x 0, x 1, eq_ix2 x⟩
    show k0_pay8 (View.readAt (Elt Ideal) arg5.view (Rect.unit ![0, 0, 0] ![1, 3584, 128] inb_S1x3584x128_S1x3584x128_0_0_0).toLoadRect (harg5.unread x4)) (View.readAt (Elt Ideal) arg6.view (Rect.unit ![0, 0, 0] ![1, 3584, 128] inb_S1x3584x128_S1x3584x128_0_0_0).toLoadRect (harg6.unread x5)) (View.readAt (Elt Ideal) arg1.view (Rect.unit ![1792, 0] ![256, 3584] inb_S2048x3584_S256x3584_1792_0).toLoadRect (harg1.unread x0)) (View.readAt (Elt Ideal) arg2.view (Rect.unit ![1792, 0] ![256, 128] inb_S2048x128_S256x128_1792_0).toLoadRect (harg2.unread x1)) (View.readAt (Elt Ideal) arg7.view (Rect.unit ![1, 0] ![1, 128] inb_S2x128_S1x128_1_0).toLoadRect (harg7.unread x6)) (View.readAt (Elt Ideal) arg8.view (Rect.unit ![1, 0] ![1, 128] inb_S2x128_S1x128_1_0).toLoadRect (harg8.unread x7)) _ (ix2 b d) = _
    rw [pay8_apply, act_hi x0 x1 x2 x3 x4 x5 x6 x7 _ _ _ _ _ _ ⟨1792 + b.val, by omega⟩ b d (by show ¬ (1792 + b.val < 256); omega)
      (fun k => rd3 harg5 _ _ _ _ _ _ _ _ _  rfl (Nat.zero_add _) (Nat.zero_add _)) (fun k => rd3 harg6 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ max ?_ (congrArg (fun z : EReal => max z (-z)) (congrArg₂ (ActB x0 x1 x2 x3 x4 x5 x6 x7) (Fin.ext ?_) (Fin.ext ?_)))
    · unfold kernelRun0_A.sl.v229
      unfold kernelRun0_A.sl.HS1_8
      rw [View.readCov_skip _ _ _ _ _ (by decide)]
      unfold kernelRun0_A.sl.HS1_7
      rw [View.readCov_skip _ _ _ _ _ (by decide)]
      unfold kernelRun0_A.sl.HS1_6
      rw [View.readCov_skip _ _ _ _ _ (by decide)]
      unfold kernelRun0_A.sl.HS1_5
      rw [View.readCov_skip _ _ _ _ _ (by decide)]
      unfold kernelRun0_A.sl.HS1_4
      rw [View.readCov_skip _ _ _ _ _ (by decide)]
      unfold kernelRun0_A.sl.HS1_3
      rw [View.readCov_skip _ _ _ _ _ (by decide)]
      unfold kernelRun0_A.sl.HS1_2
      rw [View.readCov_skip _ _ _ _ _ (by decide)]
      unfold kernelRun0_A.sl.HS1_1
      rw [View.readCov_fill _ _ _ _ _ (fun a => by fin_cases a <;> rfl)]
      exact pay1_apply _
    · show 1792 + b.val = 1792 + 1 * b.val
      omega
    · show d.val = 0 + 1 * d.val
      omega
  · intro x
    obtain ⟨b, d, rfl⟩ : ∃ (b : Fin 256) (d : Fin 128), x = ix2 b d := ⟨x 0, x 1, eq_ix2 x⟩
    show k0_pay8 (View.readAt (Elt Ideal) arg5.view (Rect.unit ![0, 0, 0] ![1, 3584, 128] inb_S1x3584x128_S1x3584x128_0_0_0).toLoadRect (harg5.unread x4)) (View.readAt (Elt Ideal) arg6.view (Rect.unit ![0, 0, 0] ![1, 3584, 128] inb_S1x3584x128_S1x3584x128_0_0_0).toLoadRect (harg6.unread x5)) (View.readAt (Elt Ideal) arg1.view (Rect.unit ![1536, 0] ![256, 3584] inb_S2048x3584_S256x3584_1536_0).toLoadRect (harg1.unread x0)) (View.readAt (Elt Ideal) arg2.view (Rect.unit ![1536, 0] ![256, 128] inb_S2048x128_S256x128_1536_0).toLoadRect (harg2.unread x1)) (View.readAt (Elt Ideal) arg7.view (Rect.unit ![1, 0] ![1, 128] inb_S2x128_S1x128_1_0).toLoadRect (harg7.unread x6)) (View.readAt (Elt Ideal) arg8.view (Rect.unit ![1, 0] ![1, 128] inb_S2x128_S1x128_1_0).toLoadRect (harg8.unread x7)) _ (ix2 b d) = _
    rw [pay8_apply, act_hi x0 x1 x2 x3 x4 x5 x6 x7 _ _ _ _ _ _ ⟨1536 + b.val, by omega⟩ b d (by show ¬ (1536 + b.val < 256); omega)
      (fun k => rd3 harg5 _ _ _ _ _ _ _ _ _  rfl (Nat.zero_add _) (Nat.zero_add _)) (fun k => rd3 harg6 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ max ?_ (congrArg (fun z : EReal => max z (-z)) (congrArg₂ (ActB x0 x1 x2 x3 x4 x5 x6 x7) (Fin.ext ?_) (Fin.ext ?_)))
    · unfold kernelRun0_A.sl.v202
      unfold kernelRun0_A.sl.HS1_7
      rw [View.readCov_skip _ _ _ _ _ (by decide)]
      unfold kernelRun0_A.sl.HS1_6
      rw [View.readCov_skip _ _ _ _ _ (by decide)]
      unfold kernelRun0_A.sl.HS1_5
      rw [View.readCov_skip _ _ _ _ _ (by decide)]
      unfold kernelRun0_A.sl.HS1_4
      rw [View.readCov_skip _ _ _ _ _ (by decide)]
      unfold kernelRun0_A.sl.HS1_3
      rw [View.readCov_skip _ _ _ _ _ (by decide)]
      unfold kernelRun0_A.sl.HS1_2
      rw [View.readCov_skip _ _ _ _ _ (by decide)]
      unfold kernelRun0_A.sl.HS1_1
      rw [View.readCov_fill _ _ _ _ _ (fun a => by fin_cases a <;> rfl)]
      exact pay1_apply _
    · show 1536 + b.val = 1536 + 1 * b.val
      omega
    · show d.val = 0 + 1 * d.val
      omega
  · intro x
    obtain ⟨b, d, rfl⟩ : ∃ (b : Fin 256) (d : Fin 128), x = ix2 b d := ⟨x 0, x 1, eq_ix2 x⟩
    show k0_pay8 (View.readAt (Elt Ideal) arg5.view (Rect.unit ![0, 0, 0] ![1, 3584, 128] inb_S1x3584x128_S1x3584x128_0_0_0).toLoadRect (harg5.unread x4)) (View.readAt (Elt Ideal) arg6.view (Rect.unit ![0, 0, 0] ![1, 3584, 128] inb_S1x3584x128_S1x3584x128_0_0_0).toLoadRect (harg6.unread x5)) (View.readAt (Elt Ideal) arg1.view (Rect.unit ![1280, 0] ![256, 3584] inb_S2048x3584_S256x3584_1280_0).toLoadRect (harg1.unread x0)) (View.readAt (Elt Ideal) arg2.view (Rect.unit ![1280, 0] ![256, 128] inb_S2048x128_S256x128_1280_0).toLoadRect (harg2.unread x1)) (View.readAt (Elt Ideal) arg7.view (Rect.unit ![1, 0] ![1, 128] inb_S2x128_S1x128_1_0).toLoadRect (harg7.unread x6)) (View.readAt (Elt Ideal) arg8.view (Rect.unit ![1, 0] ![1, 128] inb_S2x128_S1x128_1_0).toLoadRect (harg8.unread x7)) _ (ix2 b d) = _
    rw [pay8_apply, act_hi x0 x1 x2 x3 x4 x5 x6 x7 _ _ _ _ _ _ ⟨1280 + b.val, by omega⟩ b d (by show ¬ (1280 + b.val < 256); omega)
      (fun k => rd3 harg5 _ _ _ _ _ _ _ _ _  rfl (Nat.zero_add _) (Nat.zero_add _)) (fun k => rd3 harg6 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ max ?_ (congrArg (fun z : EReal => max z (-z)) (congrArg₂ (ActB x0 x1 x2 x3 x4 x5 x6 x7) (Fin.ext ?_) (Fin.ext ?_)))
    · unfold kernelRun0_A.sl.v175
      unfold kernelRun0_A.sl.HS1_6
      rw [View.readCov_skip _ _ _ _ _ (by decide)]
      unfold kernelRun0_A.sl.HS1_5
      rw [View.readCov_skip _ _ _ _ _ (by decide)]
      unfold kernelRun0_A.sl.HS1_4
      rw [View.readCov_skip _ _ _ _ _ (by decide)]
      unfold kernelRun0_A.sl.HS1_3
      rw [View.readCov_skip _ _ _ _ _ (by decide)]
      unfold kernelRun0_A.sl.HS1_2
      rw [View.readCov_skip _ _ _ _ _ (by decide)]
      unfold kernelRun0_A.sl.HS1_1
      rw [View.readCov_fill _ _ _ _ _ (fun a => by fin_cases a <;> rfl)]
      exact pay1_apply _
    · show 1280 + b.val = 1280 + 1 * b.val
      omega
    · show d.val = 0 + 1 * d.val
      omega
  · intro x
    obtain ⟨b, d, rfl⟩ : ∃ (b : Fin 256) (d : Fin 128), x = ix2 b d := ⟨x 0, x 1, eq_ix2 x⟩
    show k0_pay8 (View.readAt (Elt Ideal) arg5.view (Rect.unit ![0, 0, 0] ![1, 3584, 128] inb_S1x3584x128_S1x3584x128_0_0_0).toLoadRect (harg5.unread x4)) (View.readAt (Elt Ideal) arg6.view (Rect.unit ![0, 0, 0] ![1, 3584, 128] inb_S1x3584x128_S1x3584x128_0_0_0).toLoadRect (harg6.unread x5)) (View.readAt (Elt Ideal) arg1.view (Rect.unit ![1024, 0] ![256, 3584] inb_S2048x3584_S256x3584_1024_0).toLoadRect (harg1.unread x0)) (View.readAt (Elt Ideal) arg2.view (Rect.unit ![1024, 0] ![256, 128] inb_S2048x128_S256x128_1024_0).toLoadRect (harg2.unread x1)) (View.readAt (Elt Ideal) arg7.view (Rect.unit ![1, 0] ![1, 128] inb_S2x128_S1x128_1_0).toLoadRect (harg7.unread x6)) (View.readAt (Elt Ideal) arg8.view (Rect.unit ![1, 0] ![1, 128] inb_S2x128_S1x128_1_0).toLoadRect (harg8.unread x7)) _ (ix2 b d) = _
    rw [pay8_apply, act_hi x0 x1 x2 x3 x4 x5 x6 x7 _ _ _ _ _ _ ⟨1024 + b.val, by omega⟩ b d (by show ¬ (1024 + b.val < 256); omega)
      (fun k => rd3 harg5 _ _ _ _ _ _ _ _ _  rfl (Nat.zero_add _) (Nat.zero_add _)) (fun k => rd3 harg6 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ max ?_ (congrArg (fun z : EReal => max z (-z)) (congrArg₂ (ActB x0 x1 x2 x3 x4 x5 x6 x7) (Fin.ext ?_) (Fin.ext ?_)))
    · unfold kernelRun0_A.sl.v148
      unfold kernelRun0_A.sl.HS1_5
      rw [View.readCov_skip _ _ _ _ _ (by decide)]
      unfold kernelRun0_A.sl.HS1_4
      rw [View.readCov_skip _ _ _ _ _ (by decide)]
      unfold kernelRun0_A.sl.HS1_3
      rw [View.readCov_skip _ _ _ _ _ (by decide)]
      unfold kernelRun0_A.sl.HS1_2
      rw [View.readCov_skip _ _ _ _ _ (by decide)]
      unfold kernelRun0_A.sl.HS1_1
      rw [View.readCov_fill _ _ _ _ _ (fun a => by fin_cases a <;> rfl)]
      exact pay1_apply _
    · show 1024 + b.val = 1024 + 1 * b.val
      omega
    · show d.val = 0 + 1 * d.val
      omega
  · intro x
    obtain ⟨b, d, rfl⟩ : ∃ (b : Fin 256) (d : Fin 128), x = ix2 b d := ⟨x 0, x 1, eq_ix2 x⟩
    show k0_pay8 (View.readAt (Elt Ideal) arg5.view (Rect.unit ![0, 0, 0] ![1, 3584, 128] inb_S1x3584x128_S1x3584x128_0_0_0).toLoadRect (harg5.unread x4)) (View.readAt (Elt Ideal) arg6.view (Rect.unit ![0, 0, 0] ![1, 3584, 128] inb_S1x3584x128_S1x3584x128_0_0_0).toLoadRect (harg6.unread x5)) (View.readAt (Elt Ideal) arg1.view (Rect.unit ![768, 0] ![256, 3584] inb_S2048x3584_S256x3584_768_0).toLoadRect (harg1.unread x0)) (View.readAt (Elt Ideal) arg2.view (Rect.unit ![768, 0] ![256, 128] inb_S2048x128_S256x128_768_0).toLoadRect (harg2.unread x1)) (View.readAt (Elt Ideal) arg7.view (Rect.unit ![1, 0] ![1, 128] inb_S2x128_S1x128_1_0).toLoadRect (harg7.unread x6)) (View.readAt (Elt Ideal) arg8.view (Rect.unit ![1, 0] ![1, 128] inb_S2x128_S1x128_1_0).toLoadRect (harg8.unread x7)) _ (ix2 b d) = _
    rw [pay8_apply, act_hi x0 x1 x2 x3 x4 x5 x6 x7 _ _ _ _ _ _ ⟨768 + b.val, by omega⟩ b d (by show ¬ (768 + b.val < 256); omega)
      (fun k => rd3 harg5 _ _ _ _ _ _ _ _ _  rfl (Nat.zero_add _) (Nat.zero_add _)) (fun k => rd3 harg6 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ max ?_ (congrArg (fun z : EReal => max z (-z)) (congrArg₂ (ActB x0 x1 x2 x3 x4 x5 x6 x7) (Fin.ext ?_) (Fin.ext ?_)))
    · unfold kernelRun0_A.sl.v121
      unfold kernelRun0_A.sl.HS1_4
      rw [View.readCov_skip _ _ _ _ _ (by decide)]
      unfold kernelRun0_A.sl.HS1_3
      rw [View.readCov_skip _ _ _ _ _ (by decide)]
      unfold kernelRun0_A.sl.HS1_2
      rw [View.readCov_skip _ _ _ _ _ (by decide)]
      unfold kernelRun0_A.sl.HS1_1
      rw [View.readCov_fill _ _ _ _ _ (fun a => by fin_cases a <;> rfl)]
      exact pay1_apply _
    · show 768 + b.val = 768 + 1 * b.val
      omega
    · show d.val = 0 + 1 * d.val
      omega
  · intro x
    obtain ⟨b, d, rfl⟩ : ∃ (b : Fin 256) (d : Fin 128), x = ix2 b d := ⟨x 0, x 1, eq_ix2 x⟩
    show k0_pay8 (View.readAt (Elt Ideal) arg5.view (Rect.unit ![0, 0, 0] ![1, 3584, 128] inb_S1x3584x128_S1x3584x128_0_0_0).toLoadRect (harg5.unread x4)) (View.readAt (Elt Ideal) arg6.view (Rect.unit ![0, 0, 0] ![1, 3584, 128] inb_S1x3584x128_S1x3584x128_0_0_0).toLoadRect (harg6.unread x5)) (View.readAt (Elt Ideal) arg1.view (Rect.unit ![512, 0] ![256, 3584] inb_S2048x3584_S256x3584_512_0).toLoadRect (harg1.unread x0)) (View.readAt (Elt Ideal) arg2.view (Rect.unit ![512, 0] ![256, 128] inb_S2048x128_S256x128_512_0).toLoadRect (harg2.unread x1)) (View.readAt (Elt Ideal) arg7.view (Rect.unit ![1, 0] ![1, 128] inb_S2x128_S1x128_1_0).toLoadRect (harg7.unread x6)) (View.readAt (Elt Ideal) arg8.view (Rect.unit ![1, 0] ![1, 128] inb_S2x128_S1x128_1_0).toLoadRect (harg8.unread x7)) _ (ix2 b d) = _
    rw [pay8_apply, act_hi x0 x1 x2 x3 x4 x5 x6 x7 _ _ _ _ _ _ ⟨512 + b.val, by omega⟩ b d (by show ¬ (512 + b.val < 256); omega)
      (fun k => rd3 harg5 _ _ _ _ _ _ _ _ _  rfl (Nat.zero_add _) (Nat.zero_add _)) (fun k => rd3 harg6 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ max ?_ (congrArg (fun z : EReal => max z (-z)) (congrArg₂ (ActB x0 x1 x2 x3 x4 x5 x6 x7) (Fin.ext ?_) (Fin.ext ?_)))
    · unfold kernelRun0_A.sl.v94
      unfold kernelRun0_A.sl.HS1_3
      rw [View.readCov_skip _ _ _ _ _ (by decide)]
      unfold kernelRun0_A.sl.HS1_2
      rw [View.readCov_skip _ _ _ _ _ (by decide)]
      unfold kernelRun0_A.sl.HS1_1
      rw [View.readCov_fill _ _ _ _ _ (fun a => by fin_cases a <;> rfl)]
      exact pay1_apply _
    · show 512 + b.val = 512 + 1 * b.val
      omega
    · show d.val = 0 + 1 * d.val
      omega
  · intro x
    obtain ⟨b, d, rfl⟩ : ∃ (b : Fin 256) (d : Fin 128), x = ix2 b d := ⟨x 0, x 1, eq_ix2 x⟩
    show k0_pay8 (View.readAt (Elt Ideal) arg5.view (Rect.unit ![0, 0, 0] ![1, 3584, 128] inb_S1x3584x128_S1x3584x128_0_0_0).toLoadRect (harg5.unread x4)) (View.readAt (Elt Ideal) arg6.view (Rect.unit ![0, 0, 0] ![1, 3584, 128] inb_S1x3584x128_S1x3584x128_0_0_0).toLoadRect (harg6.unread x5)) (View.readAt (Elt Ideal) arg1.view (Rect.unit ![256, 0] ![256, 3584] inb_S2048x3584_S256x3584_256_0).toLoadRect (harg1.unread x0)) (View.readAt (Elt Ideal) arg2.view (Rect.unit ![256, 0] ![256, 128] inb_S2048x128_S256x128_256_0).toLoadRect (harg2.unread x1)) (View.readAt (Elt Ideal) arg7.view (Rect.unit ![1, 0] ![1, 128] inb_S2x128_S1x128_1_0).toLoadRect (harg7.unread x6)) (View.readAt (Elt Ideal) arg8.view (Rect.unit ![1, 0] ![1, 128] inb_S2x128_S1x128_1_0).toLoadRect (harg8.unread x7)) _ (ix2 b d) = _
    rw [pay8_apply, act_hi x0 x1 x2 x3 x4 x5 x6 x7 _ _ _ _ _ _ ⟨256 + b.val, by omega⟩ b d (by show ¬ (256 + b.val < 256); omega)
      (fun k => rd3 harg5 _ _ _ _ _ _ _ _ _  rfl (Nat.zero_add _) (Nat.zero_add _)) (fun k => rd3 harg6 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ max ?_ (congrArg (fun z : EReal => max z (-z)) (congrArg₂ (ActB x0 x1 x2 x3 x4 x5 x6 x7) (Fin.ext ?_) (Fin.ext ?_)))
    · unfold kernelRun0_A.sl.v67
      unfold kernelRun0_A.sl.HS1_2
      rw [View.readCov_skip _ _ _ _ _ (by decide)]
      unfold kernelRun0_A.sl.HS1_1
      rw [View.readCov_fill _ _ _ _ _ (fun a => by fin_cases a <;> rfl)]
      exact pay1_apply _
    · show 256 + b.val = 256 + 1 * b.val
      omega
    · show d.val = 0 + 1 * d.val
      omega
  · intro x
    obtain ⟨b, d, rfl⟩ : ∃ (b : Fin 256) (d : Fin 128), x = ix2 b d := ⟨x 0, x 1, eq_ix2 x⟩
    show k0_pay8 (View.readAt (Elt Ideal) arg3.view (Rect.unit ![0, 0, 0] ![1, 3584, 128] inb_S1x3584x128_S1x3584x128_0_0_0).toLoadRect (harg3.unread x2)) (View.readAt (Elt Ideal) arg4.view (Rect.unit ![0, 0, 0] ![1, 3584, 128] inb_S1x3584x128_S1x3584x128_0_0_0).toLoadRect (harg4.unread x3)) (View.readAt (Elt Ideal) arg1.view (Rect.unit ![0, 0] ![256, 3584] inb_S2048x3584_S256x3584_0_0).toLoadRect (harg1.unread x0)) (View.readAt (Elt Ideal) arg2.view (Rect.unit ![0, 0] ![256, 128] inb_S2048x128_S256x128_0_0).toLoadRect (harg2.unread x1)) (View.readAt (Elt Ideal) arg7.view (Rect.unit ![0, 0] ![1, 128] inb_S2x128_S1x128_0_0).toLoadRect (harg7.unread x6)) (View.readAt (Elt Ideal) arg8.view (Rect.unit ![0, 0] ![1, 128] inb_S2x128_S1x128_0_0).toLoadRect (harg8.unread x7)) _ (ix2 b d) = _
    rw [pay8_apply, act_lo x0 x1 x2 x3 x4 x5 x6 x7 _ _ _ _ _ _ ⟨0 + b.val, by omega⟩ b d (by show 0 + b.val < 256; omega)
      (fun k => rd3 harg3 _ _ _ _ _ _ _ _ _  rfl (Nat.zero_add _) (Nat.zero_add _)) (fun k => rd3 harg4 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ max ?_ (congrArg (fun z : EReal => max z (-z)) (congrArg₂ (ActB x0 x1 x2 x3 x4 x5 x6 x7) (Fin.ext ?_) (Fin.ext ?_)))
    · unfold kernelRun0_A.sl.v35
      unfold kernelRun0_A.sl.HS1_1
      rw [View.readCov_fill _ _ _ _ _ (fun a => by fin_cases a <;> rfl)]
      exact pay1_apply _
    · show 0 + b.val = 0 + 1 * b.val
      omega
    · show d.val = 0 + 1 * d.val
      omega

end Cert.UpIdeal.Hand

end
-- ==== Proof.Up.ReadA.lean ====
/- What a point of the ideal `ffn_up` kernel leaves in its two scratch arrays (case A). -/
module

public import proofs.«01_k».proof.Proof.Up.PiecesA

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 4000000 in
theorem actA_cover (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : cond0_0 i) (hc1 : cond0_1 i) (hc2 : ¬cond0_2 i)
    (x0 : Vec Ideal S2048x3584 .fp8e4m3) (x1 : Vec Ideal S2048x128 .f32) (x2 : Vec Ideal S1x3584x128 .fp8e4m3) (x3 : Vec Ideal S1x3584x128 .fp8e4m3) (x4 : Vec Ideal S1x3584x128 .fp8e4m3) (x5 : Vec Ideal S1x3584x128 .fp8e4m3) (x6 : Vec Ideal S2x128 .f32) (x7 : Vec Ideal S2x128 .f32) (xs0 : Vec Ideal S37x2048x128 .f32) (xs1 : Vec Ideal S2048x128 .f32) (y : S37x2048x128.Idx) (hy : (y 0).val = (i 0).val) :
    ∃ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).1, y ∈ p.1.set := by
  have h1 : (y 1).val < 2048 := (y 1).isLt
  have h2 : (y 2).val < 128 := (y 2).isLt
  rcases (by omega : (0 ≤ (y 1).val ∧ (y 1).val < 0 + 256) ∨ (256 ≤ (y 1).val ∧ (y 1).val < 256 + 256) ∨ (512 ≤ (y 1).val ∧ (y 1).val < 512 + 256) ∨ (768 ≤ (y 1).val ∧ (y 1).val < 768 + 256) ∨ (1024 ≤ (y 1).val ∧ (y 1).val < 1024 + 256) ∨ (1280 ≤ (y 1).val ∧ (y 1).val < 1280 + 256) ∨ (1536 ≤ (y 1).val ∧ (y 1).val < 1536 + 256) ∨ (1792 ≤ (y 1).val ∧ (y 1).val < 1792 + 256)) with h | h | h | h | h | h | h | h
  · refine ⟨_, (.tail _ (.tail _ (.tail _ (.tail _ (.tail _ (.tail _ (.tail _ (.head _)))))))), (Rect.mem_set_unit (inb := k0_off1_inb i hc1)).2 ?_⟩
    rw [k0_off1_eq i]
    intro a
    match a with
    | 0 => exact ⟨by show (i 0).val ≤ (y 0).val; omega, by show (y 0).val < (i 0).val + 1; omega⟩
    | 1 => exact h
    | 2 => exact ⟨Nat.zero_le _, by show (y 2).val < 0 + 128; omega⟩
  · refine ⟨_, (.tail _ (.tail _ (.tail _ (.tail _ (.tail _ (.tail _ (.head _))))))), (Rect.mem_set_unit (inb := k0_off2_inb i hc1)).2 ?_⟩
    rw [k0_off2_eq i]
    intro a
    match a with
    | 0 => exact ⟨by show (i 0).val ≤ (y 0).val; omega, by show (y 0).val < (i 0).val + 1; omega⟩
    | 1 => exact h
    | 2 => exact ⟨Nat.zero_le _, by show (y 2).val < 0 + 128; omega⟩
  · refine ⟨_, (.tail _ (.tail _ (.tail _ (.tail _ (.tail _ (.head _)))))), (Rect.mem_set_unit (inb := k0_off3_inb i hc1)).2 ?_⟩
    rw [k0_off3_eq i]
    intro a
    match a with
    | 0 => exact ⟨by show (i 0).val ≤ (y 0).val; omega, by show (y 0).val < (i 0).val + 1; omega⟩
    | 1 => exact h
    | 2 => exact ⟨Nat.zero_le _, by show (y 2).val < 0 + 128; omega⟩
  · refine ⟨_, (.tail _ (.tail _ (.tail _ (.tail _ (.head _))))), (Rect.mem_set_unit (inb := k0_off4_inb i hc1)).2 ?_⟩
    rw [k0_off4_eq i]
    intro a
    match a with
    | 0 => exact ⟨by show (i 0).val ≤ (y 0).val; omega, by show (y 0).val < (i 0).val + 1; omega⟩
    | 1 => exact h
    | 2 => exact ⟨Nat.zero_le _, by show (y 2).val < 0 + 128; omega⟩
  · refine ⟨_, (.tail _ (.tail _ (.tail _ (.head _)))), (Rect.mem_set_unit (inb := k0_off5_inb i hc1)).2 ?_⟩
    rw [k0_off5_eq i]
    intro a
    match a with
    | 0 => exact ⟨by show (i 0).val ≤ (y 0).val; omega, by show (y 0).val < (i 0).val + 1; omega⟩
    | 1 => exact h
    | 2 => exact ⟨Nat.zero_le _, by show (y 2).val < 0 + 128; omega⟩
  · refine ⟨_, (.tail _ (.tail _ (.head _))), (Rect.mem_set_unit (inb := k0_off6_inb i hc1)).2 ?_⟩
    rw [k0_off6_eq i]
    intro a
    match a with
    | 0 => exact ⟨by show (i 0).val ≤ (y 0).val; omega, by show (y 0).val < (i 0).val + 1; omega⟩
    | 1 => exact h
    | 2 => exact ⟨Nat.zero_le _, by show (y 2).val < 0 + 128; omega⟩
  · refine ⟨_, (.tail _ (.head _)), (Rect.mem_set_unit (inb := k0_off7_inb i hc1)).2 ?_⟩
    rw [k0_off7_eq i]
    intro a
    match a with
    | 0 => exact ⟨by show (i 0).val ≤ (y 0).val; omega, by show (y 0).val < (i 0).val + 1; omega⟩
    | 1 => exact h
    | 2 => exact ⟨Nat.zero_le _, by show (y 2).val < 0 + 128; omega⟩
  · refine ⟨_, (.head _), (Rect.mem_set_unit (inb := k0_off8_inb i hc1)).2 ?_⟩
    rw [k0_off8_eq i]
    intro a
    match a with
    | 0 => exact ⟨by show (i 0).val ≤ (y 0).val; omega, by show (y 0).val < (i 0).val + 1; omega⟩
    | 1 => exact h
    | 2 => exact ⟨Nat.zero_le _, by show (y 2).val < 0 + 128; omega⟩

set_option maxHeartbeats 4000000 in
theorem actA_miss (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : cond0_0 i) (hc1 : cond0_1 i) (hc2 : ¬cond0_2 i)
    (x0 : Vec Ideal S2048x3584 .fp8e4m3) (x1 : Vec Ideal S2048x128 .f32) (x2 : Vec Ideal S1x3584x128 .fp8e4m3) (x3 : Vec Ideal S1x3584x128 .fp8e4m3) (x4 : Vec Ideal S1x3584x128 .fp8e4m3) (x5 : Vec Ideal S1x3584x128 .fp8e4m3) (x6 : Vec Ideal S2x128 .f32) (x7 : Vec Ideal S2x128 .f32) (xs0 : Vec Ideal S37x2048x128 .f32) (xs1 : Vec Ideal S2048x128 .f32) (y : S37x2048x128.Idx) (hy : (y 0).val ≠ (i 0).val) :
    ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).1, y ∉ p.1.set := by
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · intro h
    have h0 := (Rect.mem_set_unit (inb := k0_off8_inb i hc1)).1 h 0
    rw [k0_off8_eq i] at h0
    have h1 : (i 0).val ≤ (y 0).val := h0.1
    have h2 : (y 0).val < (i 0).val + 1 := h0.2
    omega
  · intro h
    have h0 := (Rect.mem_set_unit (inb := k0_off7_inb i hc1)).1 h 0
    rw [k0_off7_eq i] at h0
    have h1 : (i 0).val ≤ (y 0).val := h0.1
    have h2 : (y 0).val < (i 0).val + 1 := h0.2
    omega
  · intro h
    have h0 := (Rect.mem_set_unit (inb := k0_off6_inb i hc1)).1 h 0
    rw [k0_off6_eq i] at h0
    have h1 : (i 0).val ≤ (y 0).val := h0.1
    have h2 : (y 0).val < (i 0).val + 1 := h0.2
    omega
  · intro h
    have h0 := (Rect.mem_set_unit (inb := k0_off5_inb i hc1)).1 h 0
    rw [k0_off5_eq i] at h0
    have h1 : (i 0).val ≤ (y 0).val := h0.1
    have h2 : (y 0).val < (i 0).val + 1 := h0.2
    omega
  · intro h
    have h0 := (Rect.mem_set_unit (inb := k0_off4_inb i hc1)).1 h 0
    rw [k0_off4_eq i] at h0
    have h1 : (i 0).val ≤ (y 0).val := h0.1
    have h2 : (y 0).val < (i 0).val + 1 := h0.2
    omega
  · intro h
    have h0 := (Rect.mem_set_unit (inb := k0_off3_inb i hc1)).1 h 0
    rw [k0_off3_eq i] at h0
    have h1 : (i 0).val ≤ (y 0).val := h0.1
    have h2 : (y 0).val < (i 0).val + 1 := h0.2
    omega
  · intro h
    have h0 := (Rect.mem_set_unit (inb := k0_off2_inb i hc1)).1 h 0
    rw [k0_off2_eq i] at h0
    have h1 : (i 0).val ≤ (y 0).val := h0.1
    have h2 : (y 0).val < (i 0).val + 1 := h0.2
    omega
  · intro h
    have h0 := (Rect.mem_set_unit (inb := k0_off1_inb i hc1)).1 h 0
    rw [k0_off1_eq i] at h0
    have h1 : (i 0).val ≤ (y 0).val := h0.1
    have h2 : (y 0).val < (i 0).val + 1 := h0.2
    omega

/-- The slab of the point's own step holds the point's activations. -/
theorem actA_read (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : cond0_0 i) (hc1 : cond0_1 i) (hc2 : ¬cond0_2 i)
    (x0 : Vec Ideal S2048x3584 .fp8e4m3) (x1 : Vec Ideal S2048x128 .f32) (x2 : Vec Ideal S1x3584x128 .fp8e4m3) (x3 : Vec Ideal S1x3584x128 .fp8e4m3) (x4 : Vec Ideal S1x3584x128 .fp8e4m3) (x5 : Vec Ideal S1x3584x128 .fp8e4m3) (x6 : Vec Ideal S2x128 .f32) (x7 : Vec Ideal S2x128 .f32) (xs0 : Vec Ideal S37x2048x128 .f32) (xs1 : Vec Ideal S2048x128 .f32) (f : Buf (Elt Ideal) (arg12.view.loc (c : Thread nD τ))) (y : S37x2048x128.Idx) (hy : (y 0).val = (i 0).val) :
    arg12.view.read (Elt Ideal) (arg12.view.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).1) y = ActB x0 x1 x2 x3 x4 x5 x6 x7 (y 1) (y 2) :=
  View.read_writes_apply_of_pieces _ _ (fun y => ActB x0 x1 x2 x3 x4 x5 x6 x7 (y 1) (y 2)) _ (actA_pieces c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1) y (actA_cover c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1 y hy)

/-- The other slabs are left as they were. -/
theorem actA_keep (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : cond0_0 i) (hc1 : cond0_1 i) (hc2 : ¬cond0_2 i)
    (x0 : Vec Ideal S2048x3584 .fp8e4m3) (x1 : Vec Ideal S2048x128 .f32) (x2 : Vec Ideal S1x3584x128 .fp8e4m3) (x3 : Vec Ideal S1x3584x128 .fp8e4m3) (x4 : Vec Ideal S1x3584x128 .fp8e4m3) (x5 : Vec Ideal S1x3584x128 .fp8e4m3) (x6 : Vec Ideal S2x128 .f32) (x7 : Vec Ideal S2x128 .f32) (xs0 : Vec Ideal S37x2048x128 .f32) (xs1 : Vec Ideal S2048x128 .f32) (f : Buf (Elt Ideal) (arg12.view.loc (c : Thread nD τ))) (y : S37x2048x128.Idx) (hy : (y 0).val ≠ (i 0).val) :
    arg12.view.read (Elt Ideal) (arg12.view.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).1) y = arg12.view.read (Elt Ideal) f y :=
  View.read_writes_apply_of_forall_not_mem _ _ y _ (actA_miss c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1 y hy)

set_option maxHeartbeats 4000000 in
theorem maxA_cover (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : cond0_0 i) (hc1 : cond0_1 i) (hc2 : ¬cond0_2 i)
    (x0 : Vec Ideal S2048x3584 .fp8e4m3) (x1 : Vec Ideal S2048x128 .f32) (x2 : Vec Ideal S1x3584x128 .fp8e4m3) (x3 : Vec Ideal S1x3584x128 .fp8e4m3) (x4 : Vec Ideal S1x3584x128 .fp8e4m3) (x5 : Vec Ideal S1x3584x128 .fp8e4m3) (x6 : Vec Ideal S2x128 .f32) (x7 : Vec Ideal S2x128 .f32) (xs0 : Vec Ideal S37x2048x128 .f32) (xs1 : Vec Ideal S2048x128 .f32) (y : S2048x128.Idx) :
    ∃ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.1.take 8, y ∈ p.1.set := by
  have h1 : (y 0).val < 2048 := (y 0).isLt
  have h2 : (y 1).val < 128 := (y 1).isLt
  rcases (by omega : (0 ≤ (y 0).val ∧ (y 0).val < 0 + 256) ∨ (256 ≤ (y 0).val ∧ (y 0).val < 256 + 256) ∨ (512 ≤ (y 0).val ∧ (y 0).val < 512 + 256) ∨ (768 ≤ (y 0).val ∧ (y 0).val < 768 + 256) ∨ (1024 ≤ (y 0).val ∧ (y 0).val < 1024 + 256) ∨ (1280 ≤ (y 0).val ∧ (y 0).val < 1280 + 256) ∨ (1536 ≤ (y 0).val ∧ (y 0).val < 1536 + 256) ∨ (1792 ≤ (y 0).val ∧ (y 0).val < 1792 + 256)) with h | h | h | h | h | h | h | h
  · refine ⟨_, (.tail _ (.tail _ (.tail _ (.tail _ (.tail _ (.tail _ (.tail _ (.head _)))))))), (Rect.mem_set_unit (inb := inb_S2048x128_S256x128_0_0)).2 ?_⟩
    intro a
    match a with
    | 0 => exact h
    | 1 => exact ⟨Nat.zero_le _, by show (y 1).val < 0 + 128; omega⟩
  · refine ⟨_, (.tail _ (.tail _ (.tail _ (.tail _ (.tail _ (.tail _ (.head _))))))), (Rect.mem_set_unit (inb := inb_S2048x128_S256x128_256_0)).2 ?_⟩
    intro a
    match a with
    | 0 => exact h
    | 1 => exact ⟨Nat.zero_le _, by show (y 1).val < 0 + 128; omega⟩
  · refine ⟨_, (.tail _ (.tail _ (.tail _ (.tail _ (.tail _ (.head _)))))), (Rect.mem_set_unit (inb := inb_S2048x128_S256x128_512_0)).2 ?_⟩
    intro a
    match a with
    | 0 => exact h
    | 1 => exact ⟨Nat.zero_le _, by show (y 1).val < 0 + 128; omega⟩
  · refine ⟨_, (.tail _ (.tail _ (.tail _ (.tail _ (.head _))))), (Rect.mem_set_unit (inb := inb_S2048x128_S256x128_768_0)).2 ?_⟩
    intro a
    match a with
    | 0 => exact h
    | 1 => exact ⟨Nat.zero_le _, by show (y 1).val < 0 + 128; omega⟩
  · refine ⟨_, (.tail _ (.tail _ (.tail _ (.head _)))), (Rect.mem_set_unit (inb := inb_S2048x128_S256x128_1024_0)).2 ?_⟩
    intro a
    match a with
    | 0 => exact h
    | 1 => exact ⟨Nat.zero_le _, by show (y 1).val < 0 + 128; omega⟩
  · refine ⟨_, (.tail _ (.tail _ (.head _))), (Rect.mem_set_unit (inb := inb_S2048x128_S256x128_1280_0)).2 ?_⟩
    intro a
    match a with
    | 0 => exact h
    | 1 => exact ⟨Nat.zero_le _, by show (y 1).val < 0 + 128; omega⟩
  · refine ⟨_, (.tail _ (.head _)), (Rect.mem_set_unit (inb := inb_S2048x128_S256x128_1536_0)).2 ?_⟩
    intro a
    match a with
    | 0 => exact h
    | 1 => exact ⟨Nat.zero_le _, by show (y 1).val < 0 + 128; omega⟩
  · refine ⟨_, (.head _), (Rect.mem_set_unit (inb := inb_S2048x128_S256x128_1792_0)).2 ?_⟩
    intro a
    match a with
    | 0 => exact h
    | 1 => exact ⟨Nat.zero_le _, by show (y 1).val < 0 + 128; omega⟩

/-- The running maxima after the point. -/
theorem maxA_read (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : cond0_0 i) (hc1 : cond0_1 i) (hc2 : ¬cond0_2 i)
    (x0 : Vec Ideal S2048x3584 .fp8e4m3) (x1 : Vec Ideal S2048x128 .f32) (x2 : Vec Ideal S1x3584x128 .fp8e4m3) (x3 : Vec Ideal S1x3584x128 .fp8e4m3) (x4 : Vec Ideal S1x3584x128 .fp8e4m3) (x5 : Vec Ideal S1x3584x128 .fp8e4m3) (x6 : Vec Ideal S2x128 .f32) (x7 : Vec Ideal S2x128 .f32) (xs0 : Vec Ideal S37x2048x128 .f32) (xs1 : Vec Ideal S2048x128 .f32) (f : Buf (Elt Ideal) (arg13.view.loc (c : Thread nD τ))) (y : S2048x128.Idx) :
    arg13.view.read (Elt Ideal) (arg13.view.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.1) y = max 0 (max (ActB x0 x1 x2 x3 x4 x5 x6 x7 (y 0) (y 1)) (-ActB x0 x1 x2 x3 x4 x5 x6 x7 (y 0) (y 1))) := by
  rw [← List.take_append_drop 8 (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.1, View.writes_append]
  exact View.read_writes_apply_of_pieces _ _ (fun y => max 0 (max (ActB x0 x1 x2 x3 x4 x5 x6 x7 (y 0) (y 1)) (-ActB x0 x1 x2 x3 x4 x5 x6 x7 (y 0) (y 1)))) _ (maxA_pieces c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1) y (maxA_cover c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1 y)

end Cert.UpIdeal.Hand

end
-- ==== Proof.Up.RunB.lean ====
/- A later point that computes activations of the ideal `ffn_up` kernel, run once. -/
module

public import proofs.«01_k».proof.Proof.Up.Runs

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the two scratch buffers are left holding, as pieces (last first), at a later point before point 37. With it, the proof that the body
    run from whole buffers at the given contents ends with these pieces written and every other buffer as it was. -/
noncomputable def kernelRun0_B (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : ¬cond0_0 i) (hc1 : cond0_1 i) (hc2 : ¬cond0_2 i)
    (x0 : Vec F S2048x3584 .fp8e4m3) (x1 : Vec F S2048x128 .f32) (x2 : Vec F S1x3584x128 .fp8e4m3) (x3 : Vec F S1x3584x128 .fp8e4m3) (x4 : Vec F S1x3584x128 .fp8e4m3) (x5 : Vec F S1x3584x128 .fp8e4m3) (x6 : Vec F S2x128 .f32) (x7 : Vec F S2x128 .f32) (xs0 : Vec F S37x2048x128 .f32) (xs1 : Vec F S2048x128 .f32) :
    Σ' (LS0 : List (View.Piece (Elt F) S37x2048x128 .f32)), { LS1 : List (View.Piece (Elt F) S2048x128 .f32) //
      ∀ (y8 : Vec F S256x4736 .fp8e4m3) (y9 : Vec F S1x2x128 .f32) (y10 : Vec F S256x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y8 ∗ owns (c : Thread nD τ) arg10 fullShare y9 ∗ owns (c : Thread nD τ) arg11 fullShare y10 ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y8 ∗ owns (c : Thread nD τ) arg10 fullShare y9 ∗ owns (c : Thread nD τ) arg11 fullShare y10 ∗ iprop(arg12.view.loc (c : Thread nD τ) ↦[arg12.view.set]{fullShare} arg12.view.writes (Elt F) (harg12.unread xs0) LS0) ∗ (∃ f, arg13.view.loc (c : Thread nD τ) ↦[arg13.view.set]{fullShare} arg13.view.writes (Elt F) f LS1)) -∗ K ⟨⟩))
          ⊢ wp frame (wpE (defs₀ (F := F)) Variants.none c none) E (cc0_ffn_up i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun y8 y9 y10 E K => ?run⟩
  case run =>
    simp only [cc0_ffn_up_eq_skeleton]; unfold cc0_ffn_up_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hfs0; obtain rfl := harg13.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]; · iexact HS0
    iexists _; iexact HS1

end Cert.UpIdeal.Hand

end
-- ==== Proof.Up.PiecesB.lean ====
module

public import proofs.«01_k».proof.Proof.Up.RunB
public import proofs.«01_k».proof.Proof.Up.Act

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 4000000 in
theorem actB_pieces (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : ¬cond0_0 i) (hc1 : cond0_1 i) (hc2 : ¬cond0_2 i)
    (x0 : Vec Ideal S2048x3584 .fp8e4m3) (x1 : Vec Ideal S2048x128 .f32) (x2 : Vec Ideal S1x3584x128 .fp8e4m3) (x3 : Vec Ideal S1x3584x128 .fp8e4m3) (x4 : Vec Ideal S1x3584x128 .fp8e4m3) (x5 : Vec Ideal S1x3584x128 .fp8e4m3) (x6 : Vec Ideal S2x128 .f32) (x7 : Vec Ideal S2x128 .f32) (xs0 : Vec Ideal S37x2048x128 .f32) (xs1 : Vec Ideal S2048x128 .f32) :
    ∀ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).1, ∀ x : p.1.shape.Idx, p.2 x = ActB x0 x1 x2 x3 x4 x5 x6 x7 (p.1.emb x 1) (p.1.emb x 2) := by
  unfold kernelRun0_B
  dsimp only
  simp only [List.forall_mem_cons]
  refine ⟨?_, ?_, ?_, ?_, ?_, ?_, ?_, ?_, fun _ h => absurd h List.not_mem_nil⟩
  all_goals intro x
  · obtain ⟨a, b, d, rfl⟩ : ∃ (a : Fin 1) (b : Fin 256) (d : Fin 128), x = ix3 a b d := ⟨x 0, x 1, x 2, eq_ix3 x⟩
    show k0_pay7 (View.readAt (Elt Ideal) arg5.view (Rect.unit ![0, 0, 0] ![1, 3584, 128] inb_S1x3584x128_S1x3584x128_0_0_0).toLoadRect (harg5.unread x4)) (View.readAt (Elt Ideal) arg6.view (Rect.unit ![0, 0, 0] ![1, 3584, 128] inb_S1x3584x128_S1x3584x128_0_0_0).toLoadRect (harg6.unread x5)) (View.readAt (Elt Ideal) arg1.view (Rect.unit ![1792, 0] ![256, 3584] inb_S2048x3584_S256x3584_1792_0).toLoadRect (harg1.unread x0)) (View.readAt (Elt Ideal) arg2.view (Rect.unit ![1792, 0] ![256, 128] inb_S2048x128_S256x128_1792_0).toLoadRect (harg2.unread x1)) (View.readAt (Elt Ideal) arg7.view (Rect.unit ![1, 0] ![1, 128] inb_S2x128_S1x128_1_0).toLoadRect (harg7.unread x6)) (View.readAt (Elt Ideal) arg8.view (Rect.unit ![1, 0] ![1, 128] inb_S2x128_S1x128_1_0).toLoadRect (harg8.unread x7)) (ix3 a b d) = _
    rw [pay7_apply, act_hi x0 x1 x2 x3 x4 x5 x6 x7 _ _ _ _ _ _ ⟨1792 + b.val, by omega⟩ b d (by show ¬ (1792 + b.val < 256); omega)
      (fun k => rd3 harg5 _ _ _ _ _ _ _ _ _  rfl (Nat.zero_add _) (Nat.zero_add _)) (fun k => rd3 harg6 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ (ActB x0 x1 x2 x3 x4 x5 x6 x7) (Fin.ext ?_) (Fin.ext ?_)
    · show 1792 + b.val = 1792 + 1 * b.val
      omega
    · show d.val = 0 + 1 * d.val
      omega
  · obtain ⟨a, b, d, rfl⟩ : ∃ (a : Fin 1) (b : Fin 256) (d : Fin 128), x = ix3 a b d := ⟨x 0, x 1, x 2, eq_ix3 x⟩
    show k0_pay7 (View.readAt (Elt Ideal) arg5.view (Rect.unit ![0, 0, 0] ![1, 3584, 128] inb_S1x3584x128_S1x3584x128_0_0_0).toLoadRect (harg5.unread x4)) (View.readAt (Elt Ideal) arg6.view (Rect.unit ![0, 0, 0] ![1, 3584, 128] inb_S1x3584x128_S1x3584x128_0_0_0).toLoadRect (harg6.unread x5)) (View.readAt (Elt Ideal) arg1.view (Rect.unit ![1536, 0] ![256, 3584] inb_S2048x3584_S256x3584_1536_0).toLoadRect (harg1.unread x0)) (View.readAt (Elt Ideal) arg2.view (Rect.unit ![1536, 0] ![256, 128] inb_S2048x128_S256x128_1536_0).toLoadRect (harg2.unread x1)) (View.readAt (Elt Ideal) arg7.view (Rect.unit ![1, 0] ![1, 128] inb_S2x128_S1x128_1_0).toLoadRect (harg7.unread x6)) (View.readAt (Elt Ideal) arg8.view (Rect.unit ![1, 0] ![1, 128] inb_S2x128_S1x128_1_0).toLoadRect (harg8.unread x7)) (ix3 a b d) = _
    rw [pay7_apply, act_hi x0 x1 x2 x3 x4 x5 x6 x7 _ _ _ _ _ _ ⟨1536 + b.val, by omega⟩ b d (by show ¬ (1536 + b.val < 256); omega)
      (fun k => rd3 harg5 _ _ _ _ _ _ _ _ _  rfl (Nat.zero_add _) (Nat.zero_add _)) (fun k => rd3 harg6 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ (ActB x0 x1 x2 x3 x4 x5 x6 x7) (Fin.ext ?_) (Fin.ext ?_)
    · show 1536 + b.val = 1536 + 1 * b.val
      omega
    · show d.val = 0 + 1 * d.val
      omega
  · obtain ⟨a, b, d, rfl⟩ : ∃ (a : Fin 1) (b : Fin 256) (d : Fin 128), x = ix3 a b d := ⟨x 0, x 1, x 2, eq_ix3 x⟩
    show k0_pay7 (View.readAt (Elt Ideal) arg5.view (Rect.unit ![0, 0, 0] ![1, 3584, 128] inb_S1x3584x128_S1x3584x128_0_0_0).toLoadRect (harg5.unread x4)) (View.readAt (Elt Ideal) arg6.view (Rect.unit ![0, 0, 0] ![1, 3584, 128] inb_S1x3584x128_S1x3584x128_0_0_0).toLoadRect (harg6.unread x5)) (View.readAt (Elt Ideal) arg1.view (Rect.unit ![1280, 0] ![256, 3584] inb_S2048x3584_S256x3584_1280_0).toLoadRect (harg1.unread x0)) (View.readAt (Elt Ideal) arg2.view (Rect.unit ![1280, 0] ![256, 128] inb_S2048x128_S256x128_1280_0).toLoadRect (harg2.unread x1)) (View.readAt (Elt Ideal) arg7.view (Rect.unit ![1, 0] ![1, 128] inb_S2x128_S1x128_1_0).toLoadRect (harg7.unread x6)) (View.readAt (Elt Ideal) arg8.view (Rect.unit ![1, 0] ![1, 128] inb_S2x128_S1x128_1_0).toLoadRect (harg8.unread x7)) (ix3 a b d) = _
    rw [pay7_apply, act_hi x0 x1 x2 x3 x4 x5 x6 x7 _ _ _ _ _ _ ⟨1280 + b.val, by omega⟩ b d (by show ¬ (1280 + b.val < 256); omega)
      (fun k => rd3 harg5 _ _ _ _ _ _ _ _ _  rfl (Nat.zero_add _) (Nat.zero_add _)) (fun k => rd3 harg6 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ (ActB x0 x1 x2 x3 x4 x5 x6 x7) (Fin.ext ?_) (Fin.ext ?_)
    · show 1280 + b.val = 1280 + 1 * b.val
      omega
    · show d.val = 0 + 1 * d.val
      omega
  · obtain ⟨a, b, d, rfl⟩ : ∃ (a : Fin 1) (b : Fin 256) (d : Fin 128), x = ix3 a b d := ⟨x 0, x 1, x 2, eq_ix3 x⟩
    show k0_pay7 (View.readAt (Elt Ideal) arg5.view (Rect.unit ![0, 0, 0] ![1, 3584, 128] inb_S1x3584x128_S1x3584x128_0_0_0).toLoadRect (harg5.unread x4)) (View.readAt (Elt Ideal) arg6.view (Rect.unit ![0, 0, 0] ![1, 3584, 128] inb_S1x3584x128_S1x3584x128_0_0_0).toLoadRect (harg6.unread x5)) (View.readAt (Elt Ideal) arg1.view (Rect.unit ![1024, 0] ![256, 3584] inb_S2048x3584_S256x3584_1024_0).toLoadRect (harg1.unread x0)) (View.readAt (Elt Ideal) arg2.view (Rect.unit ![1024, 0] ![256, 128] inb_S2048x128_S256x128_1024_0).toLoadRect (harg2.unread x1)) (View.readAt (Elt Ideal) arg7.view (Rect.unit ![1, 0] ![1, 128] inb_S2x128_S1x128_1_0).toLoadRect (harg7.unread x6)) (View.readAt (Elt Ideal) arg8.view (Rect.unit ![1, 0] ![1, 128] inb_S2x128_S1x128_1_0).toLoadRect (harg8.unread x7)) (ix3 a b d) = _
    rw [pay7_apply, act_hi x0 x1 x2 x3 x4 x5 x6 x7 _ _ _ _ _ _ ⟨1024 + b.val, by omega⟩ b d (by show ¬ (1024 + b.val < 256); omega)
      (fun k => rd3 harg5 _ _ _ _ _ _ _ _ _  rfl (Nat.zero_add _) (Nat.zero_add _)) (fun k => rd3 harg6 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ (ActB x0 x1 x2 x3 x4 x5 x6 x7) (Fin.ext ?_) (Fin.ext ?_)
    · show 1024 + b.val = 1024 + 1 * b.val
      omega
    · show d.val = 0 + 1 * d.val
      omega
  · obtain ⟨a, b, d, rfl⟩ : ∃ (a : Fin 1) (b : Fin 256) (d : Fin 128), x = ix3 a b d := ⟨x 0, x 1, x 2, eq_ix3 x⟩
    show k0_pay7 (View.readAt (Elt Ideal) arg5.view (Rect.unit ![0, 0, 0] ![1, 3584, 128] inb_S1x3584x128_S1x3584x128_0_0_0).toLoadRect (harg5.unread x4)) (View.readAt (Elt Ideal) arg6.view (Rect.unit ![0, 0, 0] ![1, 3584, 128] inb_S1x3584x128_S1x3584x128_0_0_0).toLoadRect (harg6.unread x5)) (View.readAt (Elt Ideal) arg1.view (Rect.unit ![768, 0] ![256, 3584] inb_S2048x3584_S256x3584_768_0).toLoadRect (harg1.unread x0)) (View.readAt (Elt Ideal) arg2.view (Rect.unit ![768, 0] ![256, 128] inb_S2048x128_S256x128_768_0).toLoadRect (harg2.unread x1)) (View.readAt (Elt Ideal) arg7.view (Rect.unit ![1, 0] ![1, 128] inb_S2x128_S1x128_1_0).toLoadRect (harg7.unread x6)) (View.readAt (Elt Ideal) arg8.view (Rect.unit ![1, 0] ![1, 128] inb_S2x128_S1x128_1_0).toLoadRect (harg8.unread x7)) (ix3 a b d) = _
    rw [pay7_apply, act_hi x0 x1 x2 x3 x4 x5 x6 x7 _ _ _ _ _ _ ⟨768 + b.val, by omega⟩ b d (by show ¬ (768 + b.val < 256); omega)
      (fun k => rd3 harg5 _ _ _ _ _ _ _ _ _  rfl (Nat.zero_add _) (Nat.zero_add _)) (fun k => rd3 harg6 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ (ActB x0 x1 x2 x3 x4 x5 x6 x7) (Fin.ext ?_) (Fin.ext ?_)
    · show 768 + b.val = 768 + 1 * b.val
      omega
    · show d.val = 0 + 1 * d.val
      omega
  · obtain ⟨a, b, d, rfl⟩ : ∃ (a : Fin 1) (b : Fin 256) (d : Fin 128), x = ix3 a b d := ⟨x 0, x 1, x 2, eq_ix3 x⟩
    show k0_pay7 (View.readAt (Elt Ideal) arg5.view (Rect.unit ![0, 0, 0] ![1, 3584, 128] inb_S1x3584x128_S1x3584x128_0_0_0).toLoadRect (harg5.unread x4)) (View.readAt (Elt Ideal) arg6.view (Rect.unit ![0, 0, 0] ![1, 3584, 128] inb_S1x3584x128_S1x3584x128_0_0_0).toLoadRect (harg6.unread x5)) (View.readAt (Elt Ideal) arg1.view (Rect.unit ![512, 0] ![256, 3584] inb_S2048x3584_S256x3584_512_0).toLoadRect (harg1.unread x0)) (View.readAt (Elt Ideal) arg2.view (Rect.unit ![512, 0] ![256, 128] inb_S2048x128_S256x128_512_0).toLoadRect (harg2.unread x1)) (View.readAt (Elt Ideal) arg7.view (Rect.unit ![1, 0] ![1, 128] inb_S2x128_S1x128_1_0).toLoadRect (harg7.unread x6)) (View.readAt (Elt Ideal) arg8.view (Rect.unit ![1, 0] ![1, 128] inb_S2x128_S1x128_1_0).toLoadRect (harg8.unread x7)) (ix3 a b d) = _
    rw [pay7_apply, act_hi x0 x1 x2 x3 x4 x5 x6 x7 _ _ _ _ _ _ ⟨512 + b.val, by omega⟩ b d (by show ¬ (512 + b.val < 256); omega)
      (fun k => rd3 harg5 _ _ _ _ _ _ _ _ _  rfl (Nat.zero_add _) (Nat.zero_add _)) (fun k => rd3 harg6 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ (ActB x0 x1 x2 x3 x4 x5 x6 x7) (Fin.ext ?_) (Fin.ext ?_)
    · show 512 + b.val = 512 + 1 * b.val
      omega
    · show d.val = 0 + 1 * d.val
      omega
  · obtain ⟨a, b, d, rfl⟩ : ∃ (a : Fin 1) (b : Fin 256) (d : Fin 128), x = ix3 a b d := ⟨x 0, x 1, x 2, eq_ix3 x⟩
    show k0_pay7 (View.readAt (Elt Ideal) arg5.view (Rect.unit ![0, 0, 0] ![1, 3584, 128] inb_S1x3584x128_S1x3584x128_0_0_0).toLoadRect (harg5.unread x4)) (View.readAt (Elt Ideal) arg6.view (Rect.unit ![0, 0, 0] ![1, 3584, 128] inb_S1x3584x128_S1x3584x128_0_0_0).toLoadRect (harg6.unread x5)) (View.readAt (Elt Ideal) arg1.view (Rect.unit ![256, 0] ![256, 3584] inb_S2048x3584_S256x3584_256_0).toLoadRect (harg1.unread x0)) (View.readAt (Elt Ideal) arg2.view (Rect.unit ![256, 0] ![256, 128] inb_S2048x128_S256x128_256_0).toLoadRect (harg2.unread x1)) (View.readAt (Elt Ideal) arg7.view (Rect.unit ![1, 0] ![1, 128] inb_S2x128_S1x128_1_0).toLoadRect (harg7.unread x6)) (View.readAt (Elt Ideal) arg8.view (Rect.unit ![1, 0] ![1, 128] inb_S2x128_S1x128_1_0).toLoadRect (harg8.unread x7)) (ix3 a b d) = _
    rw [pay7_apply, act_hi x0 x1 x2 x3 x4 x5 x6 x7 _ _ _ _ _ _ ⟨256 + b.val, by omega⟩ b d (by show ¬ (256 + b.val < 256); omega)
      (fun k => rd3 harg5 _ _ _ _ _ _ _ _ _  rfl (Nat.zero_add _) (Nat.zero_add _)) (fun k => rd3 harg6 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ (ActB x0 x1 x2 x3 x4 x5 x6 x7) (Fin.ext ?_) (Fin.ext ?_)
    · show 256 + b.val = 256 + 1 * b.val
      omega
    · show d.val = 0 + 1 * d.val
      omega
  · obtain ⟨a, b, d, rfl⟩ : ∃ (a : Fin 1) (b : Fin 256) (d : Fin 128), x = ix3 a b d := ⟨x 0, x 1, x 2, eq_ix3 x⟩
    show k0_pay7 (View.readAt (Elt Ideal) arg3.view (Rect.unit ![0, 0, 0] ![1, 3584, 128] inb_S1x3584x128_S1x3584x128_0_0_0).toLoadRect (harg3.unread x2)) (View.readAt (Elt Ideal) arg4.view (Rect.unit ![0, 0, 0] ![1, 3584, 128] inb_S1x3584x128_S1x3584x128_0_0_0).toLoadRect (harg4.unread x3)) (View.readAt (Elt Ideal) arg1.view (Rect.unit ![0, 0] ![256, 3584] inb_S2048x3584_S256x3584_0_0).toLoadRect (harg1.unread x0)) (View.readAt (Elt Ideal) arg2.view (Rect.unit ![0, 0] ![256, 128] inb_S2048x128_S256x128_0_0).toLoadRect (harg2.unread x1)) (View.readAt (Elt Ideal) arg7.view (Rect.unit ![0, 0] ![1, 128] inb_S2x128_S1x128_0_0).toLoadRect (harg7.unread x6)) (View.readAt (Elt Ideal) arg8.view (Rect.unit ![0, 0] ![1, 128] inb_S2x128_S1x128_0_0).toLoadRect (harg8.unread x7)) (ix3 a b d) = _
    rw [pay7_apply, act_lo x0 x1 x2 x3 x4 x5 x6 x7 _ _ _ _ _ _ ⟨0 + b.val, by omega⟩ b d (by show 0 + b.val < 256; omega)
      (fun k => rd3 harg3 _ _ _ _ _ _ _ _ _  rfl (Nat.zero_add _) (Nat.zero_add _)) (fun k => rd3 harg4 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ (ActB x0 x1 x2 x3 x4 x5 x6 x7) (Fin.ext ?_) (Fin.ext ?_)
    · show 0 + b.val = 0 + 1 * b.val
      omega
    · show d.val = 0 + 1 * d.val
      omega
set_option maxHeartbeats 4000000 in
theorem maxB_pieces (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : ¬cond0_0 i) (hc1 : cond0_1 i) (hc2 : ¬cond0_2 i)
    (x0 : Vec Ideal S2048x3584 .fp8e4m3) (x1 : Vec Ideal S2048x128 .f32) (x2 : Vec Ideal S1x3584x128 .fp8e4m3) (x3 : Vec Ideal S1x3584x128 .fp8e4m3) (x4 : Vec Ideal S1x3584x128 .fp8e4m3) (x5 : Vec Ideal S1x3584x128 .fp8e4m3) (x6 : Vec Ideal S2x128 .f32) (x7 : Vec Ideal S2x128 .f32) (xs0 : Vec Ideal S37x2048x128 .f32) (xs1 : Vec Ideal S2048x128 .f32) :
    ∀ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.1, ∀ x : p.1.shape.Idx, p.2 x = max (xs1 (p.1.emb x)) (max (ActB x0 x1 x2 x3 x4 x5 x6 x7 (p.1.emb x 0) (p.1.emb x 1)) (-ActB x0 x1 x2 x3 x4 x5 x6 x7 (p.1.emb x 0) (p.1.emb x 1))) := by
  unfold kernelRun0_B
  dsimp only
  simp only [List.forall_mem_cons]
  refine ⟨?_, ?_, ?_, ?_, ?_, ?_, ?_, ?_, fun _ h => absurd h List.not_mem_nil⟩
  all_goals intro x
  · obtain ⟨b, d, rfl⟩ : ∃ (b : Fin 256) (d : Fin 128), x = ix2 b d := ⟨x 0, x 1, eq_ix2 x⟩
    show k0_pay8 (View.readAt (Elt Ideal) arg5.view (Rect.unit ![0, 0, 0] ![1, 3584, 128] inb_S1x3584x128_S1x3584x128_0_0_0).toLoadRect (harg5.unread x4)) (View.readAt (Elt Ideal) arg6.view (Rect.unit ![0, 0, 0] ![1, 3584, 128] inb_S1x3584x128_S1x3584x128_0_0_0).toLoadRect (harg6.unread x5)) (View.readAt (Elt Ideal) arg1.view (Rect.unit ![1792, 0] ![256, 3584] inb_S2048x3584_S256x3584_1792_0).toLoadRect (harg1.unread x0)) (View.readAt (Elt Ideal) arg2.view (Rect.unit ![1792, 0] ![256, 128] inb_S2048x128_S256x128_1792_0).toLoadRect (harg2.unread x1)) (View.readAt (Elt Ideal) arg7.view (Rect.unit ![1, 0] ![1, 128] inb_S2x128_S1x128_1_0).toLoadRect (harg7.unread x6)) (View.readAt (Elt Ideal) arg8.view (Rect.unit ![1, 0] ![1, 128] inb_S2x128_S1x128_1_0).toLoadRect (harg8.unread x7)) (View.readAt (Elt Ideal) arg13.view (Rect.unit ![1792, 0] ![256, 128] inb_S2048x128_S256x128_1792_0).toLoadRect (harg13.unread xs1)) (ix2 b d) = _
    rw [pay8_apply, act_hi x0 x1 x2 x3 x4 x5 x6 x7 _ _ _ _ _ _ ⟨1792 + b.val, by omega⟩ b d (by show ¬ (1792 + b.val < 256); omega)
      (fun k => rd3 harg5 _ _ _ _ _ _ _ _ _  rfl (Nat.zero_add _) (Nat.zero_add _)) (fun k => rd3 harg6 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ max (harg13.readAt_unread xs1 _ _) (congrArg (fun z : EReal => max z (-z)) (congrArg₂ (ActB x0 x1 x2 x3 x4 x5 x6 x7) (Fin.ext ?_) (Fin.ext ?_)))
    · show 1792 + b.val = 1792 + 1 * b.val
      omega
    · show d.val = 0 + 1 * d.val
      omega
  · obtain ⟨b, d, rfl⟩ : ∃ (b : Fin 256) (d : Fin 128), x = ix2 b d := ⟨x 0, x 1, eq_ix2 x⟩
    show k0_pay8 (View.readAt (Elt Ideal) arg5.view (Rect.unit ![0, 0, 0] ![1, 3584, 128] inb_S1x3584x128_S1x3584x128_0_0_0).toLoadRect (harg5.unread x4)) (View.readAt (Elt Ideal) arg6.view (Rect.unit ![0, 0, 0] ![1, 3584, 128] inb_S1x3584x128_S1x3584x128_0_0_0).toLoadRect (harg6.unread x5)) (View.readAt (Elt Ideal) arg1.view (Rect.unit ![1536, 0] ![256, 3584] inb_S2048x3584_S256x3584_1536_0).toLoadRect (harg1.unread x0)) (View.readAt (Elt Ideal) arg2.view (Rect.unit ![1536, 0] ![256, 128] inb_S2048x128_S256x128_1536_0).toLoadRect (harg2.unread x1)) (View.readAt (Elt Ideal) arg7.view (Rect.unit ![1, 0] ![1, 128] inb_S2x128_S1x128_1_0).toLoadRect (harg7.unread x6)) (View.readAt (Elt Ideal) arg8.view (Rect.unit ![1, 0] ![1, 128] inb_S2x128_S1x128_1_0).toLoadRect (harg8.unread x7)) (View.readAt (Elt Ideal) arg13.view (Rect.unit ![1536, 0] ![256, 128] inb_S2048x128_S256x128_1536_0).toLoadRect (harg13.unread xs1)) (ix2 b d) = _
    rw [pay8_apply, act_hi x0 x1 x2 x3 x4 x5 x6 x7 _ _ _ _ _ _ ⟨1536 + b.val, by omega⟩ b d (by show ¬ (1536 + b.val < 256); omega)
      (fun k => rd3 harg5 _ _ _ _ _ _ _ _ _  rfl (Nat.zero_add _) (Nat.zero_add _)) (fun k => rd3 harg6 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ max (harg13.readAt_unread xs1 _ _) (congrArg (fun z : EReal => max z (-z)) (congrArg₂ (ActB x0 x1 x2 x3 x4 x5 x6 x7) (Fin.ext ?_) (Fin.ext ?_)))
    · show 1536 + b.val = 1536 + 1 * b.val
      omega
    · show d.val = 0 + 1 * d.val
      omega
  · obtain ⟨b, d, rfl⟩ : ∃ (b : Fin 256) (d : Fin 128), x = ix2 b d := ⟨x 0, x 1, eq_ix2 x⟩
    show k0_pay8 (View.readAt (Elt Ideal) arg5.view (Rect.unit ![0, 0, 0] ![1, 3584, 128] inb_S1x3584x128_S1x3584x128_0_0_0).toLoadRect (harg5.unread x4)) (View.readAt (Elt Ideal) arg6.view (Rect.unit ![0, 0, 0] ![1, 3584, 128] inb_S1x3584x128_S1x3584x128_0_0_0).toLoadRect (harg6.unread x5)) (View.readAt (Elt Ideal) arg1.view (Rect.unit ![1280, 0] ![256, 3584] inb_S2048x3584_S256x3584_1280_0).toLoadRect (harg1.unread x0)) (View.readAt (Elt Ideal) arg2.view (Rect.unit ![1280, 0] ![256, 128] inb_S2048x128_S256x128_1280_0).toLoadRect (harg2.unread x1)) (View.readAt (Elt Ideal) arg7.view (Rect.unit ![1, 0] ![1, 128] inb_S2x128_S1x128_1_0).toLoadRect (harg7.unread x6)) (View.readAt (Elt Ideal) arg8.view (Rect.unit ![1, 0] ![1, 128] inb_S2x128_S1x128_1_0).toLoadRect (harg8.unread x7)) (View.readAt (Elt Ideal) arg13.view (Rect.unit ![1280, 0] ![256, 128] inb_S2048x128_S256x128_1280_0).toLoadRect (harg13.unread xs1)) (ix2 b d) = _
    rw [pay8_apply, act_hi x0 x1 x2 x3 x4 x5 x6 x7 _ _ _ _ _ _ ⟨1280 + b.val, by omega⟩ b d (by show ¬ (1280 + b.val < 256); omega)
      (fun k => rd3 harg5 _ _ _ _ _ _ _ _ _  rfl (Nat.zero_add _) (Nat.zero_add _)) (fun k => rd3 harg6 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ max (harg13.readAt_unread xs1 _ _) (congrArg (fun z : EReal => max z (-z)) (congrArg₂ (ActB x0 x1 x2 x3 x4 x5 x6 x7) (Fin.ext ?_) (Fin.ext ?_)))
    · show 1280 + b.val = 1280 + 1 * b.val
      omega
    · show d.val = 0 + 1 * d.val
      omega
  · obtain ⟨b, d, rfl⟩ : ∃ (b : Fin 256) (d : Fin 128), x = ix2 b d := ⟨x 0, x 1, eq_ix2 x⟩
    show k0_pay8 (View.readAt (Elt Ideal) arg5.view (Rect.unit ![0, 0, 0] ![1, 3584, 128] inb_S1x3584x128_S1x3584x128_0_0_0).toLoadRect (harg5.unread x4)) (View.readAt (Elt Ideal) arg6.view (Rect.unit ![0, 0, 0] ![1, 3584, 128] inb_S1x3584x128_S1x3584x128_0_0_0).toLoadRect (harg6.unread x5)) (View.readAt (Elt Ideal) arg1.view (Rect.unit ![1024, 0] ![256, 3584] inb_S2048x3584_S256x3584_1024_0).toLoadRect (harg1.unread x0)) (View.readAt (Elt Ideal) arg2.view (Rect.unit ![1024, 0] ![256, 128] inb_S2048x128_S256x128_1024_0).toLoadRect (harg2.unread x1)) (View.readAt (Elt Ideal) arg7.view (Rect.unit ![1, 0] ![1, 128] inb_S2x128_S1x128_1_0).toLoadRect (harg7.unread x6)) (View.readAt (Elt Ideal) arg8.view (Rect.unit ![1, 0] ![1, 128] inb_S2x128_S1x128_1_0).toLoadRect (harg8.unread x7)) (View.readAt (Elt Ideal) arg13.view (Rect.unit ![1024, 0] ![256, 128] inb_S2048x128_S256x128_1024_0).toLoadRect (harg13.unread xs1)) (ix2 b d) = _
    rw [pay8_apply, act_hi x0 x1 x2 x3 x4 x5 x6 x7 _ _ _ _ _ _ ⟨1024 + b.val, by omega⟩ b d (by show ¬ (1024 + b.val < 256); omega)
      (fun k => rd3 harg5 _ _ _ _ _ _ _ _ _  rfl (Nat.zero_add _) (Nat.zero_add _)) (fun k => rd3 harg6 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ max (harg13.readAt_unread xs1 _ _) (congrArg (fun z : EReal => max z (-z)) (congrArg₂ (ActB x0 x1 x2 x3 x4 x5 x6 x7) (Fin.ext ?_) (Fin.ext ?_)))
    · show 1024 + b.val = 1024 + 1 * b.val
      omega
    · show d.val = 0 + 1 * d.val
      omega
  · obtain ⟨b, d, rfl⟩ : ∃ (b : Fin 256) (d : Fin 128), x = ix2 b d := ⟨x 0, x 1, eq_ix2 x⟩
    show k0_pay8 (View.readAt (Elt Ideal) arg5.view (Rect.unit ![0, 0, 0] ![1, 3584, 128] inb_S1x3584x128_S1x3584x128_0_0_0).toLoadRect (harg5.unread x4)) (View.readAt (Elt Ideal) arg6.view (Rect.unit ![0, 0, 0] ![1, 3584, 128] inb_S1x3584x128_S1x3584x128_0_0_0).toLoadRect (harg6.unread x5)) (View.readAt (Elt Ideal) arg1.view (Rect.unit ![768, 0] ![256, 3584] inb_S2048x3584_S256x3584_768_0).toLoadRect (harg1.unread x0)) (View.readAt (Elt Ideal) arg2.view (Rect.unit ![768, 0] ![256, 128] inb_S2048x128_S256x128_768_0).toLoadRect (harg2.unread x1)) (View.readAt (Elt Ideal) arg7.view (Rect.unit ![1, 0] ![1, 128] inb_S2x128_S1x128_1_0).toLoadRect (harg7.unread x6)) (View.readAt (Elt Ideal) arg8.view (Rect.unit ![1, 0] ![1, 128] inb_S2x128_S1x128_1_0).toLoadRect (harg8.unread x7)) (View.readAt (Elt Ideal) arg13.view (Rect.unit ![768, 0] ![256, 128] inb_S2048x128_S256x128_768_0).toLoadRect (harg13.unread xs1)) (ix2 b d) = _
    rw [pay8_apply, act_hi x0 x1 x2 x3 x4 x5 x6 x7 _ _ _ _ _ _ ⟨768 + b.val, by omega⟩ b d (by show ¬ (768 + b.val < 256); omega)
      (fun k => rd3 harg5 _ _ _ _ _ _ _ _ _  rfl (Nat.zero_add _) (Nat.zero_add _)) (fun k => rd3 harg6 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ max (harg13.readAt_unread xs1 _ _) (congrArg (fun z : EReal => max z (-z)) (congrArg₂ (ActB x0 x1 x2 x3 x4 x5 x6 x7) (Fin.ext ?_) (Fin.ext ?_)))
    · show 768 + b.val = 768 + 1 * b.val
      omega
    · show d.val = 0 + 1 * d.val
      omega
  · obtain ⟨b, d, rfl⟩ : ∃ (b : Fin 256) (d : Fin 128), x = ix2 b d := ⟨x 0, x 1, eq_ix2 x⟩
    show k0_pay8 (View.readAt (Elt Ideal) arg5.view (Rect.unit ![0, 0, 0] ![1, 3584, 128] inb_S1x3584x128_S1x3584x128_0_0_0).toLoadRect (harg5.unread x4)) (View.readAt (Elt Ideal) arg6.view (Rect.unit ![0, 0, 0] ![1, 3584, 128] inb_S1x3584x128_S1x3584x128_0_0_0).toLoadRect (harg6.unread x5)) (View.readAt (Elt Ideal) arg1.view (Rect.unit ![512, 0] ![256, 3584] inb_S2048x3584_S256x3584_512_0).toLoadRect (harg1.unread x0)) (View.readAt (Elt Ideal) arg2.view (Rect.unit ![512, 0] ![256, 128] inb_S2048x128_S256x128_512_0).toLoadRect (harg2.unread x1)) (View.readAt (Elt Ideal) arg7.view (Rect.unit ![1, 0] ![1, 128] inb_S2x128_S1x128_1_0).toLoadRect (harg7.unread x6)) (View.readAt (Elt Ideal) arg8.view (Rect.unit ![1, 0] ![1, 128] inb_S2x128_S1x128_1_0).toLoadRect (harg8.unread x7)) (View.readAt (Elt Ideal) arg13.view (Rect.unit ![512, 0] ![256, 128] inb_S2048x128_S256x128_512_0).toLoadRect (harg13.unread xs1)) (ix2 b d) = _
    rw [pay8_apply, act_hi x0 x1 x2 x3 x4 x5 x6 x7 _ _ _ _ _ _ ⟨512 + b.val, by omega⟩ b d (by show ¬ (512 + b.val < 256); omega)
      (fun k => rd3 harg5 _ _ _ _ _ _ _ _ _  rfl (Nat.zero_add _) (Nat.zero_add _)) (fun k => rd3 harg6 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ max (harg13.readAt_unread xs1 _ _) (congrArg (fun z : EReal => max z (-z)) (congrArg₂ (ActB x0 x1 x2 x3 x4 x5 x6 x7) (Fin.ext ?_) (Fin.ext ?_)))
    · show 512 + b.val = 512 + 1 * b.val
      omega
    · show d.val = 0 + 1 * d.val
      omega
  · obtain ⟨b, d, rfl⟩ : ∃ (b : Fin 256) (d : Fin 128), x = ix2 b d := ⟨x 0, x 1, eq_ix2 x⟩
    show k0_pay8 (View.readAt (Elt Ideal) arg5.view (Rect.unit ![0, 0, 0] ![1, 3584, 128] inb_S1x3584x128_S1x3584x128_0_0_0).toLoadRect (harg5.unread x4)) (View.readAt (Elt Ideal) arg6.view (Rect.unit ![0, 0, 0] ![1, 3584, 128] inb_S1x3584x128_S1x3584x128_0_0_0).toLoadRect (harg6.unread x5)) (View.readAt (Elt Ideal) arg1.view (Rect.unit ![256, 0] ![256, 3584] inb_S2048x3584_S256x3584_256_0).toLoadRect (harg1.unread x0)) (View.readAt (Elt Ideal) arg2.view (Rect.unit ![256, 0] ![256, 128] inb_S2048x128_S256x128_256_0).toLoadRect (harg2.unread x1)) (View.readAt (Elt Ideal) arg7.view (Rect.unit ![1, 0] ![1, 128] inb_S2x128_S1x128_1_0).toLoadRect (harg7.unread x6)) (View.readAt (Elt Ideal) arg8.view (Rect.unit ![1, 0] ![1, 128] inb_S2x128_S1x128_1_0).toLoadRect (harg8.unread x7)) (View.readAt (Elt Ideal) arg13.view (Rect.unit ![256, 0] ![256, 128] inb_S2048x128_S256x128_256_0).toLoadRect (harg13.unread xs1)) (ix2 b d) = _
    rw [pay8_apply, act_hi x0 x1 x2 x3 x4 x5 x6 x7 _ _ _ _ _ _ ⟨256 + b.val, by omega⟩ b d (by show ¬ (256 + b.val < 256); omega)
      (fun k => rd3 harg5 _ _ _ _ _ _ _ _ _  rfl (Nat.zero_add _) (Nat.zero_add _)) (fun k => rd3 harg6 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ max (harg13.readAt_unread xs1 _ _) (congrArg (fun z : EReal => max z (-z)) (congrArg₂ (ActB x0 x1 x2 x3 x4 x5 x6 x7) (Fin.ext ?_) (Fin.ext ?_)))
    · show 256 + b.val = 256 + 1 * b.val
      omega
    · show d.val = 0 + 1 * d.val
      omega
  · obtain ⟨b, d, rfl⟩ : ∃ (b : Fin 256) (d : Fin 128), x = ix2 b d := ⟨x 0, x 1, eq_ix2 x⟩
    show k0_pay8 (View.readAt (Elt Ideal) arg3.view (Rect.unit ![0, 0, 0] ![1, 3584, 128] inb_S1x3584x128_S1x3584x128_0_0_0).toLoadRect (harg3.unread x2)) (View.readAt (Elt Ideal) arg4.view (Rect.unit ![0, 0, 0] ![1, 3584, 128] inb_S1x3584x128_S1x3584x128_0_0_0).toLoadRect (harg4.unread x3)) (View.readAt (Elt Ideal) arg1.view (Rect.unit ![0, 0] ![256, 3584] inb_S2048x3584_S256x3584_0_0).toLoadRect (harg1.unread x0)) (View.readAt (Elt Ideal) arg2.view (Rect.unit ![0, 0] ![256, 128] inb_S2048x128_S256x128_0_0).toLoadRect (harg2.unread x1)) (View.readAt (Elt Ideal) arg7.view (Rect.unit ![0, 0] ![1, 128] inb_S2x128_S1x128_0_0).toLoadRect (harg7.unread x6)) (View.readAt (Elt Ideal) arg8.view (Rect.unit ![0, 0] ![1, 128] inb_S2x128_S1x128_0_0).toLoadRect (harg8.unread x7)) (View.readAt (Elt Ideal) arg13.view (Rect.unit ![0, 0] ![256, 128] inb_S2048x128_S256x128_0_0).toLoadRect (harg13.unread xs1)) (ix2 b d) = _
    rw [pay8_apply, act_lo x0 x1 x2 x3 x4 x5 x6 x7 _ _ _ _ _ _ ⟨0 + b.val, by omega⟩ b d (by show 0 + b.val < 256; omega)
      (fun k => rd3 harg3 _ _ _ _ _ _ _ _ _  rfl (Nat.zero_add _) (Nat.zero_add _)) (fun k => rd3 harg4 _ _ _ _ _ _ _ _ _  rfl (Nat.zero_add _) (Nat.zero_add _))
      (fun k => rd2 harg1 _ _ _ _ _ _ _  rfl (Nat.zero_add _)) (rd2 harg2 _ _ _ _ _ _ _  rfl (Nat.zero_add _))
      (rd2 harg7 _ _ _ _ _ _ _  rfl (Nat.zero_add _)) (rd2 harg8 _ _ _ _ _ _ _  rfl (Nat.zero_add _))]
    refine congrArg₂ max (harg13.readAt_unread xs1 _ _) (congrArg (fun z : EReal => max z (-z)) (congrArg₂ (ActB x0 x1 x2 x3 x4 x5 x6 x7) (Fin.ext ?_) (Fin.ext ?_)))
    · show 0 + b.val = 0 + 1 * b.val
      omega
    · show d.val = 0 + 1 * d.val
      omega

end Cert.UpIdeal.Hand

end
-- ==== Proof.Up.ReadB.lean ====
/- What a point of the ideal `ffn_up` kernel leaves in its two scratch arrays (case B). -/
module

public import proofs.«01_k».proof.Proof.Up.PiecesB

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 4000000 in
theorem actB_cover (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : ¬cond0_0 i) (hc1 : cond0_1 i) (hc2 : ¬cond0_2 i)
    (x0 : Vec Ideal S2048x3584 .fp8e4m3) (x1 : Vec Ideal S2048x128 .f32) (x2 : Vec Ideal S1x3584x128 .fp8e4m3) (x3 : Vec Ideal S1x3584x128 .fp8e4m3) (x4 : Vec Ideal S1x3584x128 .fp8e4m3) (x5 : Vec Ideal S1x3584x128 .fp8e4m3) (x6 : Vec Ideal S2x128 .f32) (x7 : Vec Ideal S2x128 .f32) (xs0 : Vec Ideal S37x2048x128 .f32) (xs1 : Vec Ideal S2048x128 .f32) (y : S37x2048x128.Idx) (hy : (y 0).val = (i 0).val) :
    ∃ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).1, y ∈ p.1.set := by
  have h1 : (y 1).val < 2048 := (y 1).isLt
  have h2 : (y 2).val < 128 := (y 2).isLt
  rcases (by omega : (0 ≤ (y 1).val ∧ (y 1).val < 0 + 256) ∨ (256 ≤ (y 1).val ∧ (y 1).val < 256 + 256) ∨ (512 ≤ (y 1).val ∧ (y 1).val < 512 + 256) ∨ (768 ≤ (y 1).val ∧ (y 1).val < 768 + 256) ∨ (1024 ≤ (y 1).val ∧ (y 1).val < 1024 + 256) ∨ (1280 ≤ (y 1).val ∧ (y 1).val < 1280 + 256) ∨ (1536 ≤ (y 1).val ∧ (y 1).val < 1536 + 256) ∨ (1792 ≤ (y 1).val ∧ (y 1).val < 1792 + 256)) with h | h | h | h | h | h | h | h
  · refine ⟨_, (.tail _ (.tail _ (.tail _ (.tail _ (.tail _ (.tail _ (.tail _ (.head _)))))))), (Rect.mem_set_unit (inb := k0_off1_inb i hc1)).2 ?_⟩
    rw [k0_off1_eq i]
    intro a
    match a with
    | 0 => exact ⟨by show (i 0).val ≤ (y 0).val; omega, by show (y 0).val < (i 0).val + 1; omega⟩
    | 1 => exact h
    | 2 => exact ⟨Nat.zero_le _, by show (y 2).val < 0 + 128; omega⟩
  · refine ⟨_, (.tail _ (.tail _ (.tail _ (.tail _ (.tail _ (.tail _ (.head _))))))), (Rect.mem_set_unit (inb := k0_off2_inb i hc1)).2 ?_⟩
    rw [k0_off2_eq i]
    intro a
    match a with
    | 0 => exact ⟨by show (i 0).val ≤ (y 0).val; omega, by show (y 0).val < (i 0).val + 1; omega⟩
    | 1 => exact h
    | 2 => exact ⟨Nat.zero_le _, by show (y 2).val < 0 + 128; omega⟩
  · refine ⟨_, (.tail _ (.tail _ (.tail _ (.tail _ (.tail _ (.head _)))))), (Rect.mem_set_unit (inb := k0_off3_inb i hc1)).2 ?_⟩
    rw [k0_off3_eq i]
    intro a
    match a with
    | 0 => exact ⟨by show (i 0).val ≤ (y 0).val; omega, by show (y 0).val < (i 0).val + 1; omega⟩
    | 1 => exact h
    | 2 => exact ⟨Nat.zero_le _, by show (y 2).val < 0 + 128; omega⟩
  · refine ⟨_, (.tail _ (.tail _ (.tail _ (.tail _ (.head _))))), (Rect.mem_set_unit (inb := k0_off4_inb i hc1)).2 ?_⟩
    rw [k0_off4_eq i]
    intro a
    match a with
    | 0 => exact ⟨by show (i 0).val ≤ (y 0).val; omega, by show (y 0).val < (i 0).val + 1; omega⟩
    | 1 => exact h
    | 2 => exact ⟨Nat.zero_le _, by show (y 2).val < 0 + 128; omega⟩
  · refine ⟨_, (.tail _ (.tail _ (.tail _ (.head _)))), (Rect.mem_set_unit (inb := k0_off5_inb i hc1)).2 ?_⟩
    rw [k0_off5_eq i]
    intro a
    match a with
    | 0 => exact ⟨by show (i 0).val ≤ (y 0).val; omega, by show (y 0).val < (i 0).val + 1; omega⟩
    | 1 => exact h
    | 2 => exact ⟨Nat.zero_le _, by show (y 2).val < 0 + 128; omega⟩
  · refine ⟨_, (.tail _ (.tail _ (.head _))), (Rect.mem_set_unit (inb := k0_off6_inb i hc1)).2 ?_⟩
    rw [k0_off6_eq i]
    intro a
    match a with
    | 0 => exact ⟨by show (i 0).val ≤ (y 0).val; omega, by show (y 0).val < (i 0).val + 1; omega⟩
    | 1 => exact h
    | 2 => exact ⟨Nat.zero_le _, by show (y 2).val < 0 + 128; omega⟩
  · refine ⟨_, (.tail _ (.head _)), (Rect.mem_set_unit (inb := k0_off7_inb i hc1)).2 ?_⟩
    rw [k0_off7_eq i]
    intro a
    match a with
    | 0 => exact ⟨by show (i 0).val ≤ (y 0).val; omega, by show (y 0).val < (i 0).val + 1; omega⟩
    | 1 => exact h
    | 2 => exact ⟨Nat.zero_le _, by show (y 2).val < 0 + 128; omega⟩
  · refine ⟨_, (.head _), (Rect.mem_set_unit (inb := k0_off8_inb i hc1)).2 ?_⟩
    rw [k0_off8_eq i]
    intro a
    match a with
    | 0 => exact ⟨by show (i 0).val ≤ (y 0).val; omega, by show (y 0).val < (i 0).val + 1; omega⟩
    | 1 => exact h
    | 2 => exact ⟨Nat.zero_le _, by show (y 2).val < 0 + 128; omega⟩

set_option maxHeartbeats 4000000 in
theorem actB_miss (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : ¬cond0_0 i) (hc1 : cond0_1 i) (hc2 : ¬cond0_2 i)
    (x0 : Vec Ideal S2048x3584 .fp8e4m3) (x1 : Vec Ideal S2048x128 .f32) (x2 : Vec Ideal S1x3584x128 .fp8e4m3) (x3 : Vec Ideal S1x3584x128 .fp8e4m3) (x4 : Vec Ideal S1x3584x128 .fp8e4m3) (x5 : Vec Ideal S1x3584x128 .fp8e4m3) (x6 : Vec Ideal S2x128 .f32) (x7 : Vec Ideal S2x128 .f32) (xs0 : Vec Ideal S37x2048x128 .f32) (xs1 : Vec Ideal S2048x128 .f32) (y : S37x2048x128.Idx) (hy : (y 0).val ≠ (i 0).val) :
    ∀ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).1, y ∉ p.1.set := by
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩
  · intro h
    have h0 := (Rect.mem_set_unit (inb := k0_off8_inb i hc1)).1 h 0
    rw [k0_off8_eq i] at h0
    have h1 : (i 0).val ≤ (y 0).val := h0.1
    have h2 : (y 0).val < (i 0).val + 1 := h0.2
    omega
  · intro h
    have h0 := (Rect.mem_set_unit (inb := k0_off7_inb i hc1)).1 h 0
    rw [k0_off7_eq i] at h0
    have h1 : (i 0).val ≤ (y 0).val := h0.1
    have h2 : (y 0).val < (i 0).val + 1 := h0.2
    omega
  · intro h
    have h0 := (Rect.mem_set_unit (inb := k0_off6_inb i hc1)).1 h 0
    rw [k0_off6_eq i] at h0
    have h1 : (i 0).val ≤ (y 0).val := h0.1
    have h2 : (y 0).val < (i 0).val + 1 := h0.2
    omega
  · intro h
    have h0 := (Rect.mem_set_unit (inb := k0_off5_inb i hc1)).1 h 0
    rw [k0_off5_eq i] at h0
    have h1 : (i 0).val ≤ (y 0).val := h0.1
    have h2 : (y 0).val < (i 0).val + 1 := h0.2
    omega
  · intro h
    have h0 := (Rect.mem_set_unit (inb := k0_off4_inb i hc1)).1 h 0
    rw [k0_off4_eq i] at h0
    have h1 : (i 0).val ≤ (y 0).val := h0.1
    have h2 : (y 0).val < (i 0).val + 1 := h0.2
    omega
  · intro h
    have h0 := (Rect.mem_set_unit (inb := k0_off3_inb i hc1)).1 h 0
    rw [k0_off3_eq i] at h0
    have h1 : (i 0).val ≤ (y 0).val := h0.1
    have h2 : (y 0).val < (i 0).val + 1 := h0.2
    omega
  · intro h
    have h0 := (Rect.mem_set_unit (inb := k0_off2_inb i hc1)).1 h 0
    rw [k0_off2_eq i] at h0
    have h1 : (i 0).val ≤ (y 0).val := h0.1
    have h2 : (y 0).val < (i 0).val + 1 := h0.2
    omega
  · intro h
    have h0 := (Rect.mem_set_unit (inb := k0_off1_inb i hc1)).1 h 0
    rw [k0_off1_eq i] at h0
    have h1 : (i 0).val ≤ (y 0).val := h0.1
    have h2 : (y 0).val < (i 0).val + 1 := h0.2
    omega

/-- The slab of the point's own step holds the point's activations. -/
theorem actB_read (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : ¬cond0_0 i) (hc1 : cond0_1 i) (hc2 : ¬cond0_2 i)
    (x0 : Vec Ideal S2048x3584 .fp8e4m3) (x1 : Vec Ideal S2048x128 .f32) (x2 : Vec Ideal S1x3584x128 .fp8e4m3) (x3 : Vec Ideal S1x3584x128 .fp8e4m3) (x4 : Vec Ideal S1x3584x128 .fp8e4m3) (x5 : Vec Ideal S1x3584x128 .fp8e4m3) (x6 : Vec Ideal S2x128 .f32) (x7 : Vec Ideal S2x128 .f32) (xs0 : Vec Ideal S37x2048x128 .f32) (xs1 : Vec Ideal S2048x128 .f32) (f : Buf (Elt Ideal) (arg12.view.loc (c : Thread nD τ))) (y : S37x2048x128.Idx) (hy : (y 0).val = (i 0).val) :
    arg12.view.read (Elt Ideal) (arg12.view.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).1) y = ActB x0 x1 x2 x3 x4 x5 x6 x7 (y 1) (y 2) :=
  View.read_writes_apply_of_pieces _ _ (fun y => ActB x0 x1 x2 x3 x4 x5 x6 x7 (y 1) (y 2)) _ (actB_pieces c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1) y (actB_cover c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1 y hy)

/-- The other slabs are left as they were. -/
theorem actB_keep (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : ¬cond0_0 i) (hc1 : cond0_1 i) (hc2 : ¬cond0_2 i)
    (x0 : Vec Ideal S2048x3584 .fp8e4m3) (x1 : Vec Ideal S2048x128 .f32) (x2 : Vec Ideal S1x3584x128 .fp8e4m3) (x3 : Vec Ideal S1x3584x128 .fp8e4m3) (x4 : Vec Ideal S1x3584x128 .fp8e4m3) (x5 : Vec Ideal S1x3584x128 .fp8e4m3) (x6 : Vec Ideal S2x128 .f32) (x7 : Vec Ideal S2x128 .f32) (xs0 : Vec Ideal S37x2048x128 .f32) (xs1 : Vec Ideal S2048x128 .f32) (f : Buf (Elt Ideal) (arg12.view.loc (c : Thread nD τ))) (y : S37x2048x128.Idx) (hy : (y 0).val ≠ (i 0).val) :
    arg12.view.read (Elt Ideal) (arg12.view.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).1) y = arg12.view.read (Elt Ideal) f y :=
  View.read_writes_apply_of_forall_not_mem _ _ y _ (actB_miss c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1 y hy)

theorem maxB_cover (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : ¬cond0_0 i) (hc1 : cond0_1 i) (hc2 : ¬cond0_2 i)
    (x0 : Vec Ideal S2048x3584 .fp8e4m3) (x1 : Vec Ideal S2048x128 .f32) (x2 : Vec Ideal S1x3584x128 .fp8e4m3) (x3 : Vec Ideal S1x3584x128 .fp8e4m3) (x4 : Vec Ideal S1x3584x128 .fp8e4m3) (x5 : Vec Ideal S1x3584x128 .fp8e4m3) (x6 : Vec Ideal S2x128 .f32) (x7 : Vec Ideal S2x128 .f32) (xs0 : Vec Ideal S37x2048x128 .f32) (xs1 : Vec Ideal S2048x128 .f32) (y : S2048x128.Idx) :
    ∃ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.1, y ∈ p.1.set :=
  View.cover_of_tiledL (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.1 S256x128.size (by sl_kernel_rfl) y

/-- The running maxima after the point. -/
theorem maxB_read (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : ¬cond0_0 i) (hc1 : cond0_1 i) (hc2 : ¬cond0_2 i)
    (x0 : Vec Ideal S2048x3584 .fp8e4m3) (x1 : Vec Ideal S2048x128 .f32) (x2 : Vec Ideal S1x3584x128 .fp8e4m3) (x3 : Vec Ideal S1x3584x128 .fp8e4m3) (x4 : Vec Ideal S1x3584x128 .fp8e4m3) (x5 : Vec Ideal S1x3584x128 .fp8e4m3) (x6 : Vec Ideal S2x128 .f32) (x7 : Vec Ideal S2x128 .f32) (xs0 : Vec Ideal S37x2048x128 .f32) (xs1 : Vec Ideal S2048x128 .f32) (f : Buf (Elt Ideal) (arg13.view.loc (c : Thread nD τ))) (y : S2048x128.Idx) :
    arg13.view.read (Elt Ideal) (arg13.view.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.1) y = max (xs1 y) (max (ActB x0 x1 x2 x3 x4 x5 x6 x7 (y 0) (y 1)) (-ActB x0 x1 x2 x3 x4 x5 x6 x7 (y 0) (y 1))) := by
  exact View.read_writes_apply_of_pieces _ _ (fun y => max (xs1 y) (max (ActB x0 x1 x2 x3 x4 x5 x6 x7 (y 0) (y 1)) (-ActB x0 x1 x2 x3 x4 x5 x6 x7 (y 0) (y 1)))) _ (maxB_pieces c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1) y (maxB_cover c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1 y)

end Cert.UpIdeal.Hand

end
-- ==== Proof.Up.ReadC.lean ====
/- What a quantising point of the ideal `ffn_up` kernel leaves in its three output blocks. -/
module

public import proofs.«01_k».proof.Proof.Up.PiecesC

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem code_cover (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : ¬cond0_0 i) (hc1 : ¬cond0_1 i) (hc2 : cond0_2 i)
    (x0 : Vec Ideal S2048x3584 .fp8e4m3) (x1 : Vec Ideal S2048x128 .f32) (x2 : Vec Ideal S1x3584x128 .fp8e4m3) (x3 : Vec Ideal S1x3584x128 .fp8e4m3) (x4 : Vec Ideal S1x3584x128 .fp8e4m3) (x5 : Vec Ideal S1x3584x128 .fp8e4m3) (x6 : Vec Ideal S2x128 .f32) (x7 : Vec Ideal S2x128 .f32) (xs0 : Vec Ideal S37x2048x128 .f32) (xs1 : Vec Ideal S2048x128 .f32) (y : S256x4736.Idx) :
    ∃ p ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).1, y ∈ p.1.set :=
  View.cover_of_tiledL ((kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).1) S256x128.size (by sl_kernel_rfl) y

/-- What the block holds after the point. -/
theorem code_read (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : ¬cond0_0 i) (hc1 : ¬cond0_1 i) (hc2 : cond0_2 i)
    (x0 : Vec Ideal S2048x3584 .fp8e4m3) (x1 : Vec Ideal S2048x128 .f32) (x2 : Vec Ideal S1x3584x128 .fp8e4m3) (x3 : Vec Ideal S1x3584x128 .fp8e4m3) (x4 : Vec Ideal S1x3584x128 .fp8e4m3) (x5 : Vec Ideal S1x3584x128 .fp8e4m3) (x6 : Vec Ideal S2x128 .f32) (x7 : Vec Ideal S2x128 .f32) (xs0 : Vec Ideal S37x2048x128 .f32) (xs1 : Vec Ideal S2048x128 .f32) (f : Buf (Elt Ideal) (arg9.view.loc (c : Thread nD τ))) (y : S256x4736.Idx) :
    arg9.view.read (Elt Ideal) (arg9.view.writes (Elt Ideal) f (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).1) y = codeAt xs0 xs1 (k0_off9 i 0) (base_le i hc2) (y 0) (y 1) :=
  View.read_writes_apply_of_pieces _ _ (fun y => codeAt xs0 xs1 (k0_off9 i 0) (base_le i hc2) (y 0) (y 1)) _ (code_pieces c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1) y (code_cover c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1 y)

theorem scale_cover (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : ¬cond0_0 i) (hc1 : ¬cond0_1 i) (hc2 : cond0_2 i)
    (x0 : Vec Ideal S2048x3584 .fp8e4m3) (x1 : Vec Ideal S2048x128 .f32) (x2 : Vec Ideal S1x3584x128 .fp8e4m3) (x3 : Vec Ideal S1x3584x128 .fp8e4m3) (x4 : Vec Ideal S1x3584x128 .fp8e4m3) (x5 : Vec Ideal S1x3584x128 .fp8e4m3) (x6 : Vec Ideal S2x128 .f32) (x7 : Vec Ideal S2x128 .f32) (xs0 : Vec Ideal S37x2048x128 .f32) (xs1 : Vec Ideal S2048x128 .f32) (y : S1x2x128.Idx) :
    ∃ p ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.1, y ∈ p.1.set :=
  View.cover_of_tiledL ((kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.1) S1x1x128.size (by sl_kernel_rfl) y

/-- What the block holds after the point. -/
theorem scale_read (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : ¬cond0_0 i) (hc1 : ¬cond0_1 i) (hc2 : cond0_2 i)
    (x0 : Vec Ideal S2048x3584 .fp8e4m3) (x1 : Vec Ideal S2048x128 .f32) (x2 : Vec Ideal S1x3584x128 .fp8e4m3) (x3 : Vec Ideal S1x3584x128 .fp8e4m3) (x4 : Vec Ideal S1x3584x128 .fp8e4m3) (x5 : Vec Ideal S1x3584x128 .fp8e4m3) (x6 : Vec Ideal S2x128 .f32) (x7 : Vec Ideal S2x128 .f32) (xs0 : Vec Ideal S37x2048x128 .f32) (xs1 : Vec Ideal S2048x128 .f32) (f : Buf (Elt Ideal) (arg10.view.loc (c : Thread nD τ))) (y : S1x2x128.Idx) :
    arg10.view.read (Elt Ideal) (arg10.view.writes (Elt Ideal) f (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.1) y = scAt xs1 (k0_off9 i 0) (base_le i hc2) ⟨128 * (y 1).val + (y 2).val, by have h1 : (y 1).val < 2 := (y 1).isLt; have h2 : (y 2).val < 128 := (y 2).isLt; omega⟩ :=
  View.read_writes_apply_of_pieces _ _ (fun y => scAt xs1 (k0_off9 i 0) (base_le i hc2) ⟨128 * (y 1).val + (y 2).val, by have h1 : (y 1).val < 2 := (y 1).isLt; have h2 : (y 2).val < 128 := (y 2).isLt; omega⟩) _ (scale_pieces c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1) y (scale_cover c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1 y)

theorem lane_cover (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : ¬cond0_0 i) (hc1 : ¬cond0_1 i) (hc2 : cond0_2 i)
    (x0 : Vec Ideal S2048x3584 .fp8e4m3) (x1 : Vec Ideal S2048x128 .f32) (x2 : Vec Ideal S1x3584x128 .fp8e4m3) (x3 : Vec Ideal S1x3584x128 .fp8e4m3) (x4 : Vec Ideal S1x3584x128 .fp8e4m3) (x5 : Vec Ideal S1x3584x128 .fp8e4m3) (x6 : Vec Ideal S2x128 .f32) (x7 : Vec Ideal S2x128 .f32) (xs0 : Vec Ideal S37x2048x128 .f32) (xs1 : Vec Ideal S2048x128 .f32) (y : S256x128.Idx) :
    ∃ p ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.2.1, y ∈ p.1.set :=
  View.cover_of_tiledL ((kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.2.1) S256x128.size (by sl_kernel_rfl) y

/-- What the block holds after the point. -/
theorem lane_read (c : Dev nD) (i : grid0.Coords) (arg1 : Memref sig .tc .vmem S2048x3584 .fp8e4m3) (harg1 : arg1.IsWhole) (arg2 : Memref sig .tc .vmem S2048x128 .f32) (harg2 : arg2.IsWhole) (arg3 : Memref sig .tc .vmem S1x3584x128 .fp8e4m3) (harg3 : arg3.IsWhole) (arg4 : Memref sig .tc .vmem S1x3584x128 .fp8e4m3) (harg4 : arg4.IsWhole) (arg5 : Memref sig .tc .vmem S1x3584x128 .fp8e4m3) (harg5 : arg5.IsWhole) (arg6 : Memref sig .tc .vmem S1x3584x128 .fp8e4m3) (harg6 : arg6.IsWhole) (arg7 : Memref sig .tc .vmem S2x128 .f32) (harg7 : arg7.IsWhole) (arg8 : Memref sig .tc .vmem S2x128 .f32) (harg8 : arg8.IsWhole) (arg9 : Memref sig .tc .vmem S256x4736 .fp8e4m3) (harg9 : arg9.IsWhole) (arg10 : Memref sig .tc .vmem S1x2x128 .f32) (harg10 : arg10.IsWhole) (arg11 : Memref sig .tc .vmem S256x128 .f32) (harg11 : arg11.IsWhole) (arg12 : Memref sig .tc .vmem S37x2048x128 .f32) (harg12 : arg12.IsWhole) (arg13 : Memref sig .tc .vmem S2048x128 .f32) (harg13 : arg13.IsWhole) (hc0 : ¬cond0_0 i) (hc1 : ¬cond0_1 i) (hc2 : cond0_2 i)
    (x0 : Vec Ideal S2048x3584 .fp8e4m3) (x1 : Vec Ideal S2048x128 .f32) (x2 : Vec Ideal S1x3584x128 .fp8e4m3) (x3 : Vec Ideal S1x3584x128 .fp8e4m3) (x4 : Vec Ideal S1x3584x128 .fp8e4m3) (x5 : Vec Ideal S1x3584x128 .fp8e4m3) (x6 : Vec Ideal S2x128 .f32) (x7 : Vec Ideal S2x128 .f32) (xs0 : Vec Ideal S37x2048x128 .f32) (xs1 : Vec Ideal S2048x128 .f32) (f : Buf (Elt Ideal) (arg11.view.loc (c : Thread nD τ))) (y : S256x128.Idx) :
    arg11.view.read (Elt Ideal) (arg11.view.writes (Elt Ideal) f (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.2.1) y = scAt xs1 (k0_off9 i 0) (base_le i hc2) (y 0) :=
  View.read_writes_apply_of_pieces _ _ (fun y => scAt xs1 (k0_off9 i 0) (base_le i hc2) (y 0)) _ (lane_pieces c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1) y (lane_cover c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1 y)

end Cert.UpIdeal.Hand

end
-- ==== Proof.Up.Frame.lean ====
/- The run of the ideal `ffn_up` kernel over its 45 grid points: the invariant between points, the proof data of its
   pipeline, the body at every point, the launch, and the frame. -/
module

public import proofs.«01_k».proof.Proof.Up.Inv
public import proofs.«01_k».proof.Proof.Up.ReadA
public import proofs.«01_k».proof.Proof.Up.ReadB
public import proofs.«01_k».proof.Proof.Up.ReadC
public import Idealize.ShloMosaic.Lib.Claim

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The first point establishes the invariant. -/
theorem inv_A (c : Dev nD) (t : Fin cfg0.N) (h0 : t.val % 45 = 0) (h1 : t.val < 37) (h2 : ¬37 ≤ t.val) (d0 : Vec Ideal S37x2048x128 .f32) (d1 : Vec Ideal S2048x128 .f32) (f : Buf (Elt Ideal) (scM0_1.view.loc (c : Thread nD τ))) :
    Inv m c (t.val + 1) (scM0_0.view.read (Elt Ideal) (scM0_0.view.writes (Elt Ideal) ((Memref.isWhole_whole cc0_scratch0).unread d0) (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) d0 d1).1))
      (scM0_1.view.read (Elt Ideal) (scM0_1.view.writes (Elt Ideal) f (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) d0 d1).2.1)) := by
  have hN : t.val < 45 := Nat.lt_of_lt_of_eq t.isLt N_0
  have hz : t.val = 0 := by omega
  have key : Inv m c (0 + 1) (scM0_0.view.read (Elt Ideal) (scM0_0.view.writes (Elt Ideal) ((Memref.isWhole_whole cc0_scratch0).unread d0) (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) d0 d1).1))
      (scM0_1.view.read (Elt Ideal) (scM0_1.view.writes (Elt Ideal) f (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) d0 d1).2.1)) := by
    refine inv_first m c _ _ (fun s r l hs => ?_) (fun r l => ?_)
    · rw [actA_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) d0 d1 _ (ix3 s r l) (by rw [coords0]; show s.val = t.val; omega), ← hz, ACTn_val]; rfl
    · rw [maxA_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) d0 d1 f (ix2 r l), ← hz, ACTn_val]; rfl
  exact Eq.mpr (congrArg (fun n => Inv m c (n + 1) _ _) hz) key

/-- Every later point up to point 36 keeps it. -/
theorem inv_B (c : Dev nD) (t : Fin cfg0.N) (h0 : ¬t.val % 45 = 0) (h1 : t.val < 37) (h2 : ¬37 ≤ t.val) (d0 : Vec Ideal S37x2048x128 .f32) (d1 : Vec Ideal S2048x128 .f32) (hi : Inv m c t.val d0 d1) (f : Buf (Elt Ideal) (scM0_1.view.loc (c : Thread nD τ))) :
    Inv m c (t.val + 1) (scM0_0.view.read (Elt Ideal) (scM0_0.view.writes (Elt Ideal) ((Memref.isWhole_whole cc0_scratch0).unread d0) (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) d0 d1).1))
      (scM0_1.view.read (Elt Ideal) (scM0_1.view.writes (Elt Ideal) f (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) d0 d1).2.1)) := by
  refine inv_step m c t.val h1 d0 _ d1 _ hi (fun s r l hs => ?_) (fun s r l hs => ?_) (fun r l => ?_)
  · rw [actB_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) d0 d1 _ (ix3 s r l) (by rw [coords0]; exact hs), ACTn_val]; rfl
  · rw [actB_keep c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) d0 d1 _ (ix3 s r l) (by rw [coords0]; exact hs), Memref.IsWhole.read_unread]
  · rw [maxB_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) d0 d1 f (ix2 r l), ACTn_val]; rfl

/-- What a quantising point leaves in window 8. -/
theorem code_C (c : Dev nD) (t : Fin cfg0.N) (h0 : ¬t.val % 45 = 0) (h1 : ¬t.val < 37) (h2 : 37 ≤ t.val) (d0 : Vec Ideal S37x2048x128 .f32) (d1 : Vec Ideal S2048x128 .f32) (hi : Inv m c t.val d0 d1) (f : Buf (Elt Ideal) ((ms0_8 t).view.loc (c : Thread nD τ))) :
    (ms0_8 t).view.read (Elt Ideal) ((ms0_8 t).view.writes (Elt Ideal) f (kernelRun0_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) d0 d1).1) = codeBlk m c t.val := by
  funext y
  rw [code_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) d0 d1 f y]
  exact codeAt_inv m c t.val h2 d0 d1 hi _ _ (off9_eq t h2) _ _

/-- What a quantising point leaves in window 9. -/
theorem scale_C (c : Dev nD) (t : Fin cfg0.N) (h0 : ¬t.val % 45 = 0) (h1 : ¬t.val < 37) (h2 : 37 ≤ t.val) (d0 : Vec Ideal S37x2048x128 .f32) (d1 : Vec Ideal S2048x128 .f32) (hi : Inv m c t.val d0 d1) (f : Buf (Elt Ideal) ((ms0_9 t).view.loc (c : Thread nD τ))) :
    (ms0_9 t).view.read (Elt Ideal) ((ms0_9 t).view.writes (Elt Ideal) f (kernelRun0_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) d0 d1).2.1) = scaleBlk m c t.val := by
  funext y
  rw [scale_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) d0 d1 f y]
  exact scAt_inv m c t.val h2 d0 d1 hi _ _ (off9_eq t h2) _

/-- What a quantising point leaves in window 10. -/
theorem lane_C (c : Dev nD) (t : Fin cfg0.N) (h0 : ¬t.val % 45 = 0) (h1 : ¬t.val < 37) (h2 : 37 ≤ t.val) (d0 : Vec Ideal S37x2048x128 .f32) (d1 : Vec Ideal S2048x128 .f32) (hi : Inv m c t.val d0 d1) (f : Buf (Elt Ideal) ((ms0_10 t).view.loc (c : Thread nD τ))) :
    (ms0_10 t).view.read (Elt Ideal) ((ms0_10 t).view.writes (Elt Ideal) f (kernelRun0_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) d0 d1).2.2.1) = laneBlk m c t.val := by
  funext y
  rw [lane_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) d0 d1 f y]
  exact scAt_inv m c t.val h2 d0 d1 hi _ _ (off9_eq t h2) _

/-- The region's invariant before position `n`: before the first point the scratch arrays at anything, afterwards at
    contents satisfying `Inv`. -/
def PhiS (c : Dev nD) : ℕ → sProp 𝕄
  | 0 => Pipeline.ΦA spec0 c
  | n + 1 => iprop((∃ d0, ∃ d1, iprop(owns (c : Thread nD τ) scM0_0 fullShare d0 ∗ owns (c : Thread nD τ) scM0_1 fullShare d1) ∗ ⌜Inv m c (n + 1) d0 d1⌝) ∗ (∃ r, prngReg c r))

theorem PhiS_pos (c : Dev nD) (n : ℕ) (hz : n ≠ 0) :
    PhiS m c n = iprop((∃ d0, ∃ d1, iprop(owns (c : Thread nD τ) scM0_0 fullShare d0 ∗ owns (c : Thread nD τ) scM0_1 fullShare d1) ∗ ⌜Inv m c n d0 d1⌝) ∗ (∃ r, prngReg c r)) := by
  cases n with
  | zero => exact absurd rfl hz
  | succ n => rfl

/-- The proof data of the pipeline on core `c`: the arrays as the region finds them; after the body each input's buffer
    at its block and each output's at the block of its result. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => codeBlk m c t.val
    | ⟨9, _⟩ => scaleBlk m c t.val
    | ⟨10, _⟩ => laneBlk m c t.val
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = codeBlk m c t.val := by dsimp only [dats]
theorem after0_9 (c : Dev nD) (t : Fin cfg0.N) : (dats m 0 c).after 9 t = scaleBlk m c t.val := by dsimp only [dats]
theorem after0_10 (c : Dev nD) (t : Fin cfg0.N) : (dats m 0 c).after 10 t = laneBlk m c t.val := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) :
    (dats m 0 c).leavesExact 0 t = owns (c : Thread nD τ) (ms0_0 t) fullShare (iblk m c 0 t) := by
  rw [← after0_0]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) :
    (dats m 0 c).leavesExact 1 t = owns (c : Thread nD τ) (ms0_1 t) fullShare (iblk m c 1 t) := by
  rw [← after0_1]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) :
    (dats m 0 c).leavesExact 2 t = owns (c : Thread nD τ) (ms0_2 t) fullShare (iblk m c 2 t) := by
  rw [← after0_2]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) :
    (dats m 0 c).leavesExact 3 t = owns (c : Thread nD τ) (ms0_3 t) fullShare (iblk m c 3 t) := by
  rw [← after0_3]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) :
    (dats m 0 c).leavesExact 4 t = owns (c : Thread nD τ) (ms0_4 t) fullShare (iblk m c 4 t) := by
  rw [← after0_4]
theorem before0_5 (c : Dev nD) (t : Fin cfg0.N) (d) : (dats m 0 c).before 5 t d = iblk m c 5 t :=
  before0_5_of m (dats m 0 c) (A_eq m c 5) (after0_5 m c) t d
theorem leaves0_5 (c : Dev nD) (t : Fin cfg0.N) :
    (dats m 0 c).leavesExact 5 t = owns (c : Thread nD τ) (ms0_5 t) fullShare (iblk m c 5 t) := by
  rw [← after0_5]
theorem before0_6 (c : Dev nD) (t : Fin cfg0.N) (d) : (dats m 0 c).before 6 t d = iblk m c 6 t :=
  before0_6_of m (dats m 0 c) (A_eq m c 6) (after0_6 m c) t d
theorem leaves0_6 (c : Dev nD) (t : Fin cfg0.N) :
    (dats m 0 c).leavesExact 6 t = owns (c : Thread nD τ) (ms0_6 t) fullShare (iblk m c 6 t) := by
  rw [← after0_6]
theorem before0_7 (c : Dev nD) (t : Fin cfg0.N) (d) : (dats m 0 c).before 7 t d = iblk m c 7 t :=
  before0_7_of m (dats m 0 c) (A_eq m c 7) (after0_7 m c) t d
theorem leaves0_7 (c : Dev nD) (t : Fin cfg0.N) :
    (dats m 0 c).leavesExact 7 t = owns (c : Thread nD τ) (ms0_7 t) fullShare (iblk m c 7 t) := by
  rw [← after0_7]
theorem leavesLow0_8 (c : Dev nD) (t : Fin cfg0.N) (h : t.val < 37) :
    (dats m 0 c).leavesExact 8 t = iprop(∃ d, owns (c : Thread nD τ) (ms0_8 t) fullShare ((dats m 0 c).before 8 t d)) :=
  Dat.leavesExact_idle _ 8 t ((idle8 t).trans (decide_eq_true h)) ((flush8 t).trans (decide_eq_false (by omega)))
theorem leavesHigh0_8 (c : Dev nD) (t : Fin cfg0.N) (h : 37 ≤ t.val) :
    (dats m 0 c).leavesExact 8 t = owns (c : Thread nD τ) (ms0_8 t) fullShare (codeBlk m c t.val) := by
  rw [← after0_8]; unfold Dat.leavesExact; rw [(idle8 t).trans (decide_eq_false (by omega))]
theorem leavesLow0_9 (c : Dev nD) (t : Fin cfg0.N) (h : t.val < 37) :
    (dats m 0 c).leavesExact 9 t = iprop(∃ d, owns (c : Thread nD τ) (ms0_9 t) fullShare ((dats m 0 c).before 9 t d)) :=
  Dat.leavesExact_idle _ 9 t ((idle9 t).trans (decide_eq_true h)) ((flush9 t).trans (decide_eq_false (by omega)))
theorem leavesHigh0_9 (c : Dev nD) (t : Fin cfg0.N) (h : 37 ≤ t.val) :
    (dats m 0 c).leavesExact 9 t = owns (c : Thread nD τ) (ms0_9 t) fullShare (scaleBlk m c t.val) := by
  rw [← after0_9]; unfold Dat.leavesExact; rw [(idle9 t).trans (decide_eq_false (by omega))]
theorem leavesLow0_10 (c : Dev nD) (t : Fin cfg0.N) (h : t.val < 37) :
    (dats m 0 c).leavesExact 10 t = iprop(∃ d, owns (c : Thread nD τ) (ms0_10 t) fullShare ((dats m 0 c).before 10 t d)) :=
  Dat.leavesExact_idle _ 10 t ((idle10 t).trans (decide_eq_true h)) ((flush10 t).trans (decide_eq_false (by omega)))
theorem leavesHigh0_10 (c : Dev nD) (t : Fin cfg0.N) (h : 37 ≤ t.val) :
    (dats m 0 c).leavesExact 10 t = owns (c : Thread nD τ) (ms0_10 t) fullShare (laneBlk m c t.val) := by
  rw [← after0_10]; unfold Dat.leavesExact; rw [(idle10 t).trans (decide_eq_false (by omega))]

/-! ## The body, at every point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 14400000 in
/-- The body at every point, by the three cases of its branches. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7,
    leaves0_0, leaves0_1, leaves0_2, leaves0_3, leaves0_4, leaves0_5, leaves0_6, leaves0_7]
  rw [show (dats m 0 c).owesAt () t.succ = (dats m 0 c).owesAt () t.castSucc from rfl]
  rw [show (dats m 0 c).Φ t.succ = PhiS m c (t.val + 1) from rfl, PhiS_pos m c (t.val + 1) (Nat.succ_ne_zero _), PhiS_castSucc m c t]
  have hN : t.val < 45 := lt_of_lt_of_eq t.isLt (show cfg0.N = 45 from N_0)
  by_cases h0 : t.val % 45 = 0
  · have hz : t.val = 0 := by omega
    have h1 : t.val < 37 := by omega
    have h2 : ¬37 ≤ t.val := by omega
    rw [leavesLow0_8 m c t h1, leavesLow0_9 m c t h1, leavesLow0_10 m c t h1]
    rw [show PhiS m c t.val = PhiS m c 0 from by rw [hz], show PhiS m c 0 = Pipeline.ΦA spec0 c from rfl, PhiA0_eq]
    iintro ⟨⟨⟨⟨%d0, HS0⟩, ⟨%d1, HS1⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) d0 d1).2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iintro ⟨H0, H1, H2, H3, H4, H5, H6, H7, H8, H9, H10, HS0, ⟨%es1, HS1⟩⟩
    isplitl [HS0 HS1 Hg]
    · isplitl [HS0 HS1]
      · iexists (scM0_0.view.read (Elt Ideal) (scM0_0.view.writes (Elt Ideal) ((Memref.isWhole_whole cc0_scratch0).unread d0) (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) d0 d1).1))
        iexists (scM0_1.view.read (Elt Ideal) (scM0_1.view.writes (Elt Ideal) es1 (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) d0 d1).2.1))
        isplitl [HS0 HS1]
        · isplitl [HS0]
          · unfold owns; iexists _; isplitr
            swap; · iexact HS0
            ipureintro; rfl
          unfold owns; iexists _; isplitr
          swap; · iexact HS1
          ipureintro; rfl
        ipureintro; exact inv_A m c t h0 h1 h2 d0 d1 es1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists e8; iexact H8
    isplitl [H9]; · iexists e9; iexact H9
    iexists e10; iexact H10
  · by_cases h1 : t.val < 37
    · have h2 : ¬37 ≤ t.val := by omega
      rw [leavesLow0_8 m c t h1, leavesLow0_9 m c t h1, leavesLow0_10 m c t h1]
      rw [PhiS_pos m c t.val (by omega)]
      iintro ⟨⟨⟨%d0, %d1, ⟨HS0, HS1⟩, %hi⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) d0 d1).2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, HS0, ⟨%es1, HS1⟩⟩
      isplitl [HS0 HS1 Hg]
      · isplitl [HS0 HS1]
        · iexists (scM0_0.view.read (Elt Ideal) (scM0_0.view.writes (Elt Ideal) ((Memref.isWhole_whole cc0_scratch0).unread d0) (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) d0 d1).1))
          iexists (scM0_1.view.read (Elt Ideal) (scM0_1.view.writes (Elt Ideal) es1 (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) d0 d1).2.1))
          isplitl [HS0 HS1]
          · isplitl [HS0]
            · unfold owns; iexists _; isplitr
              swap; · iexact HS0
              ipureintro; rfl
            unfold owns; iexists _; isplitr
            swap; · iexact HS1
            ipureintro; rfl
          ipureintro; exact inv_B m c t h0 h1 h2 d0 d1 hi es1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists e8; iexact H8
      isplitl [H9]; · iexists e9; iexact H9
      iexists e10; iexact H10
    · have h2 : 37 ≤ t.val := by omega
      rw [leavesHigh0_8 m c t h2, leavesHigh0_9 m c t h2, leavesHigh0_10 m c t h2]
      rw [PhiS_pos m c t.val (by omega)]
      iintro ⟨⟨⟨%d0, %d1, ⟨HS0, HS1⟩, %hi⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) d0 d1).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      isplitl [HS1]; · iexact HS1
      iintro ⟨H0, H1, H2, H3, H4, H5, H6, H7, ⟨%f8, H8⟩, ⟨%f9, H9⟩, ⟨%f10, H10⟩, HS0, HS1⟩
      isplitl [HS0 HS1 Hg]
      · isplitl [HS0 HS1]
        · iexists d0; iexists d1
          isplitl [HS0 HS1]
          · isplitl [HS0]
            · iexact HS0
            iexact HS1
          ipureintro; exact inv_keep m c t.val h2 d0 d1 hi
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact code_C m c t h0 h1 h2 d0 d1 hi f8
      isplitl [H9]
      · unfold owns; iexists _; isplitr
        swap; · iexact H9
        ipureintro; exact scale_C m c t h0 h1 h2 d0 d1 hi f9
      unfold owns; iexists _; isplitr
      swap; · iexact H10
      ipureintro; exact lane_C m c t h0 h1 h2 d0 d1 hi f10

theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c cfg0.N from rfl, PhiS_pos m c _ (by rw [show cfg0.N = 45 from N_0]; decide), PhiA0_eq]
  iintro ⟨⟨%d0, %d1, ⟨HS0, HS1⟩, %hi⟩, Hg⟩
  isplitl [HS0 HS1]
  · isplitl [HS0]
    · iexists _; iexact HS0
    iexists _; iexact HS1
  iexact Hg

/-! ## The run and the frame -/

set_option backward.isDefEq.respectTransparency.types false in
/-- The launch: every execution ends, the arrays of the pipeline hold what the proof data says, the counters are zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := Ideal))) (s₀ m ρ) (Pipeline.FramePost cfgs (dats m) 0 (V m)) :=
  (θ_run defs _ _).mono (fun _ h => h.1) (run_main_quiescent m ρ)

/-- The frame: the argument arrays end unchanged and every counter ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.UpIdeal.Hand

end
-- ==== Proof.Up.Spec.lean ====
/- What the quantised `silu(gate) * up` is, in plain mathematics over the four arguments, and the two facts about row maxima
   that the kernel's running maxima need. -/
module

public import proofs.«01_k».proof.Proof.Up.Act
public import proofs.«01_k».proof.Proof.Up.Out

@[expose] public section

set_option maxRecDepth 16384

noncomputable section

namespace Cert.UpIdeal.Hand

open Cert.UpIdeal Cert.UpIdeal.Gen
open Idealize.ShloMosaic Idealize.ShloMosaic.TcCoe

/-- The token kind of a row: the first 256 rows are of kind 0. -/
def kindOf (R : Fin 2048) : Fin 2 := if R.val < 256 then 0 else 1

/-- The column of the combined weight that holds the gate of column `n`, -/
def gcol (n : Fin 4736) : Fin 9472 := ⟨n.val, by omega⟩
/-- and the one that holds its up projection. -/
def ucol (n : Fin 4736) : Fin 9472 := ⟨4736 + n.val, by omega⟩

/-- The activation of row `R` and column `n`. -/
def actS (c3 : Vec Ideal S2048x3584 .fp8e4m3) (s3 : Vec Ideal S2048x1 .f32) (w : Vec Ideal S2x3584x9472 .fp8e4m3) (ws : Vec Ideal S2x9472 .f32)
    (R : Fin 2048) (n : Fin 4736) : EReal :=
  actOf (∑ k : Fin 3584, c3 (ix2 R k) * w (ix3 (kindOf R) k (gcol n))) (∑ k : Fin 3584, c3 (ix2 R k) * w (ix3 (kindOf R) k (ucol n)))
    (s3 (ix2 R 0)) (ws (ix2 (kindOf R) (gcol n))) (ws (ix2 (kindOf R) (ucol n)))

/-- The scale of row `R`: the row's largest magnitude over 448, or 1 where that is 0. -/
def scaleS (c3 : Vec Ideal S2048x3584 .fp8e4m3) (s3 : Vec Ideal S2048x1 .f32) (w : Vec Ideal S2x3584x9472 .fp8e4m3) (ws : Vec Ideal S2x9472 .f32)
    (R : Fin 2048) : EReal :=
  scOf fun n : Fin 4736 => max (actS c3 s3 w ws R n) (-actS c3 s3 w ws R n)

theorem abs_nonneg' (a : EReal) : 0 ≤ max a (-a) := by
  rcases le_total 0 a with h | h
  · exact le_max_of_le_left h
  · exact le_max_of_le_right (by rw [EReal.le_neg, neg_zero]; exact h)

theorem scOf_congr {a b : ℕ} (v : Fin a → EReal) (v' : Fin b → EReal)
    (h : Finset.fold max ⊥ v Finset.univ = Finset.fold max ⊥ v' Finset.univ) : scOf v = scOf v' := by
  unfold scOf; rw [h]

/-- A family over the 128 lanes whose bounds are those of the columns `128 j + l` together with 0 has the columns' maximum. -/
theorem fold_lanes (f : Fin 4736 → EReal) (hf : ∀ n, 0 ≤ f n) (g : Fin 128 → EReal)
    (hg : ∀ (l : Fin 128) (b : EReal), g l ≤ b ↔ 0 ≤ b ∧ ∀ j : Fin 37, f ⟨128 * j.val + l.val, by omega⟩ ≤ b) :
    Finset.fold max ⊥ g Finset.univ = Finset.fold max ⊥ f Finset.univ := by
  have key : ∀ b : EReal, Finset.fold max ⊥ g Finset.univ ≤ b ↔ Finset.fold max ⊥ f Finset.univ ≤ b := by
    intro b
    rw [Finset.fold_max_le, Finset.fold_max_le]
    constructor
    · rintro ⟨_, h⟩
      refine ⟨bot_le, fun n _ => ?_⟩
      have hn := n.isLt
      have := ((hg ⟨n.val % 128, by omega⟩ b).1 (h _ (Finset.mem_univ _))).2 ⟨n.val / 128, by omega⟩
      have e : (⟨128 * (n.val / 128) + n.val % 128, by omega⟩ : Fin 4736) = n := Fin.ext (by show 128 * (n.val / 128) + n.val % 128 = n.val; omega)
      exact e ▸ this
    · rintro ⟨_, h⟩
      refine ⟨bot_le, fun l _ => (hg l b).2 ⟨(hf 0).trans (h 0 (Finset.mem_univ _)), fun j => h _ (Finset.mem_univ _)⟩⟩
  exact le_antisymm ((key _).2 le_rfl) ((key _).1 le_rfl)

end Cert.UpIdeal.Hand

end
-- ==== Proof.Up.Final.lean ====
/- What the three result arrays of the ideal `ffn_up` kernel hold after the run, and the run read. -/
module

public import proofs.«01_k».proof.Proof.Up.Frame
public import proofs.«01_k».proof.Proof.Up.Spec
public import Idealize.ShloMosaic.Lib.Pipeline.ValueKit

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- The index maps of the windows at the activating points and of the outputs at the quantising ones. -/
theorem idx_in : ∀ t : Fin cfg0.N, t.val < 37 →
    win0_0.index t = ![0, 0] ∧ win0_1.index t = ![0, 0] ∧ win0_2.index t = ![0, 0, t.val] ∧ win0_3.index t = ![0, 0, 37 + t.val]
      ∧ win0_4.index t = ![1, 0, t.val] ∧ win0_5.index t = ![1, 0, 37 + t.val] ∧ win0_6.index t = ![0, t.val] ∧ win0_7.index t = ![0, 37 + t.val] :=
  (by decide +kernel : ∀ t : Fin grid0.N, t.val < 37 →
    win0_0.index t = ![0, 0] ∧ win0_1.index t = ![0, 0] ∧ win0_2.index t = ![0, 0, t.val] ∧ win0_3.index t = ![0, 0, 37 + t.val]
      ∧ win0_4.index t = ![1, 0, t.val] ∧ win0_5.index t = ![1, 0, 37 + t.val] ∧ win0_6.index t = ![0, t.val] ∧ win0_7.index t = ![0, 37 + t.val])

theorem idx_out : ∀ t : Fin cfg0.N, 37 ≤ t.val → win0_8.index t = ![t.val - 37, 0] ∧ win0_9.index t = ![t.val - 37, 0, 0] :=
  (by decide +kernel : ∀ t : Fin grid0.N, 37 ≤ t.val → win0_8.index t = ![t.val - 37, 0] ∧ win0_9.index t = ![t.val - 37, 0, 0])

/-- The scale column spread over the lanes, as the host hands it to the kernel. -/
theorem V_main_v0 (c : Dev nD) (r : Fin 2048) (l : Fin 128) : V m c main_v0 (ix2 r l) = m ((c : Thread nD τ).loc main_arg1) (ix2 r 0) := by
  entry_read
  pointwise []

section
variable (c : Dev nD) (t : Fin cfg0.N) (ht : t.val < 37)

include ht

/-! The blocks at an activating point, read in the arguments. -/

theorem blk0_0 (r : Fin 2048) (k : Fin 3584) : iblk m c 0 t (ix2 r k) = m ((c : Thread nD τ).loc main_arg0) (ix2 r k) := by
  blk_ext [iblk, V, idx_in t ht]
theorem blk0_1 (r : Fin 2048) (l : Fin 128) : iblk m c 1 t (ix2 r l) = m ((c : Thread nD τ).loc main_arg1) (ix2 r 0) := by
  rw [← V_main_v0 m c r l]
  blk_ext [iblk, idx_in t ht]
theorem blk0_2 (k : Fin 3584) (l : Fin 128) : iblk m c 2 t (ix3 0 k l) = m ((c : Thread nD τ).loc main_arg2) (ix3 0 k (⟨128 * t.val + l.val, by omega⟩ : Fin 9472)) := by
  blk_ext [iblk, V, idx_in t ht]
theorem blk0_3 (k : Fin 3584) (l : Fin 128) : iblk m c 3 t (ix3 0 k l) = m ((c : Thread nD τ).loc main_arg2) (ix3 0 k (⟨4736 + (128 * t.val + l.val), by omega⟩ : Fin 9472)) := by
  blk_ext [iblk, V, idx_in t ht]
theorem blk0_4 (k : Fin 3584) (l : Fin 128) : iblk m c 4 t (ix3 0 k l) = m ((c : Thread nD τ).loc main_arg2) (ix3 1 k (⟨128 * t.val + l.val, by omega⟩ : Fin 9472)) := by
  blk_ext [iblk, V, idx_in t ht]
theorem blk0_5 (k : Fin 3584) (l : Fin 128) : iblk m c 5 t (ix3 0 k l) = m ((c : Thread nD τ).loc main_arg2) (ix3 1 k (⟨4736 + (128 * t.val + l.val), by omega⟩ : Fin 9472)) := by
  blk_ext [iblk, V, idx_in t ht]
theorem blk0_6 (q : Fin 2) (l : Fin 128) : iblk m c 6 t (ix2 q l) = m ((c : Thread nD τ).loc main_arg3) (ix2 q (⟨128 * t.val + l.val, by omega⟩ : Fin 9472)) := by
  blk_ext [iblk, V, idx_in t ht]
theorem blk0_7 (q : Fin 2) (l : Fin 128) : iblk m c 7 t (ix2 q l) = m ((c : Thread nD τ).loc main_arg3) (ix2 q (⟨4736 + (128 * t.val + l.val), by omega⟩ : Fin 9472)) := by
  blk_ext [iblk, V, idx_in t ht]
end

/-- The activation of row `R` and column `n`, over the arguments as launched. -/
abbrev actM (c : Dev nD) (R : Fin 2048) (n : Fin 4736) : EReal :=
  actS (m ((c : Thread nD τ).loc main_arg0)) (m ((c : Thread nD τ).loc main_arg1)) (m ((c : Thread nD τ).loc main_arg2)) (m ((c : Thread nD τ).loc main_arg3)) R n

/-- The scale of row `R`, over the arguments as launched. -/
abbrev scaleM (c : Dev nD) (R : Fin 2048) : EReal :=
  scaleS (m ((c : Thread nD τ).loc main_arg0)) (m ((c : Thread nD τ).loc main_arg1)) (m ((c : Thread nD τ).loc main_arg2)) (m ((c : Thread nD τ).loc main_arg3)) R

/-- What point `n` computes is the activations of its 128 columns. -/
theorem ACTn_eq (c : Dev nD) (n : ℕ) (hn : n < 37) (R : Fin 2048) (l : Fin 128) :
    ACTn m c n R l = actM m c R ⟨128 * n + l.val, by omega⟩ := by
  have hN : n < cfg0.N := by rw [show cfg0.N = 45 from N_0]; omega
  rw [show ACTn m c n R l = ACTn m c (⟨n, hN⟩ : Fin cfg0.N).val R l from rfl, ACTn_val]
  generalize hT : (⟨n, hN⟩ : Fin cfg0.N) = t
  have ht : t.val < 37 := by rw [← hT]; exact hn
  obtain rfl : n = t.val := by rw [← hT]
  unfold ActB actM actS kindOf gcol ucol
  by_cases h : R.val < 256
  · rw [if_pos h, if_pos h, blk0_1 m c t ht, blk0_6 m c t ht, blk0_7 m c t ht]
    simp only [blk0_0 m c t ht, blk0_2 m c t ht, blk0_3 m c t ht]
  · rw [if_neg h, if_neg h, blk0_1 m c t ht, blk0_6 m c t ht, blk0_7 m c t ht]
    simp only [blk0_0 m c t ht, blk0_4 m c t ht, blk0_5 m c t ht]

theorem AMn_le (c : Dev nD) (n : ℕ) (hn : n ≤ 37) (R : Fin 2048) (l : Fin 128) (b : EReal) :
    AMn m c n R l ≤ b ↔ 0 ≤ b ∧ ∀ j : Fin 37, j.val < n →
      max (actM m c R ⟨128 * j.val + l.val, by omega⟩) (-actM m c R ⟨128 * j.val + l.val, by omega⟩) ≤ b := by
  induction n with
  | zero => exact ⟨fun h => ⟨h, fun j hj => absurd hj (Nat.not_lt_zero _)⟩, fun h => h.1⟩
  | succ n ih =>
    rw [AMn, max_le_iff, ih (by omega), ACTn_eq m c n (by omega)]
    constructor
    · rintro ⟨⟨h0, h⟩, h'⟩
      refine ⟨h0, fun j hj => ?_⟩
      rcases Nat.lt_succ_iff_lt_or_eq.1 hj with h1 | h1
      · exact h j h1
      · subst h1; exact h'
    · rintro ⟨h0, h⟩
      exact ⟨⟨h0, fun j hj => h j (Nat.lt_succ_of_lt hj)⟩, h ⟨n, by omega⟩ (Nat.lt_succ_self n)⟩

/-- The scale the kernel computes from its running maxima is the row's. -/
theorem scRow_eq (c : Dev nD) (R : Fin 2048) : scRow m c R = scaleM m c R := by
  unfold scRow scaleM scaleS
  refine scOf_congr _ _ (fold_lanes _ (fun n => abs_nonneg' _) _ fun l b => ?_)
  rw [AMn_le m c 37 le_rfl R l b]
  exact and_congr_right fun _ => ⟨fun h j => h j j.isLt, fun h j _ => h j⟩

/-- The codes the run leaves. -/
def G8 (c : Dev nD) : Vec Ideal S2048x4736 .fp8e4m3 := fun y => codeOf (actM m c (y 0) (y 1)) (scaleM m c (y 0))

/-- The scales the run leaves. -/
def G9 (c : Dev nD) : Vec Ideal S8x2x128 .f32 := fun y =>
  scaleM m c ⟨256 * (y 0).val + 128 * (y 1).val + (y 2).val, by
    have h0 : (y 0).val < 8 := (y 0).isLt
    have h1 : (y 1).val < 2 := (y 1).isLt
    have h2 : (y 2).val < 128 := (y 2).isLt
    omega⟩

theorem final8 (c : Dev nD) : (dats m 0 c).arrAt 8 cfg0.N = G8 m c := by
  refine (dats m 0 c).arrAt_eq_of_covers 8 _ (by decide +kernel) fun t hf y => ?_
  have ht : 37 ≤ t.val := of_decide_eq_true ((flush8 t).symm.trans hf)
  have hN : t.val < 45 := Nat.lt_of_lt_of_eq t.isLt N_0
  blk_simp
  rw [after0_8]
  unfold codeBlk G8
  have h0 : (y 0).val < 256 := (y 0).isLt
  have h1 : (y 1).val < 4736 := (y 1).isLt
  rw [ACTn_eq m c _ (by omega), scRow_eq]
  have e0 : rowOf t.val (y 0).val = (((cfg0.win 8).blk t).view.emb y) 0 := Fin.ext (by
    blk_simp [idx_out t ht]
    show (256 * (t.val - 37) + (y 0).val) % 2048 = _
    omega)
  have e1 : (⟨128 * ((y 1).val / 128) + (y 1).val % 128, by omega⟩ : Fin 4736) = (((cfg0.win 8).blk t).view.emb y) 1 := Fin.ext (by
    blk_simp [idx_out t ht]
    show 128 * ((y 1).val / 128) + (y 1).val % 128 = _
    omega)
  exact congrArg₂ codeOf (congrArg₂ (actM m c) e0 e1) (congrArg (scaleM m c) e0)

theorem final9 (c : Dev nD) : (dats m 0 c).arrAt 9 cfg0.N = G9 m c := by
  refine (dats m 0 c).arrAt_eq_of_covers 9 _ (by decide +kernel) fun t hf y => ?_
  have ht : 37 ≤ t.val := of_decide_eq_true ((flush9 t).symm.trans hf)
  have hN : t.val < 45 := Nat.lt_of_lt_of_eq t.isLt N_0
  blk_simp
  rw [after0_9]
  unfold scaleBlk G9
  rw [scRow_eq]
  have h0 : (y 0).val < 1 := (y 0).isLt
  have h1 : (y 1).val < 2 := (y 1).isLt
  have h2 : (y 2).val < 128 := (y 2).isLt
  refine congrArg (scaleM m c) (Fin.ext ?_)
  blk_simp [idx_out t ht]
  show (256 * (t.val - 37) + (128 * (y 1).val + (y 2).val)) % 2048 = 256 * (t.val - 37) + 128 * (y 1).val + (y 2).val
  omega

/-- The run, read: the two results at their values, the arguments unchanged. -/
theorem run : θ_run defs (onTc (τ := τ) (main (F := Ideal))) ⟨m, fun _ => 0, ρ⟩ (fun r => ∀ c : Dev nD,
      r.2.mem ((c.tc : Thread nD τ).loc main_v1_0) = G8 m c
      ∧ r.2.mem ((c.tc : Thread nD τ).loc main_v1_1) = G9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 8).trans (final8 m c), ((h.1 c).1 9).trans (final9 m c), h.2 c⟩)
    (θ_run_and (run_main m ρ) (frame_of m ρ (dats m) (A_eq m) (run_main m ρ)))

end Cert.UpIdeal.Hand

end
-- ==== Proof.Up.RefVal.lean ====
/- What the two result arrays of the ideal reference of `ffn_up` hold: the same plain mathematics. -/
module

public import proofs.«01_k».proof.Proof.Gen.RefUpIdeal.Value
public import proofs.«01_k».proof.Proof.Up.Spec
public import Idealize.ShloMosaic.Lib.Pointwise
public import Idealize.ShloMosaic.Lib.Pipeline.Value

@[expose] public section

set_option maxRecDepth 16384

noncomputable section

namespace Cert.RefUpIdeal.Hand

open Cert.RefUpIdeal Cert.RefUpIdeal.Gen
open Idealize.ShloMosaic Idealize.ShloMosaic.TcCoe
open Cert.UpIdeal.Hand

section
variable (c3 : Vec Ideal S2048x3584 .fp8e4m3) (s3 : Vec Ideal S2048x1 .f32) (w : Vec Ideal S2x3584x9472 .fp8e4m3) (ws : Vec Ideal S2x9472 .f32)

/-- The reference's activations. -/
theorem pay3_apply (R : Fin 2048) (n : Fin 4736) :
    k0_pay3 c3 s3 (View.ld w r0_2) (View.ld ws r0_3) (View.ld w r0_4) (View.ld ws r0_5) (ix2 R n) = actS c3 s3 w ws R n := by
  unfold actS kindOf
  by_cases h : R.val < 256
  · rw [if_pos h]
    pointwise [k0_pay3]
    simp only [dif_pos h]
    rfl
  · rw [if_neg h]
    have hR : ∀ hh, (⟨256 + (R.val - 256), hh⟩ : Fin 2048) = R := fun _ => Fin.ext (by show 256 + (R.val - 256) = R.val; omega)
    pointwise [k0_pay3]
    simp only [dif_neg h, hR]
    rfl

/-- The largest magnitude of each row of a block of entries, as the reference writes it. -/
def amaxR (v31 : FVec Ideal S2048x4736 .f32) : FVec Ideal S2048 .f32 :=
  multiReduction .maximumf [1] S2048 (absf v31) 0xFF800000#32 reduces_S2048x4736_S2048 (.inl rfl) rfl

/-- The scale of each row from its largest magnitude, as the reference writes it. -/
def scTail (v33 : FVec Ideal S2048 .f32) : FVec Ideal S2048 .f32 :=
  have cst_14 : Ideal .f32 := Scalar.ofBits .f32 0x00000000#32
  have v34 : FVec Ideal S2048 .f32 := broadcast S2048 cst_14
  have v35 : IVec S2048 1 := cmpf .oeq v33 v34
  have cst_15 : Ideal .f32 := Scalar.ofBits .f32 0x43E00000#32
  have v36 : FVec Ideal S2048 .f32 := broadcast S2048 cst_15
  have v37 : FVec Ideal S2048 .f32 := divf v33 v36
  have cst_16 : Ideal .f32 := Scalar.ofBits .f32 0x3F800000#32
  have v38 : FVec Ideal S2048 .f32 := broadcast S2048 cst_16
  have v39 : FVec Ideal S2048 .f32 := select v35 v38 v37
  v39

theorem amaxR_apply (v : FVec Ideal S2048x4736 .f32) (R : Fin 2048) :
    amaxR v (ix1 R) = Finset.fold max ⊥ (fun n : Fin 4736 => max (v (ix2 R n)) (-v (ix2 R n))) Finset.univ := by
  refine (Ideal.multiReduction_maximumf_single (absf v) _ reduces_S2048x4736_S2048 (.inl rfl) rfl (ix1 R)).trans ?_
  have hb : (FloatOps.ofBits FTy.f32 (FKind.maximumf.neutral FTy.f32 (.inl rfl)) : Ideal .f32) = (⊥ : EReal) := bits_bot
  rw [hb]
  refine congrArg (fun f : Fin 4736 → EReal => Finset.fold max ⊥ f Finset.univ) (funext fun n => ?_)
  have hl : reduces_S2048x4736_S2048.lift (ix1 R) n = ix2 R n := by
    funext a; fin_cases a <;> rfl
  exact (congrArg (absf v) hl).trans rfl

theorem scTail_apply (v : FVec Ideal S2048 .f32) (R : Fin 2048) :
    scTail v (ix1 R) = if v (ix1 R) = 0 then 1 else v (ix1 R) * ((1 / 448 : ℝ) : EReal) := by
  pointwise [scTail]
  rw [bits_448, Ideal.div_coe (by norm_num : (448 : ℝ) ≠ 0)]

theorem pay1_apply (v : FVec Ideal S2048x4736 .f32) (s : FVec Ideal S2048 .f32) (R : Fin 2048) (n : Fin 4736) :
    k0_pay1 v s (ix2 R n) = codeOf (v (ix2 R n)) (s (ix1 R)) := by
  pointwise [k0_pay1]
  rw [bits_448, bits_neg448]
  rfl

theorem pay2_apply (s : FVec Ideal S2048 .f32) (a : Fin 8) (b : Fin 2) (l : Fin 128) :
    k0_pay2 s (ix3 a b l) = s (ix1 (⟨256 * a.val + 128 * b.val + l.val, by omega⟩ : Fin 2048)) := by
  pointwise [k0_pay2]
  exact congrArg (fun i => s (ix1 i)) (Fin.ext (by show a.val * 256 + b.val * 128 + l.val = 256 * a.val + 128 * b.val + l.val; omega))

/-- The reference's scales. -/
theorem pay5_apply (R : Fin 2048) : k0_pay5 c3 s3 w ws (ix1 R) = scaleS c3 s3 w ws R := by
  have e : k0_pay5 c3 s3 w ws = scTail (amaxR (k0_pay3 c3 s3 (View.ld w r0_2) (View.ld ws r0_3) (View.ld w r0_4) (View.ld ws r0_5))) := by
    unfold k0_pay5
    rw [show View.ld c3 r0_0 = c3 from View.ld_unit_zero (by funext a; fin_cases a <;> rfl) _ _, show View.ld s3 r0_1 = s3 from View.ld_unit_zero (by funext a; fin_cases a <;> rfl) _ _]
    rfl
  rw [e, scTail_apply, amaxR_apply]
  unfold scaleS scOf
  simp only [pay3_apply]

/-- The reference's codes array. -/
theorem G4_apply (R : Fin 2048) (n : Fin 4736) :
    Value.G4 c3 s3 w ws (ix2 R n) = codeOf (actS c3 s3 w ws R n) (scaleS c3 s3 w ws R) := by
  unfold Value.G4
  rw [pay1_apply, pay3_apply, pay5_apply]

/-- The reference's scales array. -/
theorem G5_apply (a : Fin 8) (b : Fin 2) (l : Fin 128) :
    Value.G5 c3 s3 w ws (ix3 a b l) = scaleS c3 s3 w ws ⟨256 * a.val + 128 * b.val + l.val, by omega⟩ := by
  unfold Value.G5
  rw [pay2_apply, pay5_apply]
end

end Cert.RefUpIdeal.Hand

end
-- ==== Proof.Up.Equal.lean ====
/- The equation: what the ideal kernel's arrays hold is what the ideal reference's hold, given equal arguments. -/
module

public import proofs.«01_k».proof.Proof.Up.Final
public import proofs.«01_k».proof.Proof.Up.RefVal

@[expose] public section

noncomputable section

namespace Cert.UpIdeal.Hand

open Cert.UpIdeal Cert.UpIdeal.Gen
open Idealize.ShloMosaic Idealize.ShloMosaic.TcCoe

variable (m : (ℓ : Loc nD τ sig) → Buf (Elt Ideal) ℓ)

/-- The codes agree. -/
theorem codes_eq (c : Dev nD) :
    Cert.RefUpIdeal.Value.G4 (m ((c : Thread nD τ).loc main_arg0)) (m ((c : Thread nD τ).loc main_arg1)) (m ((c : Thread nD τ).loc main_arg2))
      (m ((c : Thread nD τ).loc main_arg3)) = G8 m c := by
  funext y
  have hy : y = ix2 (y 0) (y 1) := by funext a; fin_cases a <;> rfl
  rw [hy]
  exact Cert.RefUpIdeal.Hand.G4_apply _ _ _ _ (y 0) (y 1)

/-- The scales agree. -/
theorem scales_eq (c : Dev nD) :
    Cert.RefUpIdeal.Value.G5 (m ((c : Thread nD τ).loc main_arg0)) (m ((c : Thread nD τ).loc main_arg1)) (m ((c : Thread nD τ).loc main_arg2))
      (m ((c : Thread nD τ).loc main_arg3)) = G9 m c := by
  funext y
  have hy : y = ix3 (y 0) (y 1) (y 2) := by funext a; fin_cases a <;> rfl
  rw [hy]
  exact Cert.RefUpIdeal.Hand.G5_apply _ _ _ _ (y 0) (y 1) (y 2)

end Cert.UpIdeal.Hand

end
-- ==== Proof.Oproj.Pieces.lean ====
/- What the body of the ideal `oproj` kernel stores, written once for every group of 32 rows and every group of 128 columns. -/
module

public import proofs.«01_k».proof.Proof.Gen.OprojIdeal.Value

@[expose] public section

set_option maxRecDepth 65536

noncomputable section

namespace Cert.OprojIdeal.Hand

open Cert.OprojIdeal Cert.OprojIdeal.Gen
open Idealize.ShloMosaic Idealize.ShloMosaic.TcCoe

variable {F : FTy → Type} [FloatOps F] [Named F]

/-! The groups of columns and rows in the order the kernel takes them. -/

def cols : List (Fin 28) :=
  [0, 1, 2, 3, 4, 5, 6, 7, 8, 9, 10, 11, 12, 13, 14, 15, 16, 17, 18, 19, 20, 21, 22, 23, 24, 25, 26, 27]
def colsR : List (Fin 28) :=
  [27, 26, 25, 24, 23, 22, 21, 20, 19, 18, 17, 16, 15, 14, 13, 12, 11, 10, 9, 8, 7, 6, 5, 4, 3, 2, 1, 0]
def groupsR : List (Fin 8) := [7, 6, 5, 4, 3, 2, 1, 0]
def widesR : List (Fin 7) := [6, 5, 4, 3, 2, 1, 0]

/-! One group of rows: its 28 loads `h`, and the norm weights `w0`, `w1` of the two kinds. -/

section
variable (h : Fin 28 → Vec F S32x128 .f32) (b : BitVec 1) (w0 w1 : Fin 28 → Vec F S1x128 .f32)

/-- The loaded block of 32 rows and 128 columns. -/
def hv (k : Fin 28) : FVec F S32x128 .f32 := shapeCast S32x128 (h k) shapeCasts_S32x128_S32x128

/-- The block times the norm weights of its columns. -/
def hw (k : Fin 28) : FVec F S32x128 .f32 :=
  mulf (hv h k) (broadcastTo S32x128 (Scalar.select b (w0 k) (w1 k)) broadcasts_S1x128_S32x128)

/-- The sums of squares per lane, -/
def ssV : FVec F S32x128 .f32 :=
  cols.foldl (fun a k => addf a (mulf (hv h k) (hv h k))) (broadcast S32x128 (Scalar.ofBits .f32 0x00000000#32))

/-- and the largest magnitudes per lane. -/
def amV : FVec F S32x128 .f32 :=
  cols.foldl (fun a k => maximumf a (absf (hw h b w0 w1 k))) (broadcast S32x128 (Scalar.ofBits .f32 0x00000000#32))

/-- One over the root of the mean square of each row. -/
def invV : FVec F S32x1 .f32 :=
  divf (broadcast S32x1 (Scalar.ofBits .f32 0x3F800000#32))
    (sqrt (addf (mulf (shapeCast S32x1 (multiReduction .add [1] S32 (ssV h) 0x00000000#32 reduces_S32x128_S32 (.inl rfl) rfl) shapeCasts_S32_S32x1)
        (broadcast S32x1 (Named.named κ "inv_d" 0x39924925#32)))
      (broadcast S32x1 (Scalar.ofBits .f32 0x358637BD#32))))

/-- The largest magnitude of each normed row. -/
def axV : FVec F S32x1 .f32 :=
  mulf (shapeCast S32x1 (multiReduction .maximumf [1] S32 (amV h b w0 w1) 0xFF800000#32 reduces_S32x128_S32 (.inl rfl) rfl) shapeCasts_S32_S32x1) (invV h)

/-- The scale of each row. -/
def scV : FVec F S32x1 .f32 :=
  select (cmpf .oeq (axV h b w0 w1) (broadcast S32x1 (Scalar.ofBits .f32 0x00000000#32)))
    (broadcast S32x1 (Scalar.ofBits .f32 0x3F800000#32)) (mulf (axV h b w0 w1) (broadcast S32x1 (Named.named κ "inv_fp8_max" 0x3B124925#32)))

/-- The scale spread over the lanes. -/
def scB : FVec F S32x128 .f32 :=
  broadcastTo S32x128 (shapeCast S32x1 (scV h b w0 w1) shapeCasts_S32x1_S32x1) broadcasts_S32x1_S32x128

/-- The codes of one block. -/
def codeV (k : Fin 28) : FVec F S32x128 .fp8e4m3 :=
  truncf .fp8e4m3 (minimumf (broadcast S32x128 (Scalar.ofBits .f32 0x43E00000#32))
    (maximumf (broadcast S32x128 (Scalar.ofBits .f32 0xC3E00000#32))
      (mulf (hw h b w0 w1 k) (broadcastTo S32x128 (divf (invV h) (scV h b w0 w1)) broadcasts_S32x1_S32x128)))) bitsLt_fp8e4m3_f32
end

theorem inb_block (g : Fin 8) (k : Fin 28) : ∀ a, (![32 * g.val, 128 * k.val] : Fin 2 → ℕ) a + S32x128.size a ≤ S256x3584.size a := by
  intro a; fin_cases a
  · show 32 * g.val + 32 ≤ 256; omega
  · show 128 * k.val + 128 ≤ 3584; omega
theorem inb_weight (q : Fin 2) (k : Fin 28) : ∀ a, (![q.val, 128 * k.val] : Fin 2 → ℕ) a + S1x128.size a ≤ S2x3584.size a := by
  intro a; fin_cases a
  · show q.val + 1 ≤ 2; omega
  · show 128 * k.val + 128 ≤ 3584; omega
theorem inb_rows (g : Fin 8) : ∀ a, (![32 * g.val, 0] : Fin 2 → ℕ) a + S32x128.size a ≤ S256x128.size a := by
  intro a; fin_cases a
  · show 32 * g.val + 32 ≤ 256; omega
  · show 0 + 128 ≤ 128; omega
theorem inb_wide (j : Fin 7) : ∀ a, (![0, 512 * j.val] : Fin 2 → ℕ) a + S256x512.size a ≤ S256x3584.size a := by
  intro a; fin_cases a
  · show 0 + 256 ≤ 256; omega
  · show 512 * j.val + 512 ≤ 3584; omega
theorem inb_wideW (j : Fin 7) : ∀ a, (![0, 0, 512 * j.val] : Fin 3 → ℕ) a + S1x896x512.size a ≤ S1x896x3584.size a := by
  intro a; fin_cases a
  · show 0 + 1 ≤ 1; omega
  · show 0 + 896 ≤ 896; omega
  · show 512 * j.val + 512 ≤ 3584; omega
theorem inb_wideS (q : Fin 2) (j : Fin 7) : ∀ a, (![q.val, 512 * j.val] : Fin 2 → ℕ) a + S1x512.size a ≤ S2x3584.size a := by
  intro a; fin_cases a
  · show q.val + 1 ≤ 2; omega
  · show 512 * j.val + 512 ≤ 3584; omega

section
variable (c : Dev nD) (i : grid0.Coords) (arg1 : Memref sig .tc .vmem S256x896 .fp8e4m3) (harg1 : arg1.IsWhole) (arg2 : Memref sig .tc .vmem S256x128 .f32) (harg2 : arg2.IsWhole) (arg3 : Memref sig .tc .vmem S256x3584 .bf16) (harg3 : arg3.IsWhole) (arg4 : Memref sig .tc .vmem S1x896x3584 .fp8e4m3) (harg4 : arg4.IsWhole) (arg5 : Memref sig .tc .vmem S2x3584 .f32) (harg5 : arg5.IsWhole) (arg6 : Memref sig .tc .vmem S2x3584 .f32) (harg6 : arg6.IsWhole) (arg7 : Memref sig .tc .vmem S256x3584 .f32) (harg7 : arg7.IsWhole) (arg8 : Memref sig .tc .vmem S256x3584 .fp8e4m3) (harg8 : arg8.IsWhole) (arg9 : Memref sig .tc .vmem S1x2x128 .f32) (harg9 : arg9.IsWhole) (arg10 : Memref sig .tc .vmem S256x128 .f32) (harg10 : arg10.IsWhole)
    (x0 : Vec F S256x896 .fp8e4m3) (x1 : Vec F S256x128 .f32) (x2 : Vec F S256x3584 .bf16) (x3 : Vec F S1x896x3584 .fp8e4m3) (x4 : Vec F S2x3584 .f32) (x5 : Vec F S2x3584 .f32)

/-- The 512 columns of the hidden block that step `j` stores. -/
def hWide (j : Fin 7) : FVec F S256x512 .f32 :=
  k0_pay4 i (View.readAt (Elt F) arg1.view (Rect.unit (s := S256x896) ![0, 0] S256x896.size inb_S256x896_S256x896_0_0).toLoadRect (harg1.unread x0))
    (View.readAt (Elt F) arg2.view (Rect.unit (s := S256x128) ![0, 0] S256x1.size inb_S256x128_S256x1_0_0).toLoadRect (harg2.unread x1))
    (View.readAt (Elt F) arg4.view (Rect.unit (s := S1x896x3584) ![0, 0, 512 * j.val] S1x896x512.size (inb_wideW j)).toLoadRect (harg4.unread x3))
    (View.readAt (Elt F) arg3.view (Rect.unit (s := S256x3584) ![0, 512 * j.val] S256x512.size (inb_wide j)).toLoadRect (harg3.unread x2))
    (View.readAt (Elt F) arg5.view (Rect.unit (s := S2x3584) ![0, 512 * j.val] S1x512.size (inb_wideS 0 j)).toLoadRect (harg5.unread x4))
    (View.readAt (Elt F) arg5.view (Rect.unit (s := S2x3584) ![1, 512 * j.val] S1x512.size (inb_wideS 1 j)).toLoadRect (harg5.unread x4))

theorem H6_eq : kernelRun0_A.sl.H6_7 c i arg1 harg1 arg2 harg2 arg3 harg3 arg4 harg4 arg5 harg5 x0 x1 x2 x3 x4
    = widesR.map fun j => ⟨Rect.unit ![0, 512 * j.val] S256x512.size (inb_wide j), hWide i arg1 harg1 arg2 harg2 arg3 harg3 arg4 harg4 arg5 harg5 x0 x1 x2 x3 x4 j⟩ := by
  sl_kernel_rfl

/-- A load of the hidden block just stored. -/
def hLoad (g : Fin 8) (k : Fin 28) : Vec F S32x128 .f32 :=
  arg7.view.readCov (kernelRun0_A.sl.H6_7 c i arg1 harg1 arg2 harg2 arg3 harg3 arg4 harg4 arg5 harg5 x0 x1 x2 x3 x4) (Rect.unit (s := S256x3584) ![32 * g.val, 128 * k.val] S32x128.size (inb_block g k)).toLoadRect

/-- A load of the norm weights. -/
def wLoad (q : Fin 2) (k : Fin 28) : Vec F S1x128 .f32 :=
  View.readAt (Elt F) arg6.view (Rect.unit (s := S2x3584) ![q.val, 128 * k.val] S1x128.size (inb_weight q k)).toLoadRect (harg6.unread x5)

set_option maxHeartbeats 4000000 in
theorem H9_eq : kernelRun0_A.sl.H9_8 c i arg1 harg1 arg2 harg2 arg3 harg3 arg4 harg4 arg5 harg5 arg6 harg6 arg7 x0 x1 x2 x3 x4 x5
    = groupsR.map fun g => ⟨Rect.unit ![32 * g.val, 0] S32x128.size (inb_rows g),
        scB (hLoad c i arg1 harg1 arg2 harg2 arg3 harg3 arg4 harg4 arg5 harg5 arg7 x0 x1 x2 x3 x4 g) (kernelRun0_A.sl.v11 i) (wLoad arg6 harg6 x5 0) (wLoad arg6 harg6 x5 1)⟩ := by
  sl_kernel_rfl

set_option maxHeartbeats 4000000 in
theorem L7_eq : (kernelRun0_A c i arg1 harg1 arg2 harg2 arg3 harg3 arg4 harg4 arg5 harg5 arg6 harg6 arg7 harg7 arg8 harg8 arg9 harg9 arg10 harg10 x0 x1 x2 x3 x4 x5).2.1
    = groupsR.flatMap fun g => colsR.map fun k => ⟨Rect.unit ![32 * g.val, 128 * k.val] S32x128.size (inb_block g k),
        codeV (hLoad c i arg1 harg1 arg2 harg2 arg3 harg3 arg4 harg4 arg5 harg5 arg7 x0 x1 x2 x3 x4 g) (kernelRun0_A.sl.v11 i) (wLoad arg6 harg6 x5 0) (wLoad arg6 harg6 x5 1) k⟩ := by
  sl_kernel_rfl
end

end Cert.OprojIdeal.Hand

end
-- ==== Proof.Oproj.Norm.lean ====
/- The norm and the quantisation of one row in plain mathematics, as the kernel orders it and as the reference orders it. -/
module

public import proofs.«01_k».proof.Proof.Up.Spec

@[expose] public section

set_option maxRecDepth 16384

noncomputable section

namespace Cert.OprojIdeal.Hand

open Idealize.ShloMosaic
open Cert.UpIdeal.Hand (codeOf abs_nonneg')

/-- The small number under the root. -/
def eps : EReal := Ideal.ofBits FTy.f32 0x358637BD#32

theorem eps_pos : 0 < eps := by
  unfold eps
  simp [Ideal.ofBits, Ideal.ieee, -EReal.coe_mul]

section
variable (v g : Fin 3584 → EReal)

/-- The root of a row's mean square, -/
def rootR : EReal := Ideal.sqrt ((∑ n, v n * v n) * ((1 / 3584 : ℝ) : EReal) + eps)

/-- one over it, -/
def invR : EReal := Ideal.div 1 (rootR v)

/-- the largest magnitude of the normed row, -/
def axR : EReal := Finset.fold max ⊥ (fun n => max (v n * g n) (-(v n * g n))) Finset.univ * invR v

/-- the scale of the row -/
def scR : EReal := if axR v g = 0 then 1 else axR v g * ((1 / 448 : ℝ) : EReal)

/-- and its codes. -/
def cdR (n : Fin 3584) : EReal :=
  min ((448 : ℝ) : EReal) (max ((-448 : ℝ) : EReal) (v n * g n * Ideal.div (invR v) (scR v g)))

theorem sq_nonneg' (a : EReal) : 0 ≤ a * a := by
  rcases le_total 0 a with h | h
  · exact mul_nonneg h h
  · have h' : 0 ≤ -a := by rw [EReal.le_neg, neg_zero]; exact h
    have := mul_nonneg h' h'
    rwa [neg_mul_neg] at this

theorem root_pos : 0 < rootR v := by
  have h : 0 < (∑ n, v n * v n) * ((1 / 3584 : ℝ) : EReal) + eps := by
    have h1 : (0 : EReal) ≤ (∑ n, v n * v n) * ((1 / 3584 : ℝ) : EReal) :=
      mul_nonneg (Finset.sum_nonneg fun n _ => sq_nonneg' (v n)) (by exact_mod_cast (by norm_num : (0 : ℝ) ≤ 1 / 3584))
    exact lt_of_lt_of_le eps_pos (le_add_of_nonneg_left h1)
  unfold rootR
  generalize (∑ n, v n * v n) * ((1 / 3584 : ℝ) : EReal) + eps = x at h
  induction x with
  | bot => exact absurd h (by simp)
  | top => simp
  | coe r =>
    have hr : 0 < r := by exact_mod_cast h
    rw [Ideal.sqrt_coe, if_neg (not_lt.2 hr.le)]
    exact_mod_cast Real.sqrt_pos.2 hr

theorem div_pos_eq {x y : EReal} (h : 0 < y) : Ideal.div x y = x * y⁻¹ := by
  unfold Ideal.div; rw [if_neg h.ne']

theorem invR_eq : invR v = (rootR v)⁻¹ := by
  unfold invR; rw [div_pos_eq (root_pos v), one_mul]

theorem invR_nonneg : 0 ≤ invR v := by
  rw [invR_eq]; exact EReal.inv_nonneg_of_nonneg (root_pos v).le

/-- The reference divides by the root before it multiplies by the weight. -/
theorem normed_eq (n : Fin 3584) : Ideal.div (v n) (rootR v) * g n = v n * g n * invR v := by
  rw [div_pos_eq (root_pos v), invR_eq, mul_right_comm]

theorem mul_mono_right {c : EReal} (h : 0 ≤ c) : Monotone fun x : EReal => x * c :=
  fun _ _ hx => mul_le_mul_of_nonneg_right hx h

theorem abs_mul_nonneg (a c : EReal) (h : 0 ≤ c) : max (a * c) (-(a * c)) = max a (-a) * c := by
  rw [← EReal.neg_mul]
  exact ((mul_mono_right h).map_max).symm

theorem fold_bot_eq {f : Fin 3584 → EReal} (hf : ∀ n, 0 ≤ f n) :
    Finset.fold max ⊥ f Finset.univ = Finset.fold max 0 f Finset.univ := by
  refine le_antisymm ?_ ?_
  · exact Finset.fold_max_le _ |>.2 ⟨bot_le, fun n _ => Finset.le_fold_max _ |>.2 (Or.inr ⟨n, Finset.mem_univ _, le_rfl⟩)⟩
  · exact Finset.fold_max_le _ |>.2 ⟨Finset.le_fold_max _ |>.2 (Or.inr ⟨0, Finset.mem_univ _, hf 0⟩),
      fun n _ => Finset.le_fold_max _ |>.2 (Or.inr ⟨n, Finset.mem_univ _, le_rfl⟩)⟩

/-- The largest magnitude of the normed row, as the reference takes it. -/
theorem refAx_eq : Finset.fold max ⊥ (fun n => max (Ideal.div (v n) (rootR v) * g n) (-(Ideal.div (v n) (rootR v) * g n))) Finset.univ = axR v g := by
  unfold axR
  rw [fold_bot_eq (fun n => abs_nonneg' _), fold_bot_eq (fun n => abs_nonneg' _)]
  have e : (fun n => max (Ideal.div (v n) (rootR v) * g n) (-(Ideal.div (v n) (rootR v) * g n)))
      = fun n => max (v n * g n) (-(v n * g n)) * invR v := by
    funext n; rw [normed_eq, abs_mul_nonneg _ _ (invR_nonneg v)]
  rw [e]
  have := Finset.fold_hom (op := max) (op' := max) (b := (0 : EReal)) (m := fun x => x * invR v) (s := Finset.univ)
    (f := fun n => max (v n * g n) (-(v n * g n))) (fun x y => (mul_mono_right (invR_nonneg v)).map_max)
  rw [zero_mul] at this
  exact this

theorem axR_nonneg : 0 ≤ axR v g := by
  unfold axR
  refine mul_nonneg ?_ (invR_nonneg v)
  rw [fold_bot_eq (fun n => abs_nonneg' _)]
  exact Finset.le_fold_max _ |>.2 (Or.inl le_rfl)

theorem scR_pos : 0 < scR v g := by
  unfold scR
  split_ifs with h
  · exact zero_lt_one
  · exact EReal.mul_pos (lt_of_le_of_ne (axR_nonneg v g) (Ne.symm h)) (by exact_mod_cast (by norm_num : (0 : ℝ) < 1 / 448))

/-- The codes, as the reference computes them. -/
theorem refCode_eq (n : Fin 3584) : codeOf (Ideal.div (v n) (rootR v) * g n) (scR v g) = cdR v g n := by
  unfold codeOf cdR
  rw [normed_eq, div_pos_eq (scR_pos v g), div_pos_eq (scR_pos v g), mul_assoc (v n * g n)]
end

/-! A row by its 28 groups of 128 columns. -/

theorem sum_lanes (f : Fin 3584 → EReal) :
    ∑ l : Fin 128, ∑ k : Fin 28, f ⟨128 * k.val + l.val, by omega⟩ = ∑ n, f n := by
  rw [Finset.sum_comm, ← Fintype.sum_prod_type']
  refine Fintype.sum_equiv (finProdFinEquiv (m := 28) (n := 128)) _ _ fun x => congrArg f (Fin.ext ?_)
  show 128 * x.1.val + x.2.val = x.2.val + 128 * x.1.val
  omega

theorem max_lanes (f : Fin 3584 → EReal) (hf : ∀ n, 0 ≤ f n) (g : Fin 128 → EReal)
    (hg : ∀ (l : Fin 128) (b : EReal), g l ≤ b ↔ 0 ≤ b ∧ ∀ k : Fin 28, f ⟨128 * k.val + l.val, by omega⟩ ≤ b) :
    Finset.fold max ⊥ g Finset.univ = Finset.fold max ⊥ f Finset.univ := by
  have key : ∀ b : EReal, Finset.fold max ⊥ g Finset.univ ≤ b ↔ Finset.fold max ⊥ f Finset.univ ≤ b := by
    intro b
    rw [Finset.fold_max_le, Finset.fold_max_le]
    constructor
    · rintro ⟨_, h⟩
      refine ⟨bot_le, fun n _ => ?_⟩
      have hn := n.isLt
      have := ((hg ⟨n.val % 128, by omega⟩ b).1 (h _ (Finset.mem_univ _))).2 ⟨n.val / 128, by omega⟩
      have e : (⟨128 * (n.val / 128) + n.val % 128, by omega⟩ : Fin 3584) = n := Fin.ext (by show 128 * (n.val / 128) + n.val % 128 = n.val; omega)
      exact e ▸ this
    · rintro ⟨_, h⟩
      exact ⟨bot_le, fun l _ => (hg l b).2 ⟨(hf 0).trans (h 0 (Finset.mem_univ _)), fun k => h _ (Finset.mem_univ _)⟩⟩
  exact le_antisymm ((key _).2 le_rfl) ((key _).1 le_rfl)

end Cert.OprojIdeal.Hand

end
-- ==== Proof.Oproj.Row.lean ====
/- What one group of 32 rows of the ideal `oproj` kernel computes, entry by entry. -/
module

public import proofs.«01_k».proof.Proof.Oproj.Pieces
public import proofs.«01_k».proof.Proof.Oproj.Norm
public import Idealize.ShloMosaic.Lib.Pointwise

@[expose] public section

set_option maxRecDepth 16384

noncomputable section

namespace Cert.OprojIdeal.Hand

open Cert.OprojIdeal Cert.OprojIdeal.Gen
open Idealize.ShloMosaic Idealize.ShloMosaic.TcCoe
open Cert.UpIdeal.Hand (bits_bot bits_448 bits_neg448 abs_nonneg')

/-- Lane `l` of the `k`th block of 128 columns. -/
abbrev col (k : Fin 28) (l : Fin 128) : Fin 3584 := ⟨128 * k.val + l.val, by omega⟩

theorem named_d : (Named.named κ "inv_d" (φ := .f32) (0x39924925#32 : BitVec 32) : Ideal .f32) = ((1 / 3584 : ℝ) : EReal) :=
  IdealRules.named_const.ideal_named_scalar _ _ _ _ rfl

theorem named_max : (Named.named κ "inv_fp8_max" (φ := .f32) (0x3B124925#32 : BitVec 32) : Ideal .f32) = ((1 / 448 : ℝ) : EReal) :=
  IdealRules.named_const.ideal_named_scalar _ _ _ _ rfl

theorem foldl_add_apply (L : List (Fin 28)) (f : Fin 28 → FVec Ideal S32x128 .f32) (z : FVec Ideal S32x128 .f32) (y : S32x128.Idx) :
    L.foldl (fun a k => addf a (f k)) z y = (z y : EReal) + (L.map fun k => (f k y : EReal)).sum := by
  induction L generalizing z with
  | nil => exact (add_zero (M := EReal) _).symm
  | cons k L ih =>
    rw [List.foldl_cons, ih, List.map_cons, List.sum_cons, ← add_assoc]
    rfl

theorem foldl_max_le (L : List (Fin 28)) (f : Fin 28 → FVec Ideal S32x128 .f32) (z : FVec Ideal S32x128 .f32) (y : S32x128.Idx) (b : EReal) :
    (L.foldl (fun a k => maximumf a (f k)) z y : EReal) ≤ b ↔ (z y : EReal) ≤ b ∧ ∀ k ∈ L, (f k y : EReal) ≤ b := by
  induction L generalizing z with
  | nil => simp
  | cons k L ih =>
    rw [List.foldl_cons, ih, List.forall_mem_cons, ← and_assoc]
    exact and_congr_left fun _ => max_le_iff

theorem mem_cols (k : Fin 28) : k ∈ cols := by revert k; decide

theorem cols_sum (f : Fin 28 → EReal) : (cols.map f).sum = ∑ k, f k := by
  rw [Fin.sum_univ_def, show cols = List.finRange 28 by decide]

section
variable (h : Fin 28 → Vec Ideal S32x128 .f32) (b : BitVec 1) (w0 w1 : Fin 28 → Vec Ideal S1x128 .f32) (r : Fin 32)
  (v g : Fin 3584 → EReal)
  (hh : ∀ (k : Fin 28) (l : Fin 128), h k (ix2 r l) = v (col k l))
  (hg : ∀ (k : Fin 28) (l : Fin 128), (Scalar.select b (w0 k) (w1 k) : Vec Ideal S1x128 .f32) (ix2 0 l) = g (col k l))

theorem hv_apply (k : Fin 28) (l : Fin 128) : hv h k (ix2 r l) = h k (ix2 r l) := by
  pointwise [hv]

include hh

theorem ssV_apply (l : Fin 128) :
    ssV h (ix2 r l) = ∑ k : Fin 28, v (col k l) * v (col k l) := by
  unfold ssV
  rw [foldl_add_apply, cols_sum]
  have e : (broadcast S32x128 (Scalar.ofBits .f32 0x00000000#32) : FVec Ideal S32x128 .f32) (ix2 r l) = (0 : EReal) := by pointwise []
  rw [e, zero_add]
  refine Finset.sum_congr rfl fun k _ => ?_
  show hv h k (ix2 r l) * hv h k (ix2 r l) = _
  rw [hv_apply, hh]

theorem invV_apply : invV h (ix2 r 0) = invR v := by
  have e : ∀ l : Fin 128, ssV h (ix2 r l) = _ := fun l => ssV_apply h r v hh l
  unfold invV
  generalize ssV h = s at e
  pointwise []
  rw [named_d]
  simp only [e]
  rw [sum_lanes fun n => v n * v n]
  rfl

include hg

theorem hw_apply (k : Fin 28) (l : Fin 128) :
    hw h b w0 w1 k (ix2 r l) = v (col k l) * g (col k l) := by
  have e := hv_apply h r k l
  rw [hh] at e
  have e' := hg k l
  unfold hw
  generalize hv h k = s at e
  generalize (Scalar.select b (w0 k) (w1 k) : Vec Ideal S1x128 .f32) = u at e'
  pointwise []
  rw [e, e']

theorem amV_le (l : Fin 128) (c : EReal) :
    (amV h b w0 w1 (ix2 r l) : EReal) ≤ c ↔ 0 ≤ c ∧ ∀ k : Fin 28,
      max (v (col k l) * g (col k l)) (-(v (col k l) * g (col k l))) ≤ c := by
  unfold amV
  rw [foldl_max_le]
  have e : (broadcast S32x128 (Scalar.ofBits .f32 0x00000000#32) : FVec Ideal S32x128 .f32) (ix2 r l) = (0 : EReal) := by pointwise []
  rw [e]
  have e' : ∀ k, (absf (hw h b w0 w1 k) (ix2 r l) : EReal)
      = max (v (col k l) * g (col k l)) (-(v (col k l) * g (col k l))) := fun k => by
    rw [← hw_apply h b w0 w1 r v g hh hg k l]; rfl
  simp only [e', mem_cols, forall_const]

theorem axV_apply : axV h b w0 w1 (ix2 r 0) = axR v g := by
  have e := invV_apply h r v hh
  have e' : Finset.fold max ⊥ (fun l : Fin 128 => (amV h b w0 w1 (ix2 r l) : EReal)) Finset.univ = _ :=
    max_lanes (fun n => max (v n * g n) (-(v n * g n))) (fun n => abs_nonneg' _) _ fun l c => amV_le h b w0 w1 r v g hh hg l c
  unfold axV
  generalize invV h = s at e
  generalize amV h b w0 w1 = t at e'
  pointwise []
  rw [bits_bot, e, e']
  rfl

theorem scV_apply : scV h b w0 w1 (ix2 r 0) = scR v g := by
  have e := axV_apply h b w0 w1 r v g hh hg
  unfold scV
  generalize axV h b w0 w1 = s at e
  pointwise []
  rw [named_max, e]
  rfl

theorem scB_apply (l : Fin 128) : scB h b w0 w1 (ix2 r l) = scR v g := by
  have e := scV_apply h b w0 w1 r v g hh hg
  unfold scB
  generalize scV h b w0 w1 = s at e
  pointwise []
  exact e

theorem codeV_apply (k : Fin 28) (l : Fin 128) :
    codeV h b w0 w1 k (ix2 r l) = cdR v g (col k l) := by
  have e := scV_apply h b w0 w1 r v g hh hg
  have e' := invV_apply h r v hh
  have e'' := hw_apply h b w0 w1 r v g hh hg k l
  unfold codeV
  generalize scV h b w0 w1 = s at e
  generalize invV h = t at e'
  generalize hw h b w0 w1 k = u at e''
  pointwise []
  rw [e, e', e'', bits_448, bits_neg448]
  rfl
end

end Cert.OprojIdeal.Hand

end
-- ==== Proof.Oproj.Block.lean ====
/- What one block of 256 rows of the ideal `oproj` kernel leaves in its outputs. -/
module

public import proofs.«01_k».proof.Proof.Oproj.Row
public import proofs.«01_k».proof.Proof.Up.Act
public import proofs.«01_k».proof.Proof.Gen.OprojIdeal.Frame
public import Idealize.ShloMosaic.Lib.Pointwise
public import Idealize.ShloMosaic.Lib.Pipeline.ValueKit

@[expose] public section

set_option maxRecDepth 16384

noncomputable section

namespace Cert.OprojIdeal.Hand

open Cert.OprojIdeal Cert.OprojIdeal.Gen
open Idealize.ShloMosaic Idealize.ShloMosaic.TcCoe
open Cert.UpIdeal.Hand (rd2 rd3)

/-- The hidden value at a row and a column of a point's blocks. -/
def hidB (i : grid0.Coords) (x0 : Vec Ideal S256x896 .fp8e4m3) (x1 : Vec Ideal S256x128 .f32) (x2 : Vec Ideal S256x3584 .bf16)
    (x3 : Vec Ideal S1x896x3584 .fp8e4m3) (x4 : Vec Ideal S2x3584 .f32) (r : Fin 256) (n : Fin 3584) : EReal :=
  x2 (ix2 r n) + (∑ k : Fin 896, x0 (ix2 r k) * x3 (ix3 0 k n)) * x1 (ix2 r 0) * (if (i 0).val = 0 then x4 (ix2 0 n) else x4 (ix2 1 n))

/-- The norm weight of a column: the first block of rows uses the first row of weights, the others the second. -/
def gB (i : grid0.Coords) (x5 : Vec Ideal S2x3584 .f32) (n : Fin 3584) : EReal :=
  if (i 0).val = 0 then x5 (ix2 0 n) else x5 (ix2 1 n)

theorem flag_eq (i : grid0.Coords) : kernelRun0_A.sl.v11 i = if (i 0).val = 0 then 1#1 else 0#1 := by
  have h : ∀ n : Fin 8, Scalar.cmpi .eq (Scalar.minsi (BitVec.ofNat 32 n.val) 1#32) 0#32 = if n.val = 0 then 1#1 else 0#1 := by decide
  exact h (i 0)

theorem select_flag (i : grid0.Coords) {n : ℕ} (a b : Vec Ideal ⟨2, ![1, n]⟩ .f32) (l : Fin n) :
    (Scalar.select (kernelRun0_A.sl.v11 i) a b : Vec Ideal ⟨2, ![1, n]⟩ .f32) (ix2 0 l) = if (i 0).val = 0 then a (ix2 0 l) else b (ix2 0 l) := by
  rw [flag_eq]
  split <;> rfl

theorem pay4_apply (i : grid0.Coords) (v1 : Vec Ideal S256x896 .fp8e4m3) (v2 : Vec Ideal S256x1 .f32) (v4 : Vec Ideal S1x896x512 .fp8e4m3)
    (v7 : Vec Ideal S256x512 .bf16) (v12 v13 : Vec Ideal S1x512 .f32) (r : Fin 256) (n : Fin 512) :
    k0_pay4 i v1 v2 v4 v7 v12 v13 (ix2 r n)
      = v7 (ix2 r n) + (∑ k : Fin 896, v1 (ix2 r k) * v4 (ix3 0 k n)) * v2 (ix2 r 0) * (if (i 0).val = 0 then v12 (ix2 0 n) else v13 (ix2 0 n)) := by
  rw [← select_flag]
  have e : k0_pay4 i v1 v2 v4 v7 v12 v13 = addf (extf .f32 v7 bitsLt_bf16_f32)
      (mulf (mulf (matmul dot_S256x896_S896x512_S256x512_1_0_0_1_n_n none v1 (shapeCast S896x512 v4 shapeCasts_S1x896x512_S896x512) (constant S256x512 .f32 0x00000000#32))
        (broadcastTo S256x512 (k0_pay3 v2) broadcasts_S256x1_S256x512))
        (broadcastTo S256x512 (Scalar.select (kernelRun0_A.sl.v11 i) v12 v13) broadcasts_S1x512_S256x512)) := rfl
  rw [e]
  generalize (Scalar.select (kernelRun0_A.sl.v11 i) v12 v13 : Vec Ideal S1x512 .f32) = u
  pointwise [k0_pay3]

section
variable (c : Dev nD) (i : grid0.Coords) (arg1 : Memref sig .tc .vmem S256x896 .fp8e4m3) (harg1 : arg1.IsWhole) (arg2 : Memref sig .tc .vmem S256x128 .f32) (harg2 : arg2.IsWhole) (arg3 : Memref sig .tc .vmem S256x3584 .bf16) (harg3 : arg3.IsWhole) (arg4 : Memref sig .tc .vmem S1x896x3584 .fp8e4m3) (harg4 : arg4.IsWhole) (arg5 : Memref sig .tc .vmem S2x3584 .f32) (harg5 : arg5.IsWhole) (arg6 : Memref sig .tc .vmem S2x3584 .f32) (harg6 : arg6.IsWhole) (arg7 : Memref sig .tc .vmem S256x3584 .f32) (harg7 : arg7.IsWhole) (arg8 : Memref sig .tc .vmem S256x3584 .fp8e4m3) (harg8 : arg8.IsWhole) (arg9 : Memref sig .tc .vmem S1x2x128 .f32) (harg9 : arg9.IsWhole) (arg10 : Memref sig .tc .vmem S256x128 .f32) (harg10 : arg10.IsWhole)
    (x0 : Vec Ideal S256x896 .fp8e4m3) (x1 : Vec Ideal S256x128 .f32) (x2 : Vec Ideal S256x3584 .bf16) (x3 : Vec Ideal S1x896x3584 .fp8e4m3) (x4 : Vec Ideal S2x3584 .f32) (x5 : Vec Ideal S2x3584 .f32)

theorem hWide_apply (j : Fin 7) (r : Fin 256) (n : Fin 512) :
    hWide i arg1 harg1 arg2 harg2 arg3 harg3 arg4 harg4 arg5 harg5 x0 x1 x2 x3 x4 j (ix2 r n) = hidB i x0 x1 x2 x3 x4 r ⟨512 * j.val + n.val, by omega⟩ := by
  unfold hWide hidB
  rw [pay4_apply, rd2 harg2 _ _ _ _ _ r 0 (Nat.zero_add _) (Nat.zero_add _),
    rd2 harg3 _ _ _ _ _ r ⟨512 * j.val + n.val, by omega⟩ (Nat.zero_add _) rfl,
    rd2 harg5 _ _ _ _ _ 0 ⟨512 * j.val + n.val, by omega⟩ rfl rfl,
    rd2 harg5 _ _ _ _ _ 1 ⟨512 * j.val + n.val, by omega⟩ rfl rfl]
  refine congrArg (fun s => x2 (ix2 r ⟨512 * j.val + n.val, by omega⟩) + s * x1 (ix2 r 0) * _) (Finset.sum_congr rfl fun k _ => ?_)
  exact congrArg₂ (· * ·) (rd2 harg1 _ _ _ _ _ r k (Nat.zero_add _) (Nat.zero_add _))
    (rd3 harg4 _ _ _ _ _ _ 0 k ⟨512 * j.val + n.val, by omega⟩ rfl (Nat.zero_add _) rfl)

theorem H6_pieces : ∀ p ∈ kernelRun0_A.sl.H6_7 c i arg1 harg1 arg2 harg2 arg3 harg3 arg4 harg4 arg5 harg5 x0 x1 x2 x3 x4, ∀ x, p.2 x = hidB i x0 x1 x2 x3 x4 (p.1.emb x 0) (p.1.emb x 1) := by
  rw [H6_eq]
  intro p hp
  obtain ⟨j, _, rfl⟩ := List.mem_map.1 hp
  intro x
  obtain ⟨r, n, rfl⟩ : ∃ (r : Fin 256) (n : Fin 512), x = ix2 r n := ⟨x 0, x 1, eq_ix2 x⟩
  refine (hWide_apply i arg1 harg1 arg2 harg2 arg3 harg3 arg4 harg4 arg5 harg5 x0 x1 x2 x3 x4 j r n).trans ?_
  refine congrArg₂ (hidB i x0 x1 x2 x3 x4) (Fin.ext ?_) (Fin.ext ?_)
  · show r.val = 0 + 1 * r.val; omega
  · show 512 * j.val + n.val = 512 * j.val + 1 * n.val; omega

theorem H6_cover (y : S256x3584.Idx) : ∃ p ∈ kernelRun0_A.sl.H6_7 c i arg1 harg1 arg2 harg2 arg3 harg3 arg4 harg4 arg5 harg5 x0 x1 x2 x3 x4, y ∈ p.1.set :=
  View.cover_of_tiledL (kernelRun0_A.sl.H6_7 c i arg1 harg1 arg2 harg2 arg3 harg3 arg4 harg4 arg5 harg5 x0 x1 x2 x3 x4) S256x512.size (by sl_kernel_rfl) y

theorem hLoad_apply (g : Fin 8) (k : Fin 28) (r : Fin 32) (l : Fin 128) :
    hLoad c i arg1 harg1 arg2 harg2 arg3 harg3 arg4 harg4 arg5 harg5 arg7 x0 x1 x2 x3 x4 g k (ix2 r l) = hidB i x0 x1 x2 x3 x4 ⟨32 * g.val + r.val, by omega⟩ ⟨128 * k.val + l.val, by omega⟩ := by
  unfold hLoad
  rw [View.readCov_eq_canon']
  refine View.canon_eq_of_allAt _ _ _ (H6_cover c i arg1 harg1 arg2 harg2 arg3 harg3 arg4 harg4 arg5 harg5 x0 x1 x2 x3 x4 _) fun p hp x hx => ?_
  rw [H6_pieces c i arg1 harg1 arg2 harg2 arg3 harg3 arg4 harg4 arg5 harg5 x0 x1 x2 x3 x4 p hp x, hx]
  refine congrArg₂ (hidB i x0 x1 x2 x3 x4) (Fin.ext ?_) (Fin.ext ?_)
  · show 32 * g.val + 1 * r.val = 32 * g.val + r.val; omega
  · show 128 * k.val + 1 * l.val = 128 * k.val + l.val; omega

theorem wSel_apply (k : Fin 28) (l : Fin 128) :
    (Scalar.select (kernelRun0_A.sl.v11 i) (wLoad arg6 harg6 x5 0 k) (wLoad arg6 harg6 x5 1 k) : Vec Ideal S1x128 .f32) (ix2 0 l)
      = gB i x5 ⟨128 * k.val + l.val, by omega⟩ := by
  rw [select_flag]
  unfold gB wLoad
  rw [rd2 harg6 _ _ _ _ _ 0 ⟨128 * k.val + l.val, by omega⟩ rfl rfl, rd2 harg6 _ _ _ _ _ 1 ⟨128 * k.val + l.val, by omega⟩ rfl rfl]

theorem H9_pieces : ∀ p ∈ kernelRun0_A.sl.H9_8 c i arg1 harg1 arg2 harg2 arg3 harg3 arg4 harg4 arg5 harg5 arg6 harg6 arg7 x0 x1 x2 x3 x4 x5, ∀ x, p.2 x = scR (hidB i x0 x1 x2 x3 x4 (p.1.emb x 0)) (gB i x5) := by
  rw [H9_eq]
  intro p hp
  obtain ⟨g, _, rfl⟩ := List.mem_map.1 hp
  intro x
  obtain ⟨r, l, rfl⟩ : ∃ (r : Fin 32) (l : Fin 128), x = ix2 r l := ⟨x 0, x 1, eq_ix2 x⟩
  refine (scB_apply _ _ _ _ r _ _ (hLoad_apply c i arg1 harg1 arg2 harg2 arg3 harg3 arg4 harg4 arg5 harg5 arg7 x0 x1 x2 x3 x4 g · r ·) (wSel_apply i arg6 harg6 x5) l).trans ?_
  refine congrArg (fun R => scR (hidB i x0 x1 x2 x3 x4 R) (gB i x5)) (Fin.ext ?_)
  show 32 * g.val + r.val = 32 * g.val + 1 * r.val; omega

theorem L7_pieces : ∀ p ∈ (kernelRun0_A c i arg1 harg1 arg2 harg2 arg3 harg3 arg4 harg4 arg5 harg5 arg6 harg6 arg7 harg7 arg8 harg8 arg9 harg9 arg10 harg10 x0 x1 x2 x3 x4 x5).2.1, ∀ x,
    p.2 x = cdR (hidB i x0 x1 x2 x3 x4 (p.1.emb x 0)) (gB i x5) (p.1.emb x 1) := by
  rw [L7_eq]
  intro p hp
  obtain ⟨g, _, hp⟩ := List.mem_flatMap.1 hp
  obtain ⟨k, _, rfl⟩ := List.mem_map.1 hp
  intro x
  obtain ⟨r, l, rfl⟩ : ∃ (r : Fin 32) (l : Fin 128), x = ix2 r l := ⟨x 0, x 1, eq_ix2 x⟩
  refine (codeV_apply _ _ _ _ r _ _ (hLoad_apply c i arg1 harg1 arg2 harg2 arg3 harg3 arg4 harg4 arg5 harg5 arg7 x0 x1 x2 x3 x4 g · r ·) (wSel_apply i arg6 harg6 x5) k l).trans ?_
  refine congrArg₂ (fun R n => cdR (hidB i x0 x1 x2 x3 x4 R) (gB i x5) n) (Fin.ext ?_) (Fin.ext ?_)
  · show 32 * g.val + r.val = 32 * g.val + 1 * r.val; omega
  · show 128 * k.val + l.val = 128 * k.val + 1 * l.val; omega

theorem H9_cover (y : S256x128.Idx) : ∃ p ∈ kernelRun0_A.sl.H9_8 c i arg1 harg1 arg2 harg2 arg3 harg3 arg4 harg4 arg5 harg5 arg6 harg6 arg7 x0 x1 x2 x3 x4 x5, y ∈ p.1.set :=
  View.cover_of_tiledL (kernelRun0_A.sl.H9_8 c i arg1 harg1 arg2 harg2 arg3 harg3 arg4 harg4 arg5 harg5 arg6 harg6 arg7 x0 x1 x2 x3 x4 x5) S32x128.size (by sl_kernel_rfl) y

/-- A load of half of the scale column just stored. -/
theorem half_apply (o : ℕ) (ho : o + 128 ≤ 256) (inb : ∀ a, (![o, 0] : Fin 2 → ℕ) a + S128x128.size a ≤ S256x128.size a) (r l : Fin 128) :
    arg10.view.readCov (kernelRun0_A.sl.H9_8 c i arg1 harg1 arg2 harg2 arg3 harg3 arg4 harg4 arg5 harg5 arg6 harg6 arg7 x0 x1 x2 x3 x4 x5) (Rect.unit (s := S256x128) ![o, 0] S128x128.size inb).toLoadRect (ix2 r l)
      = scR (hidB i x0 x1 x2 x3 x4 ⟨o + r.val, by omega⟩) (gB i x5) := by
  rw [View.readCov_eq_canon']
  refine View.canon_eq_of_allAt _ _ _ (H9_cover c i arg1 harg1 arg2 harg2 arg3 harg3 arg4 harg4 arg5 harg5 arg6 harg6 arg7 x0 x1 x2 x3 x4 x5 _) fun p hp x hx => ?_
  rw [H9_pieces c i arg1 harg1 arg2 harg2 arg3 harg3 arg4 harg4 arg5 harg5 arg6 harg6 arg7 x0 x1 x2 x3 x4 x5 p hp x, hx]
  refine congrArg (fun R => scR (hidB i x0 x1 x2 x3 x4 R) (gB i x5)) (Fin.ext ?_)
  show o + 1 * r.val = o + r.val; omega

theorem pay1_apply (v : Vec Ideal S128x128 .f32) (a b : Fin 1) (l : Fin 128) : k0_pay1 v (ix3 a b l) = v (ix2 l 0) := by
  pointwise [k0_pay1]

theorem pay2_apply (v : Vec Ideal S128x128 .f32) (a b : Fin 1) (l : Fin 128) : k0_pay2 v (ix3 a b l) = v (ix2 l 0) := by
  pointwise [k0_pay2]

/-- The scales of a block's 256 rows as two rows of 128 lanes. -/
def scB3 (y : S1x2x128.Idx) : EReal :=
  scR (hidB i x0 x1 x2 x3 x4 ⟨128 * (y 1).val + (y 2).val, by
    have h1 : (y 1).val < 2 := (y 1).isLt
    have h2 : (y 2).val < 128 := (y 2).isLt
    omega⟩) (gB i x5)

theorem L8_eq : (kernelRun0_A c i arg1 harg1 arg2 harg2 arg3 harg3 arg4 harg4 arg5 harg5 arg6 harg6 arg7 harg7 arg8 harg8 arg9 harg9 arg10 harg10 x0 x1 x2 x3 x4 x5).2.2.1
    = [⟨Rect.unit ![0, 1, 0] ![1, 1, 128] inb_S1x2x128_S1x1x128_0_1_0,
        k0_pay2 (arg10.view.readCov (kernelRun0_A.sl.H9_8 c i arg1 harg1 arg2 harg2 arg3 harg3 arg4 harg4 arg5 harg5 arg6 harg6 arg7 x0 x1 x2 x3 x4 x5) (Rect.unit (s := S256x128) ![128, 0] S128x128.size inb_S256x128_S128x128_128_0).toLoadRect)⟩,
      ⟨Rect.unit ![0, 0, 0] ![1, 1, 128] inb_S1x2x128_S1x1x128_0_0_0,
        k0_pay1 (arg10.view.readCov (kernelRun0_A.sl.H9_8 c i arg1 harg1 arg2 harg2 arg3 harg3 arg4 harg4 arg5 harg5 arg6 harg6 arg7 x0 x1 x2 x3 x4 x5) (Rect.unit (s := S256x128) ![0, 0] S128x128.size inb_S256x128_S128x128_0_0).toLoadRect)⟩] := by
  sl_kernel_rfl

theorem L8_pieces : ∀ p ∈ (kernelRun0_A c i arg1 harg1 arg2 harg2 arg3 harg3 arg4 harg4 arg5 harg5 arg6 harg6 arg7 harg7 arg8 harg8 arg9 harg9 arg10 harg10 x0 x1 x2 x3 x4 x5).2.2.1, ∀ x, p.2 x = scB3 i x0 x1 x2 x3 x4 x5 (p.1.emb x) := by
  rw [L8_eq]
  simp only [List.forall_mem_cons]
  refine ⟨?_, ?_, fun _ h => absurd h List.not_mem_nil⟩
  all_goals intro x
  · obtain ⟨a, b, l, rfl⟩ : ∃ (a : Fin 1) (b : Fin 1) (l : Fin 128), x = ix3 a b l := ⟨x 0, x 1, x 2, eq_ix3 x⟩
    refine (pay2_apply _ a b l).trans ((half_apply c i arg1 harg1 arg2 harg2 arg3 harg3 arg4 harg4 arg5 harg5 arg6 harg6 arg7 arg10 x0 x1 x2 x3 x4 x5 128 (by omega) _ l 0).trans ?_)
    refine congrArg (fun R => scR (hidB i x0 x1 x2 x3 x4 R) (gB i x5)) (Fin.ext ?_)
    show 128 + l.val = 128 * (1 + 1 * b.val) + (0 + 1 * l.val); omega
  · obtain ⟨a, b, l, rfl⟩ : ∃ (a : Fin 1) (b : Fin 1) (l : Fin 128), x = ix3 a b l := ⟨x 0, x 1, x 2, eq_ix3 x⟩
    refine (pay1_apply _ a b l).trans ((half_apply c i arg1 harg1 arg2 harg2 arg3 harg3 arg4 harg4 arg5 harg5 arg6 harg6 arg7 arg10 x0 x1 x2 x3 x4 x5 0 (by omega) _ l 0).trans ?_)
    refine congrArg (fun R => scR (hidB i x0 x1 x2 x3 x4 R) (gB i x5)) (Fin.ext ?_)
    show 0 + l.val = 128 * (0 + 1 * b.val) + (0 + 1 * l.val); omega

/-- The block of hidden values the point leaves, -/
theorem out6_apply (y : S256x3584.Idx) : out0_A_6 c i arg1 harg1 arg2 harg2 arg3 harg3 arg4 harg4 arg5 harg5 arg6 harg6 arg7 harg7 arg8 harg8 arg9 harg9 arg10 harg10 x0 x1 x2 x3 x4 x5 y = hidB i x0 x1 x2 x3 x4 (y 0) (y 1) := by
  unfold out0_A_6
  have e : (kernelRun0_A c i arg1 harg1 arg2 harg2 arg3 harg3 arg4 harg4 arg5 harg5 arg6 harg6 arg7 harg7 arg8 harg8 arg9 harg9 arg10 harg10 x0 x1 x2 x3 x4 x5).1 = kernelRun0_A.sl.H6_7 c i arg1 harg1 arg2 harg2 arg3 harg3 arg4 harg4 arg5 harg5 x0 x1 x2 x3 x4 := by sl_kernel_rfl
  rw [e]
  exact View.read_writes_apply_of_pieces _ _ (fun y => hidB i x0 x1 x2 x3 x4 (y 0) (y 1)) _ (H6_pieces c i arg1 harg1 arg2 harg2 arg3 harg3 arg4 harg4 arg5 harg5 x0 x1 x2 x3 x4) y (H6_cover c i arg1 harg1 arg2 harg2 arg3 harg3 arg4 harg4 arg5 harg5 x0 x1 x2 x3 x4 y)

/-- its codes, -/
theorem out7_apply (y : S256x3584.Idx) : out0_A_7 c i arg1 harg1 arg2 harg2 arg3 harg3 arg4 harg4 arg5 harg5 arg6 harg6 arg7 harg7 arg8 harg8 arg9 harg9 arg10 harg10 x0 x1 x2 x3 x4 x5 y = cdR (hidB i x0 x1 x2 x3 x4 (y 0)) (gB i x5) (y 1) := by
  unfold out0_A_7
  exact View.read_writes_apply_of_pieces _ _ (fun y => cdR (hidB i x0 x1 x2 x3 x4 (y 0)) (gB i x5) (y 1)) _ (L7_pieces c i arg1 harg1 arg2 harg2 arg3 harg3 arg4 harg4 arg5 harg5 arg6 harg6 arg7 harg7 arg8 harg8 arg9 harg9 arg10 harg10 x0 x1 x2 x3 x4 x5) y (cover0_A_7 c i arg1 harg1 arg2 harg2 arg3 harg3 arg4 harg4 arg5 harg5 arg6 harg6 arg7 harg7 arg8 harg8 arg9 harg9 arg10 harg10 x0 x1 x2 x3 x4 x5 y)

/-- and their scales. -/
theorem out8_apply (y : S1x2x128.Idx) : out0_A_8 c i arg1 harg1 arg2 harg2 arg3 harg3 arg4 harg4 arg5 harg5 arg6 harg6 arg7 harg7 arg8 harg8 arg9 harg9 arg10 harg10 x0 x1 x2 x3 x4 x5 y = scB3 i x0 x1 x2 x3 x4 x5 y := by
  unfold out0_A_8
  exact View.read_writes_apply_of_pieces _ _ (scB3 i x0 x1 x2 x3 x4 x5) _ (L8_pieces c i arg1 harg1 arg2 harg2 arg3 harg3 arg4 harg4 arg5 harg5 arg6 harg6 arg7 harg7 arg8 harg8 arg9 harg9 arg10 harg10 x0 x1 x2 x3 x4 x5) y (cover0_A_8 c i arg1 harg1 arg2 harg2 arg3 harg3 arg4 harg4 arg5 harg5 arg6 harg6 arg7 harg7 arg8 harg8 arg9 harg9 arg10 harg10 x0 x1 x2 x3 x4 x5 y)
end

end Cert.OprojIdeal.Hand

end
-- ==== Proof.Oproj.Spec.lean ====
/- The function both `oproj` programs compute over the extended reals: the hidden row, its scale and its codes. -/
module

public import proofs.«01_k».proof.Proof.Oproj.Norm
public import proofs.«01_k».proof.Proof.Gen.OprojIdeal.Skeleton
public import Idealize.ShloMosaic.Lib.Pointwise

@[expose] public section

set_option maxRecDepth 16384

noncomputable section

namespace Cert.OprojIdeal.Hand

open Cert.OprojIdeal
open Idealize.ShloMosaic Idealize.ShloMosaic.TcCoe
open Cert.UpIdeal.Hand (kindOf)

/-- The hidden value of row `R` and column `n`: the residual plus the attention output times the weight of the row's token kind. -/
def hidS (c2 : Vec Ideal S2048x896 .fp8e4m3) (s2 : Vec Ideal S2048x1 .f32) (hs : Vec Ideal S2048x3584 .bf16) (w : Vec Ideal S2x896x3584 .fp8e4m3)
    (sw : Vec Ideal S2x3584 .f32) (R : Fin 2048) (n : Fin 3584) : EReal :=
  hs (ix2 R n) + (∑ k : Fin 896, c2 (ix2 R k) * w (ix3 (kindOf R) k n)) * s2 (ix2 R 0) * sw (ix2 (kindOf R) n)

/-- The norm weight of row `R` and column `n`. -/
def gS (ln : Vec Ideal S2x3584 .f32) (R : Fin 2048) (n : Fin 3584) : EReal := ln (ix2 (kindOf R) n)

end Cert.OprojIdeal.Hand

end
-- ==== Proof.Oproj.Final.lean ====
/- What the three result arrays of the ideal `oproj` kernel hold after the run, and the run read. -/
module

public import proofs.«01_k».proof.Proof.Oproj.Block
public import proofs.«01_k».proof.Proof.Oproj.Spec
public import proofs.«01_k».proof.Proof.Gen.OprojIdeal.Value
public import Idealize.ShloMosaic.Lib.Pipeline.ValueKit

@[expose] public section

set_option maxRecDepth 16384

noncomputable section

namespace Cert.OprojIdeal.Hand

open Cert.OprojIdeal Cert.OprojIdeal.Gen
open Idealize.ShloMosaic Idealize.ShloMosaic.TcCoe Idealize.ShloMosaic.Tactic
open Idealize.SL Idealize.SL.Sem
open Idealize.ShloMosaic.Pipeline (Dat Cfg Window)
open Cert.UpIdeal.Hand (kindOf)

variable (m : (ℓ : Loc nD τ sig) → Buf (Elt Ideal) ℓ) (ρ : Dev nD → PrngReg)

/-- The index maps of the windows: block `t` of the rows, and the weight of the block's token kind. -/
theorem idx_all : ∀ t : Fin cfg0.N,
    win0_0.index t = ![t.val, 0] ∧ win0_1.index t = ![t.val, 0] ∧ win0_2.index t = ![t.val, 0] ∧ win0_3.index t = ![min t.val 1, 0, 0]
      ∧ win0_4.index t = ![0, 0] ∧ win0_5.index t = ![0, 0] ∧ win0_6.index t = ![t.val, 0] ∧ win0_7.index t = ![t.val, 0] ∧ win0_8.index t = ![t.val, 0, 0] :=
  (by decide +kernel : ∀ t : Fin grid0.N,
    win0_0.index t = ![t.val, 0] ∧ win0_1.index t = ![t.val, 0] ∧ win0_2.index t = ![t.val, 0] ∧ win0_3.index t = ![min t.val 1, 0, 0]
      ∧ win0_4.index t = ![0, 0] ∧ win0_5.index t = ![0, 0] ∧ win0_6.index t = ![t.val, 0] ∧ win0_7.index t = ![t.val, 0] ∧ win0_8.index t = ![t.val, 0, 0])

theorem coord_eq : ∀ t : Fin cfg0.N, ((grid0.coords t) 0).val = t.val :=
  (by decide +kernel : ∀ t : Fin grid0.N, ((grid0.coords t) 0).val = t.val)

/-- The scale column spread over the lanes, as the host hands it to the kernel. -/
theorem V_main_v0 (c : Dev nD) (r : Fin 2048) (l : Fin 128) : V m c main_v0 (ix2 r l) = m ((c : Thread nD τ).loc main_arg1) (ix2 r 0) := by
  entry_read
  pointwise []

/-- Row `r` of block `t`. -/
def rowT (t : Fin cfg0.N) (r : Fin 256) : Fin 2048 := ⟨256 * t.val + r.val, by
  have hN : t.val < 8 := Nat.lt_of_lt_of_eq t.isLt N_0
  omega⟩

/-- The token kind of the rows of block `t`. -/
def kindT (t : Fin cfg0.N) : Fin 2 := ⟨min t.val 1, by omega⟩

theorem kind_row (t : Fin cfg0.N) (r : Fin 256) : kindOf (rowT t r) = kindT t := by
  unfold kindOf rowT kindT
  rcases Nat.eq_zero_or_pos t.val with h | h
  · rw [if_pos (by show 256 * t.val + r.val < 256; omega)]
    exact Fin.ext (by show 0 = min t.val 1; omega)
  · rw [if_neg (by show ¬ (256 * t.val + r.val < 256); omega)]
    exact Fin.ext (by show 1 = min t.val 1; omega)

section
variable (c : Dev nD) (t : Fin cfg0.N)

/-! The blocks at a point, read in the arguments. -/

theorem blk0_0 (r : Fin 256) (k : Fin 896) : iblk m c 0 t (ix2 r k) = m ((c : Thread nD τ).loc main_arg0) (ix2 (rowT t r) k) := by
  blk_ext [iblk, V, idx_all t, rowT]
theorem blk0_1 (r : Fin 256) (l : Fin 128) : iblk m c 1 t (ix2 r l) = m ((c : Thread nD τ).loc main_arg1) (ix2 (rowT t r) 0) := by
  rw [← V_main_v0 m c (rowT t r) l]
  blk_ext [iblk, idx_all t, rowT]
theorem blk0_2 (r : Fin 256) (n : Fin 3584) : iblk m c 2 t (ix2 r n) = m ((c : Thread nD τ).loc main_arg2) (ix2 (rowT t r) n) := by
  blk_ext [iblk, V, idx_all t, rowT]
theorem blk0_3 (k : Fin 896) (n : Fin 3584) : iblk m c 3 t (ix3 0 k n) = m ((c : Thread nD τ).loc main_arg3) (ix3 (kindT t) k n) := by
  blk_ext [iblk, V, idx_all t, kindT]
theorem blk0_4 (q : Fin 2) (n : Fin 3584) : iblk m c 4 t (ix2 q n) = m ((c : Thread nD τ).loc main_arg4) (ix2 q n) := by
  blk_ext [iblk, V, idx_all t]
theorem blk0_5 (q : Fin 2) (n : Fin 3584) : iblk m c 5 t (ix2 q n) = m ((c : Thread nD τ).loc main_arg5) (ix2 q n) := by
  blk_ext [iblk, V, idx_all t]

theorem ite_kind (f : Fin 2 → EReal) : (if ((grid0.coords t) 0).val = 0 then f 0 else f 1) = f (kindT t) := by
  rw [coord_eq]
  unfold kindT
  split
  · exact congrArg f (Fin.ext (by show 0 = min t.val 1; omega))
  · exact congrArg f (Fin.ext (by show 1 = min t.val 1; omega))

/-- The hidden value of row `R` and column `n`, over the arguments as launched. -/
abbrev hidM (R : Fin 2048) (n : Fin 3584) : EReal :=
  hidS (m ((c : Thread nD τ).loc main_arg0)) (m ((c : Thread nD τ).loc main_arg1)) (m ((c : Thread nD τ).loc main_arg2)) (m ((c : Thread nD τ).loc main_arg3))
    (m ((c : Thread nD τ).loc main_arg4)) R n

/-- The norm weight of row `R` and column `n`, over the arguments as launched. -/
abbrev gM (R : Fin 2048) (n : Fin 3584) : EReal := gS (m ((c : Thread nD τ).loc main_arg5)) R n

theorem hidB_eq (r : Fin 256) :
    hidB (grid0.coords t) (iblk m c 0 t) (iblk m c 1 t) (iblk m c 2 t) (iblk m c 3 t) (iblk m c 4 t) r = hidM m c (rowT t r) := by
  funext n
  unfold hidB hidM hidS
  rw [kind_row, ite_kind t fun q => iblk m c 4 t (ix2 q n), blk0_1, blk0_2, blk0_4]
  simp only [blk0_0, blk0_3]

theorem gB_eq (r : Fin 256) : gB (grid0.coords t) (iblk m c 5 t) = gM m c (rowT t r) := by
  funext n
  unfold gB gM gS
  rw [kind_row, ite_kind t fun q => iblk m c 5 t (ix2 q n), blk0_5]
end

/-- The hidden values the run leaves, -/
def G6 (c : Dev nD) : Vec Ideal S2048x3584 .f32 := fun y => hidM m c (y 0) (y 1)

/-- the codes of the normed rows, -/
def G7 (c : Dev nD) : Vec Ideal S2048x3584 .fp8e4m3 := fun y => cdR (hidM m c (y 0)) (gM m c (y 0)) (y 1)

/-- The scale of row `R`, over the arguments as launched. -/
def scM (c : Dev nD) (R : Fin 2048) : EReal := scR (hidM m c R) (gM m c R)

/-- and the scales. -/
def G8 (c : Dev nD) : Vec Ideal S8x2x128 .f32 := fun y =>
  scM m c ⟨256 * (y 0).val + 128 * (y 1).val + (y 2).val, by
    have h0 : (y 0).val < 8 := (y 0).isLt
    have h1 : (y 1).val < 2 := (y 1).isLt
    have h2 : (y 2).val < 128 := (y 2).isLt
    omega⟩

/-! What each point leaves in its output blocks, over the arguments as launched. -/

def hidBlk (c : Dev nD) (t : Fin cfg0.N) : Vec Ideal S256x3584 .f32 := fun y => hidM m c (rowT t (y 0)) (y 1)

def codeBlk (c : Dev nD) (t : Fin cfg0.N) : Vec Ideal S256x3584 .fp8e4m3 := fun y => cdR (hidM m c (rowT t (y 0))) (gM m c (rowT t (y 0))) (y 1)

def scaleBlk (c : Dev nD) (t : Fin cfg0.N) : Vec Ideal S1x2x128 .f32 := fun y =>
  scM m c (rowT t ⟨128 * (y 1).val + (y 2).val, by
    have h1 : (y 1).val < 2 := (y 1).isLt
    have h2 : (y 2).val < 128 := (y 2).isLt
    omega⟩)

theorem outs6 (c : Dev nD) (t : Fin cfg0.N) : (outsAt0 m c t).1 = hidBlk m c t := by
  unfold outsAt0
  dsimp only
  funext y
  rw [out6_apply, hidB_eq m c t (y 0)]
  rfl

theorem outs7 (c : Dev nD) (t : Fin cfg0.N) : (outsAt0 m c t).2.1 = codeBlk m c t := by
  unfold outsAt0
  dsimp only
  funext y
  rw [out7_apply, hidB_eq m c t (y 0), gB_eq m c t (y 0)]
  rfl

theorem outs8 (c : Dev nD) (t : Fin cfg0.N) : (outsAt0 m c t).2.2.1 = scaleBlk m c t := by
  unfold outsAt0
  dsimp only
  funext y
  rw [out8_apply]
  unfold scB3 scaleBlk scM
  rw [hidB_eq, gB_eq]

theorem final6 (c : Dev nD) : (dats m 0 c).arrAt 6 cfg0.N = G6 m c := by
  refine (dats m 0 c).arrAt_eq_of_covers 6 _ (by decide +kernel) fun t hf y => ?_
  blk_simp
  rw [after0_6, outs6]
  unfold hidBlk G6
  refine congrArg₂ (hidM m c) (Fin.ext ?_) (Fin.ext ?_)
  · blk_simp [idx_all t, rowT]
    show 256 * t.val + (y 0).val = t.val * 256 + (y 0).val
    omega
  · blk_simp [idx_all t]

theorem final7 (c : Dev nD) : (dats m 0 c).arrAt 7 cfg0.N = G7 m c := by
  refine (dats m 0 c).arrAt_eq_of_covers 7 _ (by decide +kernel) fun t hf y => ?_
  blk_simp
  rw [after0_7, outs7]
  unfold codeBlk G7
  refine congrArg₂ (fun R n => cdR (hidM m c R) (gM m c R) n) (Fin.ext ?_) (Fin.ext ?_)
  · blk_simp [idx_all t, rowT]
    show 256 * t.val + (y 0).val = t.val * 256 + (y 0).val
    omega
  · blk_simp [idx_all t]

theorem final8 (c : Dev nD) : (dats m 0 c).arrAt 8 cfg0.N = G8 m c := by
  refine (dats m 0 c).arrAt_eq_of_covers 8 _ (by decide +kernel) fun t hf y => ?_
  blk_simp
  rw [after0_8, outs8]
  unfold scaleBlk G8
  have h0 : (y 0).val < 1 := (y 0).isLt
  refine congrArg (scM m c) (Fin.ext ?_)
  blk_simp [idx_all t, rowT]
  show 256 * t.val + (128 * (y 1).val + (y 2).val) = 256 * t.val + 128 * (y 1).val + (y 2).val
  omega

/-- The run, read: the three results at their values, the arguments unchanged. -/
theorem run : θ_run defs (onTc (τ := τ) (main (F := Ideal))) ⟨m, fun _ => 0, ρ⟩ (fun r => ∀ c : Dev nD,
      r.2.mem ((c.tc : Thread nD τ).loc main_v1_0) = G6 m c
      ∧ r.2.mem ((c.tc : Thread nD τ).loc main_v1_1) = G7 m c
      ∧ r.2.mem ((c.tc : Thread nD τ).loc main_v1_2) = G8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (final6 m c), (h c).2.1.trans (final7 m c), (h c).2.2.1.trans (final8 m c), (h c).2.2.2.2⟩)
    (Cert.OprojIdeal.Value.run_blocks m ρ)

end Cert.OprojIdeal.Hand

end
-- ==== Proof.Oproj.RefVal.lean ====
/- The plain `oproj` reference's three results, entry by entry: the hidden values, the codes and the scales. -/
module

public import proofs.«01_k».proof.Proof.Oproj.Spec
public import proofs.«01_k».proof.Proof.Gen.RefOprojIdeal.Value
public import Idealize.ShloMosaic.Lib.Pointwise

@[expose] public section

set_option maxRecDepth 16384

noncomputable section

namespace Cert.RefOprojIdeal.Hand

open Cert.RefOprojIdeal Cert.RefOprojIdeal.Gen
open Idealize.ShloMosaic Idealize.ShloMosaic.TcCoe
open Cert.UpIdeal.Hand (kindOf codeOf bits_bot bits_448 bits_neg448)
open Cert.OprojIdeal.Hand (hidS gS rootR axR scR cdR refAx_eq refCode_eq)

/-- The largest magnitude of each row of a block of entries, as the reference writes it. -/
def amaxR (v57 : FVec Ideal S2048x3584 .f32) : FVec Ideal S2048 .f32 :=
  multiReduction .maximumf [1] S2048 (absf v57) 0xFF800000#32 reduces_S2048x3584_S2048 (.inl rfl) rfl

/-- The sum of each row of a block of entries, as the reference writes it. -/
def sumR (v31 : FVec Ideal S2048x3584 .f32) : FVec Ideal S2048 .f32 :=
  multiReduction .add [1] S2048 v31 0x00000000#32 reduces_S2048x3584_S2048 (.inl rfl) rfl

/-- The scale of each row from its largest magnitude, as the reference writes it. -/
def scTail (v59 : FVec Ideal S2048 .f32) : FVec Ideal S2048 .f32 :=
  select (cmpf .oeq v59 (broadcast S2048 (Scalar.ofBits .f32 0x00000000#32))) (broadcast S2048 (Scalar.ofBits .f32 0x3F800000#32))
    (divf v59 (broadcast S2048 (Scalar.ofBits .f32 0x43E00000#32)))

theorem amaxR_apply (v : FVec Ideal S2048x3584 .f32) (R : Fin 2048) :
    amaxR v (ix1 R) = Finset.fold max ⊥ (fun n : Fin 3584 => max (v (ix2 R n)) (-v (ix2 R n))) Finset.univ := by
  refine (Ideal.multiReduction_maximumf_single (absf v) _ reduces_S2048x3584_S2048 (.inl rfl) rfl (ix1 R)).trans ?_
  have hb : (FloatOps.ofBits FTy.f32 (FKind.maximumf.neutral FTy.f32 (.inl rfl)) : Ideal .f32) = (⊥ : EReal) := bits_bot
  rw [hb]
  refine congrArg (fun f : Fin 3584 → EReal => Finset.fold max ⊥ f Finset.univ) (funext fun n => ?_)
  have hl : reduces_S2048x3584_S2048.lift (ix1 R) n = ix2 R n := by
    funext a; fin_cases a <;> rfl
  exact (congrArg (absf v) hl).trans rfl

theorem sumR_apply (v : FVec Ideal S2048x3584 .f32) (R : Fin 2048) :
    sumR v (ix1 R) = ∑ n : Fin 3584, v (ix2 R n) := by
  refine (Ideal.multiReduction_add_single v _ reduces_S2048x3584_S2048 (.inl rfl) rfl (ix1 R)).trans ?_
  refine Finset.sum_congr rfl fun n _ => ?_
  have hl : reduces_S2048x3584_S2048.lift (ix1 R) n = ix2 R n := by
    funext a; fin_cases a <;> rfl
  exact congrArg v hl

theorem scTail_apply (v : FVec Ideal S2048 .f32) (R : Fin 2048) :
    scTail v (ix1 R) = if v (ix1 R) = 0 then 1 else v (ix1 R) * ((1 / 448 : ℝ) : EReal) := by
  pointwise [scTail]
  rw [bits_448, Ideal.div_coe (by norm_num : (448 : ℝ) ≠ 0)]

/-- The codes from the normed entries and the scales, as the reference writes them. -/
def codeTail (v57 : FVec Ideal S2048x3584 .f32) (v65 : FVec Ideal S2048 .f32) : FVec Ideal S2048x3584 .fp8e4m3 :=
  truncf .fp8e4m3 (minimumf (broadcast S2048x3584 (Scalar.ofBits .f32 0x43E00000#32))
    (maximumf (broadcast S2048x3584 (Scalar.ofBits .f32 0xC3E00000#32))
      (divf v57 (broadcastTo S2048x3584 (shapeCast S2048x1 v65 shapeCasts_S2048_S2048x1) broadcasts_S2048x1_S2048x3584)))) bitsLt_fp8e4m3_f32

theorem codeTail_apply (v : FVec Ideal S2048x3584 .f32) (s : FVec Ideal S2048 .f32) (R : Fin 2048) (n : Fin 3584) :
    codeTail v s (ix2 R n) = codeOf (v (ix2 R n)) (s (ix1 R)) := by
  pointwise [codeTail]
  rw [bits_448, bits_neg448]
  rfl

theorem bits_3584 : (Ideal.ofBits .f32 0x45600000#32 : EReal) = ((3584 : ℝ) : EReal) := by
  simp [Ideal.ofBits, Ideal.ieee, -EReal.coe_mul]; norm_num

section
variable (c2 : Vec Ideal S2048x896 .fp8e4m3) (s2 : Vec Ideal S2048x1 .f32) (hs : Vec Ideal S2048x3584 .bf16) (w : Vec Ideal S2x896x3584 .fp8e4m3)
  (sw ln : Vec Ideal S2x3584 .f32)

/-- The reference's hidden values. -/
theorem pay1_apply (R : Fin 2048) (n : Fin 3584) :
    k0_pay1 hs c2 s2 (View.ld w r0_3) (View.ld sw r0_4) (View.ld w r0_5) (View.ld sw r0_6) (ix2 R n) = hidS c2 s2 hs w sw R n := by
  unfold hidS kindOf
  by_cases h : R.val < 256
  · rw [if_pos h]
    pointwise [k0_pay1]
    simp only [dif_pos h]
  · rw [if_neg h]
    have hR : ∀ hh, (⟨256 + (R.val - 256), hh⟩ : Fin 2048) = R := fun _ => Fin.ext (by show 256 + (R.val - 256) = R.val; omega)
    pointwise [k0_pay1]
    simp only [dif_neg h, hR]

theorem G6_apply (R : Fin 2048) (n : Fin 3584) : Value.G6 c2 s2 hs w sw ln (ix2 R n) = hidS c2 s2 hs w sw R n :=
  pay1_apply c2 s2 hs w sw R n

theorem pay7_eq : k0_pay7 c2 s2 hs w sw ln = Value.G6 c2 s2 hs w sw ln := by
  unfold k0_pay7
  rw [show View.ld hs r0_0 = hs from View.ld_unit_zero (by funext a; fin_cases a <;> rfl) _ _,
    show View.ld c2 r0_1 = c2 from View.ld_unit_zero (by funext a; fin_cases a <;> rfl) _ _,
    show View.ld s2 r0_2 = s2 from View.ld_unit_zero (by funext a; fin_cases a <;> rfl) _ _]

theorem meanTail_apply (v : FVec Ideal S2048 .f32) (R : Fin 2048) :
    (divf (shapeCast S2048x1 v shapeCasts_S2048_S2048x1) (broadcast S2048x1 (Scalar.ofBits .f32 0x45600000#32)) : FVec Ideal S2048x1 .f32) (ix2 R 0)
      = v (ix1 R) * ((1 / 3584 : ℝ) : EReal) := by
  pointwise []
  rw [bits_3584, Ideal.div_coe (by norm_num : (3584 : ℝ) ≠ 0)]

theorem pay8_apply (R : Fin 2048) :
    k0_pay8 c2 s2 hs w sw ln (ix2 R 0) = (∑ n : Fin 3584, hidS c2 s2 hs w sw R n * hidS c2 s2 hs w sw R n) * ((1 / 3584 : ℝ) : EReal) := by
  have e : k0_pay8 c2 s2 hs w sw ln = divf (shapeCast S2048x1 (sumR (mulf (k0_pay7 c2 s2 hs w sw ln) (k0_pay7 c2 s2 hs w sw ln))) shapeCasts_S2048_S2048x1)
      (broadcast S2048x1 (Scalar.ofBits .f32 0x45600000#32)) := rfl
  rw [e, meanTail_apply, sumR_apply, pay7_eq]
  refine congrArg (· * _) (Finset.sum_congr rfl fun n _ => ?_)
  rw [← G6_apply c2 s2 hs w sw ln R n]
  rfl

theorem slt_eq (R : Fin 2048) : IntOp.cmpi CmpIPredicate.slt (BitVec.ofNat 32 R.val) 256#32 = if R.val < 256 then 1#1 else 0#1 := by
  have h := (by decide +kernel : ∀ R : Fin 2048, IntOp.cmpi CmpIPredicate.slt (BitVec.ofNat 32 R.val) 256#32 = if R.val < 256 then 1#1 else 0#1)
  exact h R

/-- The normed entries, from the hidden values and the mean squares. -/
theorem pay3_apply (v : FVec Ideal S2048x3584 .f32) (q : FVec Ideal S2048x1 .f32) (e : Ideal .f32) (R : Fin 2048) (n : Fin 3584) :
    k0_pay3 v q e (View.ld ln r0_4) (View.ld ln r0_6) (ix2 R n) = Ideal.div (v (ix2 R n)) (Ideal.sqrt (q (ix2 R 0) + e)) * gS ln R n := by
  unfold gS kindOf
  by_cases h : R.val < 256
  · rw [if_pos h]
    pointwise [k0_pay3]
    rw [slt_eq, if_pos h]
    rfl
  · rw [if_neg h]
    pointwise [k0_pay3]
    rw [slt_eq, if_neg h]
    rfl

theorem pay4_eq (v : FVec Ideal S2048x3584 .f32) (q : FVec Ideal S2048x1 .f32) (e : Ideal .f32) (a b : Vec Ideal S1x3584 .f32) :
    k0_pay4 v q e a b = scTail (amaxR (k0_pay3 v q e a b)) := rfl

theorem eps_eq : (Scalar.ofBits .f32 0x358637BD#32 : Ideal .f32) = Cert.OprojIdeal.Hand.eps := rfl

theorem normed_apply (R : Fin 2048) (n : Fin 3584) :
    k0_pay3 (k0_pay7 c2 s2 hs w sw ln) (k0_pay8 c2 s2 hs w sw ln) (Scalar.ofBits .f32 0x358637BD#32) (View.ld ln r0_4) (View.ld ln r0_6) (ix2 R n)
      = Ideal.div (hidS c2 s2 hs w sw R n) (rootR (hidS c2 s2 hs w sw R)) * gS ln R n := by
  rw [pay3_apply, pay8_apply, pay7_eq, G6_apply]
  unfold rootR
  rw [eps_eq]

theorem scale_apply (R : Fin 2048) :
    k0_pay4 (k0_pay7 c2 s2 hs w sw ln) (k0_pay8 c2 s2 hs w sw ln) (Scalar.ofBits .f32 0x358637BD#32) (View.ld ln r0_4) (View.ld ln r0_6) (ix1 R)
      = scR (hidS c2 s2 hs w sw R) (gS ln R) := by
  rw [pay4_eq, scTail_apply, amaxR_apply]
  simp only [normed_apply]
  unfold scR
  rw [refAx_eq]

theorem pay5_eq (v : FVec Ideal S2048x3584 .f32) (q : FVec Ideal S2048x1 .f32) (e : Ideal .f32) (a b : Vec Ideal S1x3584 .f32) :
    k0_pay5 v q e a b = codeTail (k0_pay3 v q e a b) (k0_pay4 v q e a b) := rfl

theorem pay6_apply (v : FVec Ideal S2048x3584 .f32) (q : FVec Ideal S2048x1 .f32) (e : Ideal .f32) (u u' : Vec Ideal S1x3584 .f32) (a : Fin 8) (b : Fin 2) (l : Fin 128) :
    k0_pay6 v q e u u' (ix3 a b l) = k0_pay4 v q e u u' (ix1 (⟨256 * a.val + 128 * b.val + l.val, by omega⟩ : Fin 2048)) := by
  unfold k0_pay6
  generalize k0_pay4 v q e u u' = s
  pointwise []
  exact congrArg (fun i => s (ix1 i)) (Fin.ext (by show a.val * 256 + b.val * 128 + l.val = 256 * a.val + 128 * b.val + l.val; omega))

/-- The reference's codes. -/
theorem G7_apply (R : Fin 2048) (n : Fin 3584) : Value.G7 c2 s2 hs w sw ln (ix2 R n) = cdR (hidS c2 s2 hs w sw R) (gS ln R) n := by
  unfold Value.G7
  rw [pay5_eq, codeTail_apply, scale_apply, normed_apply, refCode_eq]

/-- The reference's scales. -/
theorem G8_apply (a : Fin 8) (b : Fin 2) (l : Fin 128) :
    Value.G8 c2 s2 hs w sw ln (ix3 a b l) = scR (hidS c2 s2 hs w sw ⟨256 * a.val + 128 * b.val + l.val, by omega⟩) (gS ln ⟨256 * a.val + 128 * b.val + l.val, by omega⟩) := by
  unfold Value.G8
  rw [pay6_apply, scale_apply]
end

end Cert.RefOprojIdeal.Hand

end
-- ==== Proof.Oproj.Equal.lean ====
/- The tiled `oproj` kernel and its plain reference leave the same results. -/
module

public import proofs.«01_k».proof.Proof.Oproj.Final
public import proofs.«01_k».proof.Proof.Oproj.RefVal

@[expose] public section

noncomputable section

namespace Cert.OprojIdeal.Hand

open Cert.OprojIdeal Cert.OprojIdeal.Gen
open Idealize.ShloMosaic Idealize.ShloMosaic.TcCoe

variable (m : (ℓ : Loc nD τ sig) → Buf (Elt Ideal) ℓ)

/-- The hidden values agree, -/
theorem hidden_eq (c : Dev nD) :
    Cert.RefOprojIdeal.Value.G6 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) = G6 m c := by
  funext y
  have hy : y = ix2 (y 0) (y 1) := by funext a; fin_cases a <;> rfl
  rw [hy]
  exact Cert.RefOprojIdeal.Hand.G6_apply _ _ _ _ _ _ (y 0) (y 1)

/-- the codes agree, -/
theorem codes_eq (c : Dev nD) :
    Cert.RefOprojIdeal.Value.G7 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) = G7 m c := by
  funext y
  have hy : y = ix2 (y 0) (y 1) := by funext a; fin_cases a <;> rfl
  rw [hy]
  exact Cert.RefOprojIdeal.Hand.G7_apply _ _ _ _ _ _ (y 0) (y 1)

/-- and the scales agree. -/
theorem scales_eq (c : Dev nD) :
    Cert.RefOprojIdeal.Value.G8 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) = G8 m c := by
  funext y
  have hy : y = ix3 (y 0) (y 1) (y 2) := by funext a; fin_cases a <;> rfl
  rw [hy]
  exact Cert.RefOprojIdeal.Hand.G8_apply _ _ _ _ _ _ (y 0) (y 1) (y 2)

end Cert.OprojIdeal.Hand

end
-- ==== Proof.lean ====
module

public import proofs.«01_k».proof.Defs
public import proofs.«01_k».proof.Proof.Gen.Oproj
public import proofs.«01_k».proof.Proof.Gen.Oproj.Frame
public import proofs.«01_k».proof.Proof.Gen.OprojIdeal
public import proofs.«01_k».proof.Proof.Gen.OprojIdeal.Frame
public import proofs.«01_k».proof.Proof.Gen.OprojIdeal.Value
public import proofs.«01_k».proof.Proof.Gen.RefOprojIdeal
public import proofs.«01_k».proof.Proof.Gen.RefOprojIdeal.Frame
public import proofs.«01_k».proof.Proof.Gen.RefOprojIdeal.Value
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.RefUpIdeal
public import proofs.«01_k».proof.Proof.Gen.RefUpIdeal.Skeleton
public import proofs.«01_k».proof.Proof.Gen.RefUpIdeal.Launch
public import proofs.«01_k».proof.Proof.Gen.RefUpIdeal.Points
public import proofs.«01_k».proof.Proof.Gen.RefUpIdeal.Frame
public import proofs.«01_k».proof.Proof.Gen.RefUpIdeal.Value
public import proofs.«01_k».proof.Proof.UpBits.Frame
public import proofs.«01_k».proof.Proof.Up.Equal
public import proofs.«01_k».proof.Proof.Oproj.Equal
public import Idealize.ShloMosaic.Adequacy
public import Idealize.ShloMosaic.Init

@[expose] public section

noncomputable section

namespace Cert.Proof

open Idealize.ShloMosaic Idealize.SL.Sem Cert.Up

/-- Over the extended reals the tiled kernel and the plain reference leave equal codes and equal scales. -/
theorem algebraic_up : @Cert.algebraic_UpIdeal_RefUpIdeal Cert.UpIdeal.Gen.facts Cert.RefUpIdeal.Gen.facts := by
  intro m g m' g' _ hargs
  refine ⟨fun c => Cert.UpIdeal.Hand.G8 m c, fun c => Cert.UpIdeal.Hand.G9 m c, Cert.UpIdeal.Hand.run m g, ?_⟩
  refine (θ_run _ _ _).mono (fun r h c => ?_) (Cert.RefUpIdeal.Value.run m' g')
  obtain ⟨h0, h1, h2, h3⟩ := hargs c
  obtain ⟨k0, k1, k⟩ := h c
  rw [h0, h1, h2, h3] at k0 k1
  exact ⟨k0.trans (Cert.UpIdeal.Hand.codes_eq m c), k1.trans (Cert.UpIdeal.Hand.scales_eq m c), k⟩

/-- Over the extended reals the tiled kernel and the plain reference leave equal hidden values, codes and scales. -/
theorem algebraic_oproj : @Cert.algebraic_OprojIdeal_RefOprojIdeal Cert.OprojIdeal.Gen.facts Cert.RefOprojIdeal.Gen.facts := by
  intro m g m' g' _ hargs
  refine ⟨fun c => Cert.OprojIdeal.Hand.G6 m c, fun c => Cert.OprojIdeal.Hand.G7 m c, fun c => Cert.OprojIdeal.Hand.G8 m c, Cert.OprojIdeal.Hand.run m g, ?_⟩
  refine (θ_run _ _ _).mono (fun r h c => ?_) (Cert.RefOprojIdeal.Value.run m' g')
  obtain ⟨h0, h1, h2, h3, h4, h5⟩ := hargs c
  obtain ⟨k0, k1, k2, k⟩ := h c
  rw [h0, h1, h2, h3, h4, h5] at k0 k1 k2
  exact ⟨k0.trans (Cert.OprojIdeal.Hand.hidden_eq m c), k1.trans (Cert.OprojIdeal.Hand.codes_eq m c), k2.trans (Cert.OprojIdeal.Hand.scales_eq m c), k⟩

theorem claim : Cert.Claim := ⟨Cert.Up.Gen.facts, Cert.UpIdeal.Gen.facts, Cert.RefUpIdeal.Gen.facts,
  Cert.Oproj.Gen.facts, Cert.OprojIdeal.Gen.facts, Cert.RefOprojIdeal.Gen.facts,
  fun m ρ _ => Cert.Up.Hand.frame m ρ,
  fun m ρ _ => Cert.UpIdeal.Hand.frame m ρ,
  fun m ρ _ => Cert.RefUpIdeal.Gen.frame m ρ,
  fun m ρ _ => Cert.Oproj.Gen.frame m ρ,
  fun m ρ _ => Cert.OprojIdeal.Gen.frame m ρ,
  fun m ρ _ => Cert.RefOprojIdeal.Gen.frame m ρ,
  IdealRules.named_const.statement Cert.UpIdeal.κ "inv_fp8_max" .f32 0x3B124925#32 ((1 / 448 : ℝ) : EReal) rfl,
  algebraic_up,
  ⟨IdealRules.named_const.statement Cert.OprojIdeal.κ "inv_d" .f32 0x39924925#32 ((1 / 3584 : ℝ) : EReal) rfl,
    IdealRules.named_const.statement Cert.OprojIdeal.κ "inv_fp8_max" .f32 0x3B124925#32 ((1 / 448 : ℝ) : EReal) rfl⟩,
  algebraic_oproj⟩

end Cert.Proof

end
